-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_decays [hPre_finite_decays : Cert.Pre_finite_decays.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_decays.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_decays [hPre_finite_decays : Cert.Pre_finite_decays.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_decays.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite_decays [hKernel3Ideal : Cert.Kernel3Ideal.Facts] [hPre_finite_decays : Cert.Pre_finite_decays.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_decays m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite_decays [hReference3Ideal : Cert.Reference3Ideal.Facts] [hPre_finite_decays : Cert.Pre_finite_decays.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_decays m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "exp_zero" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  IdealRules.named_const.Statement Cert.Kernel3Ideal.κ "exp_zero" .f32 0xC2D20000#32 ⊥

def algebraic_Kernel3Ideal_Reference3Ideal_pre_finite_decays [hKernel3Ideal : Cert.Kernel3Ideal.Facts] [hReference3Ideal : Cert.Reference3Ideal.Facts] [hPre_finite_decays : Cert.Pre_finite_decays.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_decays m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)) (v3 : (c : Dev Cert.Kernel4Ideal.nD) → Buf (Elt Ideal) ((c.tc : Thread Cert.Kernel4Ideal.nD Cert.Kernel4Ideal.τ).loc Cert.Kernel4Ideal.main_v11_3)) (v4 : (c : Dev Cert.Kernel4Ideal.nD) → Buf (Elt Ideal) ((c.tc : Thread Cert.Kernel4Ideal.nD Cert.Kernel4Ideal.τ).loc Cert.Kernel4Ideal.main_v11_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_v11_3) = v3 c
          ∧ r.2.mem ((c.tc : Thread Cert.Kernel4Ideal.nD Cert.Kernel4Ideal.τ).loc Cert.Kernel4Ideal.main_v11_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v36) = v3 c
          ∧ r.2.mem ((c.tc : Thread Cert.Reference4Ideal.nD Cert.Reference4Ideal.τ).loc Cert.Reference4Ideal.main_v37) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_decays : Cert.Pre_finite_decays.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_decays (hKernel3Ideal := hKernel3Ideal) (hPre_finite_decays := hPre_finite_decays)
    ∧ quiescent_Reference3Ideal (hReference3Ideal := hReference3Ideal)
    ∧ quiescent_Reference3Ideal_pre_finite_decays (hReference3Ideal := hReference3Ideal) (hPre_finite_decays := hPre_finite_decays)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_decays (hKernel3Ideal := hKernel3Ideal) (hReference3Ideal := hReference3Ideal) (hPre_finite_decays := hPre_finite_decays)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_decays.lean ====
abbrev S16384x2960 : Shape := ⟨2, ![16384, 2960]⟩
abbrev S4x16384 : Shape := ⟨2, ![4, 16384]⟩
abbrev S_ : Shape := ⟨0, ![]⟩

class Facts : Prop where
  bcast_S_S4x16384 : S_.BroadcastsInDim S4x16384 (![] : Fin 0 → Fin S4x16384.rank)
  reducesTo_S4x16384_S_d0_1 : S4x16384.ReducesTo [0, 1] S_
  h_S_ : 0 < S_.numel

variable [Facts]

def fn {F : FTy → Type} [FloatOps F] (main_arg0 : FVec F S16384x2960 .f32) (main_arg1 : FVec F S4x16384 .f32) : IVec S_ 1 :=
  let main_v0 : FVec F S4x16384 .f32 := Host.absf main_arg1
  let main_cst : FVec F S_ .f32 := constant S_ .f32 0x7F800000#32
  let main_v1 : FVec F S4x16384 .f32 := broadcastInDim S4x16384 ![] bcast_S_S4x16384 main_cst
  let main_v2 : IVec S4x16384 1 := cmpf .olt main_v0 main_v1
  let main_c : IVec S_ 1 := constantI S_ 1 1#1
  let main_v3 : IVec S_ 1 := (fun x v => Host.reduce IntOp.andi x v reducesTo_S4x16384_S_d0_1 h_S_) main_v2 main_c
  main_v3
-- ==== Kernel.lean ====
abbrev S16384x2960 : Shape := ⟨2, ![16384, 2960]⟩
abbrev S16384x256 : Shape := ⟨2, ![16384, 256]⟩
abbrev S16384x64 : Shape := ⟨2, ![16384, 64]⟩
abbrev S16384x12 : Shape := ⟨2, ![16384, 12]⟩
abbrev S16384x4 : Shape := ⟨2, ![16384, 4]⟩
abbrev S_ : Shape := ⟨0, ![]⟩
abbrev S16384x2944 : Shape := ⟨2, ![16384, 2944]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x128 : Shape := ⟨2, ![512, 128]⟩
abbrev S16384x128 : Shape := ⟨2, ![16384, 128]⟩
abbrev S512x256 : Shape := ⟨2, ![512, 256]⟩
abbrev S512x1 : Shape := ⟨2, ![512, 1]⟩
abbrev S256x128 : Shape := ⟨2, ![256, 128]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 47
  | .vmem => 9
  | .smem => 0
  | _ => 0

abbrev bufTy : (tb : Table) → Fin (tcTables nBuf tb) → BufTy
  | .hbm, ⟨0, _⟩ => ⟨S16384x2960, .f32⟩
  | .hbm, ⟨1, _⟩ => ⟨S16384x256, .f32⟩
  | .hbm, ⟨2, _⟩ => ⟨S16384x64, .f32⟩
  | .hbm, ⟨3, _⟩ => ⟨S16384x64, .f32⟩
  | .hbm, ⟨4, _⟩ => ⟨S16384x64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S16384x12, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x4, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S_, .f32⟩
  | .hbm, ⟨20, _⟩ => ⟨S16384x256, .f32⟩
  | .hbm, ⟨21, _⟩ => ⟨S16384x256, .f32⟩
  | .hbm, ⟨22, _⟩ => ⟨S_, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .f32⟩
  | .hbm, ⟨28, _⟩ => ⟨S_, .f32⟩
  | .hbm, ⟨29, _⟩ => ⟨S16384x256, .f32⟩
  | .hbm, ⟨30, _⟩ => ⟨S16384x256, .f32⟩
  | .hbm, ⟨31, _⟩ => ⟨S16384x2944, .f32⟩
  | .hbm, ⟨32, _⟩ => ⟨S16384x2944, .bf16⟩
  | .hbm, ⟨33, _⟩ => ⟨S256, .i32⟩
  | .hbm, ⟨34, _⟩ => ⟨S256x1, .i32⟩
  | .hbm, ⟨35, _⟩ => ⟨S256, .i32⟩
  | .hbm, ⟨36, _⟩ => ⟨S1x256, .i32⟩
  | .hbm, ⟨37, _⟩ => ⟨S256x256, .i32⟩
  | .hbm, ⟨38, _⟩ => ⟨S256x256, .i32⟩
  | .hbm, ⟨39, _⟩ => ⟨S256x256, .i1⟩
  | .hbm, ⟨40, _⟩ => ⟨S_, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256x256, .bf16⟩
  | .hbm, ⟨46, _⟩ => ⟨S16384x256, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x256, .bf16⟩
  | .local _ .vmem, ⟨7, _⟩ => ⟨S512x128, .f32⟩
  | .local _ .vmem, ⟨8, _⟩ => ⟨S512x128, .f32⟩
  | _, _ => ⟨S16384x2960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_cst : Ref sig .tc := ⟨.hbm, 19, rfl⟩
abbrev main_v18 : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_cst_2 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_3 : Ref sig .tc := ⟨.hbm, 40, rfl⟩
abbrev main_v35 : Ref sig .tc := ⟨.hbm, 41, rfl⟩
abbrev main_cst_4 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c2_i32 : BitVec 32 := 2#32
  let v18 : BitVec 32 := Scalar.muli arg1 c2_i32
  let c1_i32 : BitVec 32 := 1#32
  let v19 : BitVec 32 := Scalar.addi v18 c1_i32
  let c256_i32 : BitVec 32 := 256#32
  let v20 : BitVec 32 := Scalar.muli v19 c256_i32
  v20
def k0_off1 (i : grid0.Coords) (c1_i32 : BitVec 32) : Fin 2 → Nat :=
  let arg1 : BitVec 32 := BitVec.ofNat 32 (i 1).val
  let c2_i32 : BitVec 32 := 2#32
  let v18 : BitVec 32 := Scalar.muli arg1 c2_i32
  let v19 : BitVec 32 := Scalar.addi v18 c1_i32
  let c256_i32 : BitVec 32 := 256#32
  let v20 : BitVec 32 := Scalar.muli v19 c256_i32
  let v21 : BitVec 32 := v20
  let v22 : Index := Scalar.indexCast v21
  let c0_7 : Index := 0#32
  ![v22.toNat, 0]
def k0_mult2 (i : grid0.Coords) : BitVec 32 :=
  let arg1 : BitVec 32 := BitVec.ofNat 32 (i 1).val
  let c2_i32_34 : BitVec 32 := 2#32
  let v111 : BitVec 32 := Scalar.muli arg1 c2_i32_34
  let c0_i32 : BitVec 32 := 0#32
  let v112 : BitVec 32 := Scalar.addi v111 c0_i32
  let c256_i32_35 : BitVec 32 := 256#32
  let v113 : BitVec 32 := Scalar.muli v112 c256_i32_35
  v113
def k0_mult3 (arg7 : BitVec 32) : BitVec 32 :=
  let c256_i32_82 : BitVec 32 := 256#32
  let v259 : BitVec 32 := Scalar.muli arg7 c256_i32_82
  v259

def k0_off2 (arg7 : BitVec 32) : Fin 2 → Nat :=
  let c256_i32_82 : BitVec 32 := 256#32
  let v259 : BitVec 32 := Scalar.muli arg7 c256_i32_82
  let v260 : BitVec 32 := v259
  let v261 : Index := Scalar.indexCast v260
  let c0_83 : Index := 0#32
  ![v261.toNat, 0]

def k0_chk1 (arg7 : BitVec 32) : Prop :=
  (256 ∣ (k0_mult3 arg7).toNat) ∧
  (∀ a, (k0_off2 arg7) a + S256x128.size a ≤ S16384x128.size a)
theorem k0_mult3_dvd : ∀ (arg7 : BitVec 32) (k0_hw1 : k0_chk1 arg7), 256 ∣ (k0_mult3 arg7).toNat := fun arg7 k0_hw1 => k0_hw1.1
theorem k0_off2_inb : ∀ (arg7 : BitVec 32) (k0_hw1 : k0_chk1 arg7), ∀ a, (k0_off2 arg7) a + S256x128.size a ≤ S16384x128.size a := fun arg7 k0_hw1 => k0_hw1.2

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "exp_zero" => some ⊥
  | _ => none
-- ==== ReferenceIdeal.lean ====
abbrev S16384x2960 : Shape := ⟨2, ![16384, 2960]⟩
abbrev S16384x256 : Shape := ⟨2, ![16384, 256]⟩
abbrev S16384x64 : Shape := ⟨2, ![16384, 64]⟩
abbrev S16384x12 : Shape := ⟨2, ![16384, 12]⟩
abbrev S16384x4 : Shape := ⟨2, ![16384, 4]⟩
abbrev S16384x4x64 : Shape := ⟨3, ![16384, 4, 64]⟩
abbrev S4x16384x64 : Shape := ⟨3, ![4, 16384, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x4x1 : Shape := ⟨3, ![16384, 4, 1]⟩

abbrev nBuf : Space → Nat
  | .hbm => 100
  | .vmem => 0
  | .smem => 0
  | _ => 0

abbrev bufTy : (tb : Table) → Fin (tcTables nBuf tb) → BufTy
  | .hbm, ⟨0, _⟩ => ⟨S16384x2960, .f32⟩
  | .hbm, ⟨1, _⟩ => ⟨S16384x256, .f32⟩
  | .hbm, ⟨2, _⟩ => ⟨S16384x64, .f32⟩
  | .hbm, ⟨3, _⟩ => ⟨S16384x64, .f32⟩
  | .hbm, ⟨4, _⟩ => ⟨S16384x64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S16384x12, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x4, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x4x64, .f32⟩
  | .hbm, ⟨20, _⟩ => ⟨S4x16384x64, .f32⟩
  | .hbm, ⟨21, _⟩ => ⟨S16384x4x64, .f32⟩
  | .hbm, ⟨22, _⟩ => ⟨S4x16384x64, .f32⟩
  | .hbm, ⟨23, _⟩ => ⟨S16384x4x64, .f32⟩
  | .hbm, ⟨24, _⟩ => ⟨S4x16384x64, .f32⟩
  | .hbm, ⟨25, _⟩ => ⟨S4x16384x16384, .f32⟩
  | .hbm, ⟨26, _⟩ => ⟨S_, .f32⟩
  | .hbm, ⟨27, _⟩ => ⟨S4x16384x16384, .f32⟩
  | .hbm, ⟨28, _⟩ => ⟨S4x16384x16384, .f32⟩
  | .hbm, ⟨29, _⟩ => ⟨S16384, .i32⟩
  | .hbm, ⟨30, _⟩ => ⟨S1x16384, .i32⟩
  | .hbm, ⟨31, _⟩ => ⟨S16384x1, .i32⟩
  | .hbm, ⟨32, _⟩ => ⟨S16384x16384, .i32⟩
  | .hbm, ⟨33, _⟩ => ⟨S16384x16384, .i32⟩
  | .hbm, ⟨34, _⟩ => ⟨S16384x16384, .i1⟩
  | .hbm, ⟨35, _⟩ => ⟨S4x16384x16384, .f32⟩
  | .hbm, ⟨36, _⟩ => ⟨S4x16384x16384, .f32⟩
  | .hbm, ⟨37, _⟩ => ⟨S_, .f32⟩
  | .hbm, ⟨38, _⟩ => ⟨S4x16384x16384, .f32⟩
  | .hbm, ⟨39, _⟩ => ⟨S4x16384x16384, .f32⟩
  | .hbm, ⟨40, _⟩ => ⟨S4x16384x16384, .f32⟩
  | .hbm, ⟨41, _⟩ => ⟨S4x16384x16384, .f32⟩
  | .hbm, ⟨42, _⟩ => ⟨S4x16384x16384, .i1⟩
  | .hbm, ⟨43, _⟩ => ⟨S4x16384x16384, .f32⟩
  | .hbm, ⟨44, _⟩ => ⟨S4x16384x16384, .f32⟩
  | .hbm, ⟨45, _⟩ => ⟨S4x16384x16384, .f32⟩
  | .hbm, ⟨46, _⟩ => ⟨S4x16384x16384, .f32⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S4x16384x16384, .f32⟩
  | .hbm, ⟨51, _⟩ => ⟨S4x16384x16384, .f32⟩
  | .hbm, ⟨52, _⟩ => ⟨S_, .f32⟩
  | .hbm, ⟨53, _⟩ => ⟨S_, .f32⟩
  | .hbm, ⟨54, _⟩ => ⟨S4x16384x16384, .i1⟩
  | .hbm, ⟨55, _⟩ => ⟨S4x16384x16384, .f32⟩
  | .hbm, ⟨56, _⟩ => ⟨S4x16384x16384, .f32⟩
  | .hbm, ⟨57, _⟩ => ⟨S_, .f32⟩
  | .hbm, ⟨58, _⟩ => ⟨S_, .f32⟩
  | .hbm, ⟨59, _⟩ => ⟨S4x16384x16384, .f32⟩
  | .hbm, ⟨60, _⟩ => ⟨S4x16384x16384, .f32⟩
  | .hbm, ⟨61, _⟩ => ⟨S4x16384x16384, .f32⟩
  | .hbm, ⟨62, _⟩ => ⟨S_, .f32⟩
  | .hbm, ⟨63, _⟩ => ⟨S4x16384x16384, .f32⟩
  | .hbm, ⟨64, _⟩ => ⟨S4x16384x16384, .f32⟩
  | .hbm, ⟨65, _⟩ => ⟨S4x16384x16384, .f32⟩
  | .hbm, ⟨66, _⟩ => ⟨S4x16384x16384, .f32⟩
  | .hbm, ⟨67, _⟩ => ⟨S4x16384x16384, .i1⟩
  | .hbm, ⟨68, _⟩ => ⟨S4x16384x16384, .f32⟩
  | .hbm, ⟨69, _⟩ => ⟨S4x16384x16384, .f32⟩
  | .hbm, ⟨70, _⟩ => ⟨S4x16384x16384, .f32⟩
  | .hbm, ⟨71, _⟩ => ⟨S4x16384x16384, .f32⟩
  | .hbm, ⟨72, _⟩ => ⟨S4x16384x16384, .f32⟩
  | .hbm, ⟨73, _⟩ => ⟨S4x16384x16384, .f32⟩
  | .hbm, ⟨74, _⟩ => ⟨S4x16384x16384, .f32⟩
  | .hbm, ⟨75, _⟩ => ⟨S4x16384x16384, .f32⟩
  | .hbm, ⟨76, _⟩ => ⟨S4x16384x16384, .f32⟩
  | .hbm, ⟨77, _⟩ => ⟨S4x16384x16384, .f32⟩
  | .hbm, ⟨78, _⟩ => ⟨S4x16384x16384, .f32⟩
  | .hbm, ⟨79, _⟩ => ⟨S_, .f32⟩
  | .hbm, ⟨80, _⟩ => ⟨S_, .f32⟩
  | .hbm, ⟨81, _⟩ => ⟨S4x16384x16384, .i1⟩
  | .hbm, ⟨82, _⟩ => ⟨S4x16384x16384, .f32⟩
  | .hbm, ⟨83, _⟩ => ⟨S4x16384x16384, .f32⟩
  | .hbm, ⟨84, _⟩ => ⟨S4x16384x64, .f32⟩
  | .hbm, ⟨85, _⟩ => ⟨S16384x4x64, .f32⟩
  | .hbm, ⟨86, _⟩ => ⟨S16384x4x64, .f32⟩
  | .hbm, ⟨87, _⟩ => ⟨S_, .f32⟩
  | .hbm, ⟨88, _⟩ => ⟨S16384x4, .f32⟩
  | .hbm, ⟨89, _⟩ => ⟨S16384x4x1, .f32⟩
  | .hbm, ⟨90, _⟩ => ⟨S_, .f32⟩
  | .hbm, ⟨91, _⟩ => ⟨S16384x4x1, .f32⟩
  | .hbm, ⟨92, _⟩ => ⟨S16384x4x1, .f32⟩
  | .hbm, ⟨93, _⟩ => ⟨S_, .f32⟩
  | .hbm, ⟨94, _⟩ => ⟨S16384x4x1, .f32⟩
  | .hbm, ⟨95, _⟩ => ⟨S16384x4x1, .f32⟩
  | .hbm, ⟨96, _⟩ => ⟨S16384x4x1, .f32⟩
  | .hbm, ⟨97, _⟩ => ⟨S16384x4x64, .f32⟩
  | .hbm, ⟨98, _⟩ => ⟨S16384x4x64, .f32⟩
  | .hbm, ⟨99, _⟩ => ⟨S16384x256, .f32⟩
  | _, _ => ⟨S16384x2960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_cst : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v34 : Ref sig .tc := ⟨.hbm, 51, rfl⟩
abbrev main_cst_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_call3_v0 : Ref sig .tc := ⟨.hbm, 61, rfl⟩
abbrev main_call3_call0_cst : Ref sig .tc := ⟨.hbm, 62, rfl⟩
abbrev main_call3_call0_v0 : Ref sig .tc := ⟨.hbm, 63, rfl⟩
abbrev main_call3_call0_v1 : Ref sig .tc := ⟨.hbm, 64, rfl⟩
abbrev main_call3_call0_v2 : Ref sig .tc := ⟨.hbm, 65, rfl⟩
abbrev main_call3_call0_v3 : Ref sig .tc := ⟨.hbm, 66, rfl⟩
abbrev main_call3_call0_v4 : Ref sig .tc := ⟨.hbm, 67, rfl⟩
abbrev main_call3_call0_v5 : Ref sig .tc := ⟨.hbm, 68, rfl⟩
abbrev main_call3_call0_v6 : Ref sig .tc := ⟨.hbm, 69, rfl⟩
abbrev main_call3_call0_v7 : Ref sig .tc := ⟨.hbm, 70, rfl⟩
abbrev main_call3_call0_v8 : Ref sig .tc := ⟨.hbm, 71, rfl⟩
abbrev main_call3_call0_v9 : Ref sig .tc := ⟨.hbm, 72, rfl⟩
abbrev main_call3_call0_v10 : Ref sig .tc := ⟨.hbm, 73, rfl⟩
abbrev main_call3_call0_v11 : Ref sig .tc := ⟨.hbm, 74, rfl⟩
abbrev main_call3_v1 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_1 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_2 : Ref sig .tc := ⟨.hbm, 87, rfl⟩
abbrev main_v45 : Ref sig .tc := ⟨.hbm, 88, rfl⟩
abbrev main_v46 : Ref sig .tc := ⟨.hbm, 89, rfl⟩
abbrev main_cst_3 : Ref sig .tc := ⟨.hbm, 90, rfl⟩
abbrev main_v47 : Ref sig .tc := ⟨.hbm, 91, rfl⟩
abbrev main_v48 : Ref sig .tc := ⟨.hbm, 92, rfl⟩
abbrev main_cst_4 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 27
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S256x1024, .f32⟩
  | .hbm, ⟨15, _⟩ => ⟨S1024, .f32⟩
  | .hbm, ⟨16, _⟩ => ⟨S1x1024, .f32⟩
  | .hbm, ⟨17, _⟩ => ⟨S1024x1024, .bf16⟩
  | .hbm, ⟨18, _⟩ => ⟨S1x1024, .f32⟩
  | .hbm, ⟨19, _⟩ => ⟨S1024x4096, .bf16⟩
  | .hbm, ⟨20, _⟩ => ⟨S4096x1024, .bf16⟩
  | .hbm, ⟨21, _⟩ => ⟨S1x1024, .f32⟩
  | .hbm, ⟨22, _⟩ => ⟨S1024x1024, .bf16⟩
  | .hbm, ⟨23, _⟩ => ⟨S1x1024, .f32⟩
  | .hbm, ⟨24, _⟩ => ⟨S256x1024, .bf16⟩
  | .hbm, ⟨25, _⟩ => ⟨S1x1024, .f32⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x4096, .bf16⟩
  | .local _ .vmem, ⟨16, _⟩ => ⟨S4096x1024, .bf16⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S256x1024, .bf16⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S256x1024, .f32⟩
  | .hbm, ⟨15, _⟩ => ⟨S1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x4096, .f32⟩
  | .hbm, ⟨39, _⟩ => ⟨S_, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S1x1024, .f32⟩
  | .hbm, ⟨90, _⟩ => ⟨S16384x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]
-- ==== Kernel3.lean ====
abbrev S16384x2960 : Shape := ⟨2, ![16384, 2960]⟩
abbrev S4x16384 : Shape := ⟨2, ![4, 16384]⟩
abbrev S16384x256 : Shape := ⟨2, ![16384, 256]⟩
abbrev S16384x64 : Shape := ⟨2, ![16384, 64]⟩
abbrev S16384x12 : Shape := ⟨2, ![16384, 12]⟩
abbrev S16384x4 : Shape := ⟨2, ![16384, 4]⟩
abbrev S_ : Shape := ⟨0, ![]⟩
abbrev S16384x2944 : Shape := ⟨2, ![16384, 2944]⟩
abbrev S2x2x16384 : Shape := ⟨3, ![2, 2, 16384]⟩
abbrev S512x128 : Shape := ⟨2, ![512, 128]⟩
abbrev S16384x128 : Shape := ⟨2, ![16384, 128]⟩
abbrev S1x2x16384 : Shape := ⟨3, ![1, 2, 16384]⟩
abbrev S8x128 : Shape := ⟨2, ![8, 128]⟩
abbrev S1024x128 : Shape := ⟨2, ![1024, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S1x512x1 : Shape := ⟨3, ![1, 512, 1]⟩
abbrev S1x1x1 : Shape := ⟨3, ![1, 1, 1]⟩

abbrev nBuf : Space → Nat
  | .hbm => 36
  | .vmem => 11
  | .smem => 0
  | _ => 0

abbrev bufTy : (tb : Table) → Fin (tcTables nBuf tb) → BufTy
  | .hbm, ⟨0, _⟩ => ⟨S16384x2960, .f32⟩
  | .hbm, ⟨1, _⟩ => ⟨S4x16384, .f32⟩
  | .hbm, ⟨2, _⟩ => ⟨S16384x256, .f32⟩
  | .hbm, ⟨3, _⟩ => ⟨S16384x64, .f32⟩
  | .hbm, ⟨4, _⟩ => ⟨S16384x64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S16384x64, .f32⟩
  | .hbm, ⟨9, _⟩ => ⟨S16384x12, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x4, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S_, .f32⟩
  | .hbm, ⟨21, _⟩ => ⟨S16384x256, .f32⟩
  | .hbm, ⟨22, _⟩ => ⟨S16384x256, .f32⟩
  | .hbm, ⟨23, _⟩ => ⟨S_, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x2944, .f32⟩
  | .hbm, ⟨33, _⟩ => ⟨S16384x2944, .bf16⟩
  | .hbm, ⟨34, _⟩ => ⟨S2x2x16384, .f32⟩
  | .hbm, ⟨35, _⟩ => ⟨S16384x256, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1x2x16384, .f32⟩
  | .local _ .vmem, ⟨7, _⟩ => ⟨S1x2x16384, .f32⟩
  | .local _ .vmem, ⟨8, _⟩ => ⟨S512x128, .f32⟩
  | .local _ .vmem, ⟨9, _⟩ => ⟨S512x128, .f32⟩
  | .local _ .vmem, ⟨10, _⟩ => ⟨S8x128, .f32⟩
  | _, _ => ⟨S16384x2960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32_5 : BitVec 32 := 0#32
  let v18 : BitVec 1 := Scalar.cmpi .eq arg1 c0_i32_5
  let v19 : BitVec 32 := Scalar.extui v18
  let c0_i32_6 : BitVec 32 := 0#32
  let v20 : BitVec 1 := Scalar.cmpi .ne v19 c0_i32_6
  v20

@[reducible] def k0_t1_loop : Scf.Loop 32 :=
  let c0_i32_57 : BitVec 32 := 0#32
  let c16_i32 : BitVec 32 := 16#32
  let v189 : BitVec 32 := Scalar.addi c0_i32_57 c16_i32
  let c1_i32_58 : BitVec 32 := 1#32
  ⟨c0_i32_57, v189, c1_i32_58⟩
def k0_mult1 (k0_t1 : Fin k0_t1_loop.trips) : BitVec 32 :=
  let c0_i32_57 : BitVec 32 := 0#32
  let c1_i32_58 : BitVec 32 := 1#32
  let arg8 : BitVec 32 := Scf.iv c0_i32_57 c1_i32_58 k0_t1
  let c1024_i32 : BitVec 32 := 1024#32
  let v203 : BitVec 32 := Scalar.muli arg8 c1024_i32
  v203
def k0_off1 (k0_t1 : Fin k0_t1_loop.trips) : Fin 2 → Nat :=
  let c0_i32_57 : BitVec 32 := 0#32
  let c1_i32_58 : BitVec 32 := 1#32
  let arg8 : BitVec 32 := Scf.iv c0_i32_57 c1_i32_58 k0_t1
  let c1024_i32 : BitVec 32 := 1024#32
  let v203 : BitVec 32 := Scalar.muli arg8 c1024_i32
  let v204 : BitVec 32 := v203
  let v205 : Index := Scalar.indexCast v204
  let c0_64 : Index := 0#32
  ![v205.toNat, 0]
def k0_mult2 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_20 : BitVec 32 := 512#32
  let v59 : BitVec 32 := Scalar.muli v17 c512_i32_20
  v59
def k0_off2 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_20 : BitVec 32 := 512#32
  let v59 : BitVec 32 := Scalar.muli v17 c512_i32_20
  let v60 : BitVec 32 := v59
  let v61 : Index := Scalar.indexCast v60
  let c0_21 : Index := 0#32
  ![v61.toNat, 0]
def k0_off3 (i : grid0.Coords) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_20 : BitVec 32 := 512#32
  let v59 : BitVec 32 := Scalar.muli v17 c512_i32_20
  let v60 : BitVec 32 := v59
  let v67 : Index := Scalar.indexCast v60
  ![0, 0, v67.toNat]
def k0_off4 (i : grid0.Coords) : Fin 3 → Nat :=
  let c0_31 : Index := 0#32
  let c1_32 : Index := 1#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_20 : BitVec 32 := 512#32
  let v59 : BitVec 32 := Scalar.muli v17 c512_i32_20
  let v60 : BitVec 32 := v59
  let v101 : Index := Scalar.indexCast v60
  ![0, 1, v101.toNat]
def k0_mult3 (arg8 : BitVec 32) : BitVec 32 :=
  let c512_i32_55 : BitVec 32 := 512#32
  let v185 : BitVec 32 := Scalar.muli arg8 c512_i32_55
  v185

def k0_off5 (arg8 : BitVec 32) : Fin 2 → Nat :=
  let c512_i32_55 : BitVec 32 := 512#32
  let v185 : BitVec 32 := Scalar.muli arg8 c512_i32_55
  let v186 : BitVec 32 := v185
  let v187 : Index := Scalar.indexCast v186
  let c0_56 : Index := 0#32
  ![v187.toNat, 0]
def k0_off6 (arg8 : BitVec 32) : Fin 3 → Nat :=
  let c0_58 : Index := 0#32
  let c0_59 : Index := 0#32
  let c512_i32_55 : BitVec 32 := 512#32
  let v185 : BitVec 32 := Scalar.muli arg8 c512_i32_55
  let v186 : BitVec 32 := v185
  let v193 : Index := Scalar.indexCast v186
  ![0, 0, v193.toNat]
def k0_off7 (arg8 : BitVec 32) : Fin 3 → Nat :=
  let c0_65 : Index := 0#32
  let c1_66 : Index := 1#32
  let c512_i32_55 : BitVec 32 := 512#32
  let v185 : BitVec 32 := Scalar.muli arg8 c512_i32_55
  let v186 : BitVec 32 := v185
  let v224 : Index := Scalar.indexCast v186
  ![0, 1, v224.toNat]

def k0_chk1 (arg8 : BitVec 32) : Prop :=
  (512 ∣ (k0_mult3 arg8).toNat) ∧
  (∀ a, (k0_off5 arg8) a + S512x128.size a ≤ S16384x128.size a) ∧
  (∀ a, (k0_off6 arg8) a + S1x1x512.size a ≤ S1x2x16384.size a) ∧
  (∀ a, (k0_off7 arg8) a + S1x1x512.size a ≤ S1x2x16384.size a)
theorem k0_mult3_dvd : ∀ (arg8 : BitVec 32) (k0_hw1 : k0_chk1 arg8), 512 ∣ (k0_mult3 arg8).toNat := fun arg8 k0_hw1 => k0_hw1.1
theorem k0_off5_inb : ∀ (arg8 : BitVec 32) (k0_hw1 : k0_chk1 arg8), ∀ a, (k0_off5 arg8) a + S512x128.size a ≤ S16384x128.size a := fun arg8 k0_hw1 => k0_hw1.2.1
theorem k0_off6_inb : ∀ (arg8 : BitVec 32) (k0_hw1 : k0_chk1 arg8), ∀ a, (k0_off6 arg8) a + S1x1x512.size a ≤ S1x2x16384.size a := fun arg8 k0_hw1 => k0_hw1.2.2.1
theorem k0_off7_inb : ∀ (arg8 : BitVec 32) (k0_hw1 : k0_chk1 arg8), ∀ a, (k0_off7 arg8) a + S1x1x512.size a ≤ S1x2x16384.size a := fun arg8 k0_hw1 => k0_hw1.2.2.2

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "exp_zero" => some ⊥
  | _ => none
-- ==== Reference3Ideal.lean ====
abbrev S16384x2960 : Shape := ⟨2, ![16384, 2960]⟩
abbrev S4x16384 : Shape := ⟨2, ![4, 16384]⟩
abbrev S16384x256 : Shape := ⟨2, ![16384, 256]⟩
abbrev S16384x64 : Shape := ⟨2, ![16384, 64]⟩
abbrev S16384x12 : Shape := ⟨2, ![16384, 12]⟩
abbrev S16384x4 : Shape := ⟨2, ![16384, 4]⟩
abbrev S16384x4x64 : Shape := ⟨3, ![16384, 4, 64]⟩
abbrev S4x16384x64 : Shape := ⟨3, ![4, 16384, 64]⟩
abbrev S4x16384x16384 : Shape := ⟨3, ![4, 16384, 16384]⟩
abbrev S_ : Shape := ⟨0, ![]⟩
abbrev S4x16384x1 : Shape := ⟨3, ![4, 16384, 1]⟩
abbrev S4x1x16384 : Shape := ⟨3, ![4, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x4x1 : Shape := ⟨3, ![16384, 4, 1]⟩

abbrev nBuf : Space → Nat
  | .hbm => 77
  | .vmem => 0
  | .smem => 0
  | _ => 0

abbrev bufTy : (tb : Table) → Fin (tcTables nBuf tb) → BufTy
  | .hbm, ⟨0, _⟩ => ⟨S16384x2960, .f32⟩
  | .hbm, ⟨1, _⟩ => ⟨S4x16384, .f32⟩
  | .hbm, ⟨2, _⟩ => ⟨S16384x256, .f32⟩
  | .hbm, ⟨3, _⟩ => ⟨S16384x64, .f32⟩
  | .hbm, ⟨4, _⟩ => ⟨S16384x64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S16384x64, .f32⟩
  | .hbm, ⟨9, _⟩ => ⟨S16384x12, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x4, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S16384x4x64, .f32⟩
  | .hbm, ⟨21, _⟩ => ⟨S4x16384x64, .f32⟩
  | .hbm, ⟨22, _⟩ => ⟨S16384x4x64, .f32⟩
  | .hbm, ⟨23, _⟩ => ⟨S4x16384x64, .f32⟩
  | .hbm, ⟨24, _⟩ => ⟨S16384x4x64, .f32⟩
  | .hbm, ⟨25, _⟩ => ⟨S4x16384x64, .f32⟩
  | .hbm, ⟨26, _⟩ => ⟨S4x16384x16384, .f32⟩
  | .hbm, ⟨27, _⟩ => ⟨S_, .f32⟩
  | .hbm, ⟨28, _⟩ => ⟨S4x16384x16384, .f32⟩
  | .hbm, ⟨29, _⟩ => ⟨S4x16384x16384, .f32⟩
  | .hbm, ⟨30, _⟩ => ⟨S4x16384x1, .f32⟩
  | .hbm, ⟨31, _⟩ => ⟨S4x1x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S16384, .i32⟩
  | .hbm, ⟨37, _⟩ => ⟨S1x16384, .i32⟩
  | .hbm, ⟨38, _⟩ => ⟨S16384x1, .i32⟩
  | .hbm, ⟨39, _⟩ => ⟨S16384x16384, .i32⟩
  | .hbm, ⟨40, _⟩ => ⟨S16384x16384, .i32⟩
  | .hbm, ⟨41, _⟩ => ⟨S16384x16384, .i1⟩
  | .hbm, ⟨42, _⟩ => ⟨S_, .f32⟩
  | .hbm, ⟨43, _⟩ => ⟨S_, .f32⟩
  | .hbm, ⟨44, _⟩ => ⟨S4x16384x16384, .i1⟩
  | .hbm, ⟨45, _⟩ => ⟨S4x16384x16384, .f32⟩
  | .hbm, ⟨46, _⟩ => ⟨S4x16384x16384, .f32⟩
  | .hbm, ⟨47, _⟩ => ⟨S_, .f32⟩
  | .hbm, ⟨48, _⟩ => ⟨S4x16384, .f32⟩
  | .hbm, ⟨49, _⟩ => ⟨S_, .f32⟩
  | .hbm, ⟨50, _⟩ => ⟨S4x16384, .f32⟩
  | .hbm, ⟨51, _⟩ => ⟨S4x16384, .f32⟩
  | .hbm, ⟨52, _⟩ => ⟨S4x16384x1, .f32⟩
  | .hbm, ⟨53, _⟩ => ⟨S4x16384x16384, .f32⟩
  | .hbm, ⟨54, _⟩ => ⟨S4x16384x16384, .f32⟩
  | .hbm, ⟨55, _⟩ => ⟨S4x16384x16384, .f32⟩
  | .hbm, ⟨56, _⟩ => ⟨S_, .f32⟩
  | .hbm, ⟨57, _⟩ => ⟨S4x16384, .f32⟩
  | .hbm, ⟨58, _⟩ => ⟨S4x16384x1, .f32⟩
  | .hbm, ⟨59, _⟩ => ⟨S4x16384x16384, .f32⟩
  | .hbm, ⟨60, _⟩ => ⟨S4x16384x16384, .f32⟩
  | .hbm, ⟨61, _⟩ => ⟨S4x16384x64, .f32⟩
  | .hbm, ⟨62, _⟩ => ⟨S16384x4x64, .f32⟩
  | .hbm, ⟨63, _⟩ => ⟨S16384x4x64, .f32⟩
  | .hbm, ⟨64, _⟩ => ⟨S_, .f32⟩
  | .hbm, ⟨65, _⟩ => ⟨S16384x4, .f32⟩
  | .hbm, ⟨66, _⟩ => ⟨S16384x4x1, .f32⟩
  | .hbm, ⟨67, _⟩ => ⟨S_, .f32⟩
  | .hbm, ⟨68, _⟩ => ⟨S16384x4x1, .f32⟩
  | .hbm, ⟨69, _⟩ => ⟨S16384x4x1, .f32⟩
  | .hbm, ⟨70, _⟩ => ⟨S_, .f32⟩
  | .hbm, ⟨71, _⟩ => ⟨S16384x4x1, .f32⟩
  | .hbm, ⟨72, _⟩ => ⟨S16384x4x1, .f32⟩
  | .hbm, ⟨73, _⟩ => ⟨S16384x4x1, .f32⟩
  | .hbm, ⟨74, _⟩ => ⟨S16384x4x64, .f32⟩
  | .hbm, ⟨75, _⟩ => ⟨S16384x4x64, .f32⟩
  | .hbm, ⟨76, _⟩ => ⟨S16384x256, .f32⟩
  | _, _ => ⟨S16384x2960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2960 : Shape := ⟨2, ![1024, 2960]⟩
abbrev S2960 : Shape := ⟨1, ![2960]⟩
abbrev S_ : Shape := ⟨0, ![]⟩
abbrev S2960x1 : Shape := ⟨2, ![2960, 1]⟩
abbrev S1x2960 : Shape := ⟨2, ![1, 2960]⟩
abbrev S1024x3072 : Shape := ⟨2, ![1024, 3072]⟩
abbrev S1x1024 : Shape := ⟨2, ![1, 1024]⟩
abbrev S16384x2944 : Shape := ⟨2, ![16384, 2944]⟩
abbrev S16384x128 : Shape := ⟨2, ![16384, 128]⟩
abbrev S1024x2048 : Shape := ⟨2, ![1024, 2048]⟩
abbrev S4x4096x768 : Shape := ⟨3, ![4, 4096, 768]⟩
abbrev S16x1024x768 : Shape := ⟨3, ![16, 1024, 768]⟩
abbrev S512x1024 : Shape := ⟨2, ![512, 1024]⟩
abbrev S512x2944 : Shape := ⟨2, ![512, 2944]⟩
abbrev S512x128 : Shape := ⟨2, ![512, 128]⟩
abbrev S32x2048 : Shape := ⟨2, ![32, 2048]⟩
abbrev S4x128x768 : Shape := ⟨3, ![4, 128, 768]⟩
abbrev S16x32x768 : Shape := ⟨3, ![16, 32, 768]⟩
abbrev S7x512x128 : Shape := ⟨3, ![7, 512, 128]⟩
abbrev S512 : Shape := ⟨1, ![512]⟩
abbrev S512x1 : Shape := ⟨2, ![512, 1]⟩
abbrev S512x3072 : Shape := ⟨2, ![512, 3072]⟩
abbrev S1x512x128 : Shape := ⟨3, ![1, 512, 128]⟩
abbrev S1x32x128 : Shape := ⟨3, ![1, 32, 128]⟩
abbrev S32x128 : Shape := ⟨2, ![32, 128]⟩
abbrev S1x128x128 : Shape := ⟨3, ![1, 128, 128]⟩
abbrev S128x128 : Shape := ⟨2, ![128, 128]⟩

abbrev nBuf : Space → Nat
  | .hbm => 25
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2960, .f32⟩
  | .hbm, ⟨3, _⟩ => ⟨S2960, .i32⟩
  | .hbm, ⟨4, _⟩ => ⟨S2960, .i1⟩
  | .hbm, ⟨5, _⟩ => ⟨S2960, .f32⟩
  | .hbm, ⟨6, _⟩ => ⟨S_, .i32⟩
  | .hbm, ⟨7, _⟩ => ⟨S2960, .i32⟩
  | .hbm, ⟨8, _⟩ => ⟨S2960, .i32⟩
  | .hbm, ⟨9, _⟩ => ⟨S2960, .i32⟩
  | .hbm, ⟨10, _⟩ => ⟨S2960x1, .i32⟩
  | .hbm, ⟨11, _⟩ => ⟨S1024x2960, .f32⟩
  | .hbm, ⟨12, _⟩ => ⟨S1x2960, .f32⟩
  | .hbm, ⟨13, _⟩ => ⟨S1024x2960, .f32⟩
  | .hbm, ⟨14, _⟩ => ⟨S1024x2960, .f32⟩
  | .hbm, ⟨15, _⟩ => ⟨S_, .i32⟩
  | .hbm, ⟨16, _⟩ => ⟨S_, .f32⟩
  | .hbm, ⟨17, _⟩ => ⟨S1024x3072, .f32⟩
  | .hbm, ⟨18, _⟩ => ⟨S1024x3072, .bf16⟩
  | .hbm, ⟨19, _⟩ => ⟨S1x1024, .f32⟩
  | .hbm, ⟨20, _⟩ => ⟨S16384x2944, .bf16⟩
  | .hbm, ⟨21, _⟩ => ⟨S16384x128, .f32⟩
  | .hbm, ⟨22, _⟩ => ⟨S1024x2048, .bf16⟩
  | .hbm, ⟨23, _⟩ => ⟨S4x4096x768, .bf16⟩
  | .hbm, ⟨24, _⟩ => ⟨S16x1024x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x2944, .bf16⟩
  | .local _ .vmem, ⟨5, _⟩ => ⟨S512x2944, .bf16⟩
  | .local _ .vmem, ⟨6, _⟩ => ⟨S512x128, .f32⟩
  | .local _ .vmem, ⟨7, _⟩ => ⟨S512x128, .f32⟩
  | .local _ .vmem, ⟨8, _⟩ => ⟨S32x2048, .bf16⟩
  | .local _ .vmem, ⟨9, _⟩ => ⟨S32x2048, .bf16⟩
  | .local _ .vmem, ⟨10, _⟩ => ⟨S4x128x768, .bf16⟩
  | .local _ .vmem, ⟨11, _⟩ => ⟨S4x128x768, .bf16⟩
  | .local _ .vmem, ⟨12, _⟩ => ⟨S16x32x768, .bf16⟩
  | .local _ .vmem, ⟨13, _⟩ => ⟨S16x32x768, .bf16⟩
  | .local _ .vmem, ⟨14, _⟩ => ⟨S7x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2944 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x1024 : Shape := ⟨2, ![16384, 1024]⟩
abbrev S1024 : Shape := ⟨1, ![1024]⟩
abbrev S1024x2960 : Shape := ⟨2, ![1024, 2960]⟩
abbrev S2960 : Shape := ⟨1, ![2960]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2960 : Shape := ⟨2, ![16384, 2960]⟩
abbrev S2960x1 : Shape := ⟨2, ![2960, 1]⟩
abbrev S1x2960 : Shape := ⟨2, ![1, 2960]⟩
abbrev S16384x2944 : Shape := ⟨2, ![16384, 2944]⟩
abbrev S16384x16 : Shape := ⟨2, ![16384, 16]⟩
abbrev S16384x112 : Shape := ⟨2, ![16384, 112]⟩
abbrev S16384x128 : Shape := ⟨2, ![16384, 128]⟩
abbrev S1024x2048 : Shape := ⟨2, ![1024, 2048]⟩
abbrev S16384x768 : Shape := ⟨2, ![16384, 768]⟩
abbrev S4096x4x768 : Shape := ⟨3, ![4096, 4, 768]⟩
abbrev S4x4096x768 : Shape := ⟨3, ![4, 4096, 768]⟩
abbrev S1024x16x768 : Shape := ⟨3, ![1024, 16, 768]⟩
abbrev S16x1024x768 : Shape := ⟨3, ![16, 1024, 768]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2960, .f32⟩
  | .hbm, ⟨3, _⟩ => ⟨S2960, .i32⟩
  | .hbm, ⟨4, _⟩ => ⟨S2960, .i1⟩
  | .hbm, ⟨5, _⟩ => ⟨S2960, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2960, .f32⟩
  | .hbm, ⟨23, _⟩ => ⟨S_, .i32⟩
  | .hbm, ⟨24, _⟩ => ⟨S2960, .i32⟩
  | .hbm, ⟨25, _⟩ => ⟨S2960, .i32⟩
  | .hbm, ⟨26, _⟩ => ⟨S2960, .i32⟩
  | .hbm, ⟨27, _⟩ => ⟨S2960x1, .i32⟩
  | .hbm, ⟨28, _⟩ => ⟨S16384x2960, .f32⟩
  | .hbm, ⟨29, _⟩ => ⟨S1x2960, .f32⟩
  | .hbm, ⟨30, _⟩ => ⟨S16384x2960, .f32⟩
  | .hbm, ⟨31, _⟩ => ⟨S16384x2960, .f32⟩
  | .hbm, ⟨32, _⟩ => ⟨S16384x2944, .f32⟩
  | .hbm, ⟨33, _⟩ => ⟨S16384x16, .f32⟩
  | .hbm, ⟨34, _⟩ => ⟨S_, .f32⟩
  | .hbm, ⟨35, _⟩ => ⟨S16384x112, .f32⟩
  | .hbm, ⟨36, _⟩ => ⟨S16384x128, .f32⟩
  | .hbm, ⟨37, _⟩ => ⟨S16384x128, .f32⟩
  | .hbm, ⟨38, _⟩ => ⟨S1024x2048, .f32⟩
  | .hbm, ⟨39, _⟩ => ⟨S16384x768, .f32⟩
  | .hbm, ⟨40, _⟩ => ⟨S4096x4x768, .f32⟩
  | .hbm, ⟨41, _⟩ => ⟨S4x4096x768, .f32⟩
  | .hbm, ⟨42, _⟩ => ⟨S16384x768, .f32⟩
  | .hbm, ⟨43, _⟩ => ⟨S1024x16x768, .f32⟩
  | .hbm, ⟨44, _⟩ => ⟨S16x1024x768, .f32⟩
  | .hbm, ⟨45, _⟩ => ⟨S16384x2944, .bf16⟩
  | .hbm, ⟨46, _⟩ => ⟨S1024x2048, .bf16⟩
  | .hbm, ⟨47, _⟩ => ⟨S4x4096x768, .bf16⟩
  | .hbm, ⟨48, _⟩ => ⟨S16x1024x768, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel5.lean ====
abbrev S16384x128 : Shape := ⟨2, ![16384, 128]⟩
abbrev S4 : Shape := ⟨1, ![4]⟩
abbrev S16384x4 : Shape := ⟨2, ![16384, 4]⟩
abbrev S4x16384 : Shape := ⟨2, ![4, 16384]⟩
abbrev S_ : Shape := ⟨0, ![]⟩
abbrev S8x16384 : Shape := ⟨2, ![8, 16384]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x512 : Shape := ⟨2, ![8, 512]⟩
abbrev S8x128 : Shape := ⟨2, ![8, 128]⟩

abbrev nBuf : Space → Nat
  | .hbm => 25
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S4, .f32⟩
  | .hbm, ⟨2, _⟩ => ⟨S16384x4, .f32⟩
  | .hbm, ⟨3, _⟩ => ⟨S4x16384, .f32⟩
  | .hbm, ⟨4, _⟩ => ⟨S_, .f32⟩
  | .hbm, ⟨5, _⟩ => ⟨S4x16384, .f32⟩
  | .hbm, ⟨6, _⟩ => ⟨S8x16384, .f32⟩
  | .hbm, ⟨7, _⟩ => ⟨S_, .f32⟩
  | .hbm, ⟨8, _⟩ => ⟨S4, .f32⟩
  | .hbm, ⟨9, _⟩ => ⟨S8, .f32⟩
  | .hbm, ⟨10, _⟩ => ⟨S8x1, .f32⟩
  | .hbm, ⟨11, _⟩ => ⟨S512, .i32⟩
  | .hbm, ⟨12, _⟩ => ⟨S512x1, .i32⟩
  | .hbm, ⟨13, _⟩ => ⟨S512, .i32⟩
  | .hbm, ⟨14, _⟩ => ⟨S1x512, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S_, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .bf16⟩
  | .hbm, ⟨24, _⟩ => ⟨S8x16384, .f32⟩
  | .local _ .vmem, ⟨0, _⟩ => ⟨S8x512, .f32⟩
  | .local _ .vmem, ⟨1, _⟩ => ⟨S8x512, .f32⟩
  | .local _ .vmem, ⟨2, _⟩ => ⟨S8x1, .f32⟩
  | .local _ .vmem, ⟨3, _⟩ => ⟨S512x512, .bf16⟩
  | .local _ .vmem, ⟨4, _⟩ => ⟨S8x512, .f32⟩
  | .local _ .vmem, ⟨5, _⟩ => ⟨S8x512, .f32⟩
  | .local _ .vmem, ⟨6, _⟩ => ⟨S8x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x128 : Shape := ⟨2, ![16384, 128]⟩
abbrev S4 : Shape := ⟨1, ![4]⟩
abbrev S16384x4 : Shape := ⟨2, ![16384, 4]⟩
abbrev S1x4 : Shape := ⟨2, ![1, 4]⟩
abbrev S4x16384 : Shape := ⟨2, ![4, 16384]⟩
abbrev S_ : Shape := ⟨0, ![]⟩
abbrev S8x16384 : Shape := ⟨2, ![8, 16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S4, .f32⟩
  | .hbm, ⟨2, _⟩ => ⟨S16384x4, .f32⟩
  | .hbm, ⟨3, _⟩ => ⟨S1x4, .f32⟩
  | .hbm, ⟨4, _⟩ => ⟨S16384x4, .f32⟩
  | .hbm, ⟨5, _⟩ => ⟨S16384x4, .f32⟩
  | .hbm, ⟨6, _⟩ => ⟨S4x16384, .f32⟩
  | .hbm, ⟨7, _⟩ => ⟨S_, .f32⟩
  | .hbm, ⟨8, _⟩ => ⟨S4x16384, .f32⟩
  | .hbm, ⟨9, _⟩ => ⟨S8x16384, .f32⟩
  | .hbm, ⟨10, _⟩ => ⟨S8x16384, .f32⟩
  | .hbm, ⟨11, _⟩ => ⟨S_, .f32⟩
  | .hbm, ⟨12, _⟩ => ⟨S8x16384, .f32⟩
  | .hbm, ⟨13, _⟩ => ⟨S8x16384, .f32⟩
  | .hbm, ⟨14, _⟩ => ⟨S8x16384, .f32⟩
  | .hbm, ⟨15, _⟩ => ⟨S8x16384, .f32⟩
  | .hbm, ⟨16, _⟩ => ⟨S8x16384, .i1⟩
  | .hbm, ⟨17, _⟩ => ⟨S8x16384, .f32⟩
  | .hbm, ⟨18, _⟩ => ⟨S8x16384, .f32⟩
  | .hbm, ⟨19, _⟩ => ⟨S8x16384, .f32⟩
  | .hbm, ⟨20, _⟩ => ⟨S8x16384, .f32⟩
  | .hbm, ⟨21, _⟩ => ⟨S8x16384, .f32⟩
  | .hbm, ⟨22, _⟩ => ⟨S8x16384, .f32⟩
  | .hbm, ⟨23, _⟩ => ⟨S8x16384, .f32⟩
  | .hbm, ⟨24, _⟩ => ⟨S8x16384, .f32⟩
  | .hbm, ⟨25, _⟩ => ⟨S8x16384, .f32⟩
  | .hbm, ⟨26, _⟩ => ⟨S_, .f32⟩
  | .hbm, ⟨27, _⟩ => ⟨S_, .f32⟩
  | .hbm, ⟨28, _⟩ => ⟨S8x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_call1_cst : Ref sig .tc := ⟨.hbm, 26, rfl⟩
abbrev main_call1_v0 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Proof.KIBody.lean ====
/-
  Stick-breaking attention, the idealized program: what one grid point computes as a function of its four input
  blocks, and the run of its body. The early exit of the walk over the key tiles is a call of a label that calls
  itself; it is met by induction on the number of tiles left.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The walk over the key tiles -/

/-- What the walk carries: the next tile, the largest exponent left, and per head the running sum and the
    accumulator. -/
abbrev St (F : FTy → Type) := BitVec 32 × F .f32 × FVec F S512x1 .f32 × FVec F S512x128 .f32 × FVec F S512x1 .f32 × FVec F S512x128 .f32

/-- The tile number when `n` tiles are left: `n - 1` as a word. -/
def ctr (n : ℕ) : BitVec 32 := BitVec.ofNat 32 n - 1#32

/-- The 256 rows of a key or value block that tile `w` reads. -/
def tileAt (x : Vec F S16384x128 .bf16) (w : BitVec 32) (h : k0_chk1 w) : Vec F S256x128 .bf16 :=
  View.ld x (Rect.unit (s := S16384x128) (k0_off2 w) S256x128.size (k0_off2_inb w h))

/-- Whether the walk goes on. -/
def goes (s : St F) : Prop :=
  Scalar.andi (Scalar.cmpi .sge s.1 0#32) (Scalar.cmpf .oge s.2.1 (Named.named κ "exp_zero" 0xC2D00000#32 : F .f32)) = 1#1

instance (s : St F) : Decidable (goes s) := by unfold goes; infer_instance

/-- One tile of the walk, on the tile's rows of the keys and of the values. -/
def stepOn (v10 : FVec F S512x128 .bf16) (v3 : FVec F S256x256 .bf16) (v15 : FVec F S512x128 .bf16)
    (kb vb : Vec F S256x128 .bf16) (s : St F) : St F :=
  (Scalar.subi s.1 1#32, k0_pay6 v15 s.2.2.2.2.1 (k0_pay51 kb) (k0_pay57 v10 s.2.2.1 kb), k0_pay56 v10 s.2.2.1 kb,
    k0_pay55 v10 v3 s.2.2.1 s.2.2.2.1 kb vb, k0_pay5 v15 s.2.2.2.2.1 (k0_pay51 kb),
    k0_pay4 v3 v15 s.2.2.2.2.1 s.2.2.2.2.2 (k0_pay51 kb) (k0_pay52 vb))

/-- The walk with at most `n` tiles left. -/
def walk (x1 x2 : Vec F S16384x128 .bf16) (v10 : FVec F S512x128 .bf16) (v3 : FVec F S256x256 .bf16)
    (v15 : FVec F S512x128 .bf16) : ℕ → St F → St F
  | 0, s => s
  | n + 1, s => if goes s then
      (if h : k0_chk1 s.1 then walk x1 x2 v10 v3 v15 n (stepOn v10 v3 v15 (tileAt x1 s.1 h) (tileAt x2 s.1 h) s) else s)
    else s

theorem ctr_zero : ctr 0 = 4294967295#32 := by decide

/-- Each tile number of the grid is in range. -/
theorem chk_ctr : ∀ n : Fin 64, k0_chk1 (ctr (n.val + 1)) := by decide +kernel

theorem ctr_pred (n : ℕ) : Scalar.subi (ctr (n + 1)) 1#32 = ctr n := by
  show (BitVec.ofNat 32 (n + 1) - 1#32) - 1#32 = BitVec.ofNat 32 n - 1#32
  rw [BitVec.ofNat_add]
  generalize BitVec.ofNat 32 n = x
  show x + 1#32 - 1#32 - 1#32 = x - 1#32
  rw [BitVec.add_sub_cancel]

/-- With no tile left the walk stops. -/
theorem not_goes_zero (s : St F) (h : s.1 = ctr 0) : ¬ goes s := by
  unfold goes
  rw [h, ctr_zero]
  show ¬ (0#1 &&& _ = 1#1)
  rw [BitVec.zero_and]; decide

/-- The keys and the values, held. -/
def held (c : Dev nD) (arg3 arg4 : Memref sig .tc .vmem S16384x128 .bf16) (x1 x2 : Vec F S16384x128 .bf16) : sProp 𝕄 :=
  iprop(owns (c : Thread nD τ) arg3 fullShare x1 ∗ owns (c : Thread nD τ) arg4 fullShare x2)

/-- The walk's specification: holding the keys and the values, give them back with the walk's result. -/
def spec (c : Dev nD) (arg3 arg4 : Memref sig .tc .vmem S16384x128 .bf16) (x1 x2 : Vec F S16384x128 .bf16)
    (r : St F) : sWPT 𝕄 (St F) :=
  sWPT.consume (held c arg3 arg4 x1 x2) >>= fun _ => sWPT.produce (held c arg3 arg4 x1 x2) >>= fun _ => Pure.pure r

theorem spec_apply (c : Dev nD) (arg3 arg4 : Memref sig .tc .vmem S16384x128 .bf16) (x1 x2 : Vec F S16384x128 .bf16)
    (r : St F) (K : St F → sProp 𝕄) :
    spec c arg3 arg4 x1 x2 r K = iprop(held c arg3 arg4 x1 x2 ∗ (held c arg3 arg4 x1 x2 -∗ K r)) := by
  unfold spec; simp only [spec_simps]

/-- The walk with at most `n` tiles left meets its specification, at the variant `n`. -/
theorem spec_le (c : Dev nD) (E : Set ℕ) (i : grid0.Coords) (arg3 : Memref sig .tc .vmem S16384x128 .bf16) (h3 : arg3.IsWhole)
    (arg4 : Memref sig .tc .vmem S16384x128 .bf16) (h4 : arg4.IsWhole) (x1 x2 : Vec F S16384x128 .bf16)
    (v10 : FVec F S512x128 .bf16) (v3 : FVec F S256x256 .bf16) (v15 : FVec F S512x128 .bf16) :
    ∀ n, n ≤ 64 → ∀ s : St F, s.1 = ctr n → ∀ K, spec c arg3 arg4 x1 x2 (walk x1 x2 v10 v3 v15 n s) K
      ⊢ wp frame (wpE (defs₀ (F := F)) Variants.nat (c : Thread nD τ) (some n)) E
          (defs₀ (F := F) .tc 1 ⟨i, arg3, h3, arg4, h4, v10, v3, v15, s.1, s.2.1, s.2.2.1, s.2.2.2.1, s.2.2.2.2.1, s.2.2.2.2.2⟩) K := by
  intro n
  induction n with
  | zero =>
    intro _ s hs K
    rw [spec_apply]
    show _ ⊢ wp frame (wpE (defs₀ (F := F)) Variants.nat (c : Thread nD τ) (some 0)) E
      (cc0_while1 i arg3 h3 arg4 h4 v10 v3 v15 s.1 s.2.1 s.2.2.1 s.2.2.2.1 s.2.2.2.2.1 s.2.2.2.2.2) K
    simp only [cc0_while1_eq_skeleton]; unfold cc0_while1_skel
    dsimp only
    rw [if_neg (show ¬ Scalar.andi _ _ = 1#1 from not_goes_zero s hs)]
    iintro ⟨H, Hk⟩
    rw [Prog.pure_eq_ret, wp_ret]; imodintro
    unfold walk
    iapply Hk; iexact H
  | succ n ih =>
    intro hn s hs K
    rw [spec_apply]
    show _ ⊢ wp frame (wpE (defs₀ (F := F)) Variants.nat (c : Thread nD τ) (some (n + 1))) E
      (cc0_while1 i arg3 h3 arg4 h4 v10 v3 v15 s.1 s.2.1 s.2.2.1 s.2.2.2.1 s.2.2.2.2.1 s.2.2.2.2.2) K
    simp only [cc0_while1_eq_skeleton]; unfold cc0_while1_skel
    dsimp only
    unfold walk
    by_cases hg : goes s
    swap
    · rw [if_neg hg, if_neg (show ¬ Scalar.andi _ _ = 1#1 from hg)]
      iintro ⟨H, Hk⟩
      rw [Prog.pure_eq_ret, wp_ret]; imodintro
      iapply Hk; iexact H
    · have hc : k0_chk1 s.1 := by rw [hs]; exact chk_ctr ⟨n, hn⟩
      rw [if_pos hg, dif_pos hc, if_pos (show Scalar.andi _ _ = 1#1 from hg)]
      simp only [k0_part6_eq_skeleton]; unfold k0_part6_skel
      simp only [Prog.lift, Prog.bind_op, Prog.bind_ret, Prog.pure_eq_ret]
      unfold held owns
      iintro ⟨⟨⟨%f1, %hf1, H1⟩, ⟨%f2, %hf2, H2⟩⟩, Hk⟩
      iapply (wp_assume Variants.nat (c : Thread nD τ) (some (n + 1)) E hc)
      iapply (wp_load Variants.nat (c : Thread nD τ) (some (n + 1)) E (m := arg3) (View.setOn_subset_set _ _)) $$ H1; iintro H1
      iapply (wp_load Variants.nat (c : Thread nD τ) (some (n + 1)) E (m := arg4) (View.setOn_subset_set _ _)) $$ H2; iintro H2
      have hl1 : View.readAt (Elt F) arg3.view (Rect.unit (s := S16384x128) (k0_off2 s.1) S256x128.size (k0_off2_inb s.1 hc)).toLoadRect f1 = tileAt x1 s.1 hc := by
        subst hf1; rfl
      have hl2 : View.readAt (Elt F) arg4.view (Rect.unit (s := S16384x128) (k0_off2 s.1) S256x128.size (k0_off2_inb s.1 hc)).toLoadRect f2 = tileAt x2 s.1 hc := by
        subst hf2; rfl
      rw [hl1, hl2]
      iapply (wp_call_spec Variants.nat (c : Thread nD τ) (some (n + 1)) E
        (spec c arg3 arg4 x1 x2 (walk x1 x2 v10 v3 v15 n (stepOn v10 v3 v15 (tileAt x1 s.1 hc) (tileAt x2 s.1 hc) s))) n
        (fun u hu => by cases hu; exact Nat.lt_succ_self n)
        (ih (Nat.le_of_succ_le hn) (stepOn v10 v3 v15 (tileAt x1 s.1 hc) (tileAt x2 s.1 hc) s) (by
          show Scalar.subi s.1 1#32 = _; rw [hs, ctr_pred])))
      rw [spec_apply]
      unfold held owns
      isplitl [H1 H2]
      · isplitl [H1]
        · iexists f1; isplitr; · ipureintro; exact hf1
          iexact H1
        iexists f2; isplitr; · ipureintro; exact hf2
        iexact H2
      iintro H
      rw [wp_ret]; imodintro
      iapply Hk; iexact H

/-! ## One grid point -/

/-- The word of the tile after the last tile walked: twice the row block's number. -/
theorem ctr_start (i : grid0.Coords) : Scalar.subi (Scalar.muli (BitVec.ofNat 32 (i 1).val) 2#32) 1#32 = ctr (2 * (i 1).val) := by
  unfold ctr
  show BitVec.ofNat 32 (i 1).val * 2#32 - 1#32 = _
  rw [show (2#32 : BitVec 32) = BitVec.ofNat 32 2 from rfl, ← BitVec.ofNat_mul, Nat.mul_comm]

/-- The whole of the query block, as the body loads it. -/
def qv (x0 : Vec F S512x128 .bf16) : Vec F S512x128 .bf16 :=
  View.ld x0 (Rect.unit (s := S512x128) ![0, 0] S512x128.size inb_S512x128_S512x128_0_0)

/-- The whole of the triangle, as the body loads it. -/
def tv (x3 : Vec F S256x256 .bf16) : Vec F S256x256 .bf16 :=
  View.ld x3 (Rect.unit (s := S256x256) ![0, 0] S256x256.size inb_S256x256_S256x256_0_0)

/-- The rows of the keys or values on the diagonal, the later half (`w = 1`) or the earlier (`w = 0`). -/
def diagAt (i : grid0.Coords) (x : Vec F S16384x128 .bf16) (w : Fin 2) : Vec F S256x128 .bf16 :=
  View.ld x (Rect.unit (s := S16384x128) (k0_off1 i (BitVec.ofNat 32 w.val)) S256x128.size (k0_off1_inb i w))

/-- The first head after the later diagonal tile: accumulator. -/
def accA1 (q : Vec F S512x128 .bf16) (t : Vec F S256x256 .bf16) (k1 v1 : Vec F S256x128 .bf16) : FVec F S512x128 .f32 :=
  k0_pay21 (k0_pay8 t) (k0_pay11 (F := F)) (k0_pay12 (F := F)) (k0_pay14 v1) k0_pay15 (k0_pay16 q k1) (k0_pay17 q k1) (k0_pay18 q k1) (Scalar.ofBits .f32 0x3F800000#32)

/-- The first head after the later diagonal tile: running sum. -/
def runA1 (q : Vec F S512x128 .bf16) (k1 : Vec F S256x128 .bf16) : FVec F S512x1 .f32 :=
  k0_pay22 (k0_pay11 (F := F)) k0_pay15 (k0_pay17 q k1) (k0_pay18 q k1) (Scalar.ofBits .f32 0x3F800000#32)

/-- The second head after the later diagonal tile: accumulator. -/
def accB1 (q : Vec F S512x128 .bf16) (t : Vec F S256x256 .bf16) (k1 v1 : Vec F S256x128 .bf16) : FVec F S512x128 .f32 :=
  k0_pay27 (k0_pay8 t) (k0_pay11 (F := F)) (k0_pay12 (F := F)) (k0_pay14 v1) k0_pay15
    (k0_pay24 (k0_pay10 q) (k0_pay13 k1)) (k0_pay25 (k0_pay10 q) (k0_pay13 k1))

/-- The second head after the later diagonal tile: running sum. -/
def runB1 (q : Vec F S512x128 .bf16) (k1 : Vec F S256x128 .bf16) : FVec F S512x1 .f32 :=
  k0_pay28 (k0_pay11 (F := F)) k0_pay15 (k0_pay24 (k0_pay10 q) (k0_pay13 k1))

/-- The mask of the earlier diagonal tile. -/
def mask0 : IVec S512x256 1 :=
  k0_pay31 (iota .tc S512x256 32 [0] iota_S512x256_d0_w32) (iota .tc S512x256 32 [1] iota_S512x256_d1_w32)

/-- What the walk starts from: both heads after both diagonal tiles. -/
def start (i : grid0.Coords) (q : Vec F S512x128 .bf16) (t : Vec F S256x256 .bf16) (k1 v1 k0 v0 : Vec F S256x128 .bf16) : St F :=
  (ctr (2 * (i 1).val),
    k0_pay48 (runB1 q k1) mask0 (k0_pay40 (runA1 q k1) mask0 (k0_pay33 (k0_pay9 q) k0) (k0_pay34 (k0_pay9 q) k0) (k0_pay35 (F := F)))
      (k0_pay42 (k0_pay10 q) (k0_pay29 k0)) (k0_pay43 (k0_pay10 q) (k0_pay29 k0)) (Scalar.ofBits .f32 0x3F800000#32),
    k0_pay39 (runA1 q k1) mask0 (k0_pay33 (k0_pay9 q) k0) (k0_pay34 (k0_pay9 q) k0) (k0_pay35 (F := F)),
    k0_pay38 (k0_pay8 t) (accA1 q t k1 v1) (runA1 q k1) (k0_pay30 v0) mask0 (k0_pay32 (k0_pay9 q) k0) (k0_pay33 (k0_pay9 q) k0) (k0_pay34 (k0_pay9 q) k0) (k0_pay35 (F := F)),
    k0_pay47 (runB1 q k1) mask0 (k0_pay42 (k0_pay10 q) (k0_pay29 k0)) (k0_pay43 (k0_pay10 q) (k0_pay29 k0)) (Scalar.ofBits .f32 0x3F800000#32),
    k0_pay46 (k0_pay8 t) (accB1 q t k1 v1) (runB1 q k1) (k0_pay30 v0) mask0 (k0_pay41 (k0_pay10 q) (k0_pay29 k0)) (k0_pay42 (k0_pay10 q) (k0_pay29 k0))
      (k0_pay43 (k0_pay10 q) (k0_pay29 k0)) (Scalar.ofBits .f32 0x3F800000#32))

/-- The end of the walk of one grid point. -/
def walked (i : grid0.Coords) (x0 : Vec F S512x128 .bf16) (x1 x2 : Vec F S16384x128 .bf16) (x3 : Vec F S256x256 .bf16) : St F :=
  walk x1 x2 (k0_pay9 (qv x0)) (k0_pay8 (tv x3)) (k0_pay10 (qv x0)) (2 * (i 1).val)
    (start i (qv x0) (tv x3) (diagAt i x1 1) (diagAt i x2 1) (diagAt i x1 0) (diagAt i x2 0))

/-- The heads' normalisation of the walk's two accumulators: what the point stores. -/
def closed (s : St F) : FVec F S512x128 .f32 :=
  k0_pay1 (k0_pay49 s.2.2.2.1 s.2.2.2.2.2) (iota .tc S512x128 32 [1] iota_S512x128_d1_w32) (k0_pay50 s.2.2.2.1 s.2.2.2.2.2) (Scalar.ofBits .f32 0x00000000#32)

/-- What one grid point stores, from its input blocks. -/
def sbOut (i : grid0.Coords) (x0 : Vec F S512x128 .bf16) (x1 x2 : Vec F S16384x128 .bf16) (x3 : Vec F S256x256 .bf16) : FVec F S512x128 .f32 :=
  closed (walked i x0 x1 x2 x3)

/-- One grid point's body: from whole staging buffers it ends with the inputs' as they were and the output's holding
    `sbOut`. -/
theorem body_run (c : Dev nD) (i : grid0.Coords) (arg2 : Memref sig .tc .vmem S512x128 .bf16) (harg2 : arg2.IsWhole) (arg3 : Memref sig .tc .vmem S16384x128 .bf16) (harg3 : arg3.IsWhole)
    (arg4 : Memref sig .tc .vmem S16384x128 .bf16) (harg4 : arg4.IsWhole) (arg5 : Memref sig .tc .vmem S256x256 .bf16) (harg5 : arg5.IsWhole) (arg6 : Memref sig .tc .vmem S512x128 .f32) (harg6 : arg6.IsWhole)
    (x0 : Vec F S512x128 .bf16) (x1 : Vec F S16384x128 .bf16) (x2 : Vec F S16384x128 .bf16) (x3 : Vec F S256x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (sbOut i x0 x1 x2 x3)) -∗ K ⟨⟩))
    ⊢ wp frame (wpE (defs₀ (F := F)) Variants.nat (c : Thread nD τ) none) E (cc0_stick_breaking_attention i arg2 harg2 arg3 harg3 arg4 harg4 arg5 harg5 arg6 harg6) K := by
  simp only [cc0_stick_breaking_attention_eq_skeleton]; unfold cc0_stick_breaking_attention_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  unfold owns
  iintro ⟨⟨%f0, %hf0, H0⟩, ⟨%f1, %hf1, H1⟩, ⟨%f2, %hf2, H2⟩, ⟨%f3, %hf3, H3⟩, ⟨%d4, %f4, -, H4⟩, Hk⟩
  iapply (wp_load Variants.nat (c : Thread nD τ) none E (m := arg2) (View.setOn_subset_set _ _)) $$ H0; iintro H0
  iapply (wp_load Variants.nat (c : Thread nD τ) none E (m := arg5) (View.setOn_subset_set _ _)) $$ H3; iintro H3
  iapply (wp_load Variants.nat (c : Thread nD τ) none E (m := arg3) (View.setOn_subset_set _ _)) $$ H1; iintro H1
  iapply (wp_load Variants.nat (c : Thread nD τ) none E (m := arg4) (View.setOn_subset_set _ _)) $$ H2; iintro H2
  iapply (wp_load Variants.nat (c : Thread nD τ) none E (m := arg3) (View.setOn_subset_set _ _)) $$ H1; iintro H1
  iapply (wp_load Variants.nat (c : Thread nD τ) none E (m := arg4) (View.setOn_subset_set _ _)) $$ H2; iintro H2
  have e0 : View.readAt (Elt F) arg2.view (Rect.unit (s := S512x128) ![0, 0] S512x128.size inb_S512x128_S512x128_0_0).toLoadRect f0 = qv x0 := by
    subst hf0; rfl
  have e3 : View.readAt (Elt F) arg5.view (Rect.unit (s := S256x256) ![0, 0] S256x256.size inb_S256x256_S256x256_0_0).toLoadRect f3 = tv x3 := by
    subst hf3; rfl
  have e11 : View.readAt (Elt F) arg3.view (Rect.unit (s := S16384x128) (k0_off1 i 1#32) S256x128.size (k0_off1_inb i 1)).toLoadRect f1 = diagAt i x1 1 := by
    subst hf1; rfl
  have e21 : View.readAt (Elt F) arg4.view (Rect.unit (s := S16384x128) (k0_off1 i 1#32) S256x128.size (k0_off1_inb i 1)).toLoadRect f2 = diagAt i x2 1 := by
    subst hf2; rfl
  have e10 : View.readAt (Elt F) arg3.view (Rect.unit (s := S16384x128) (k0_off1 i 0#32) S256x128.size (k0_off1_inb i 0)).toLoadRect f1 = diagAt i x1 0 := by
    subst hf1; rfl
  have e20 : View.readAt (Elt F) arg4.view (Rect.unit (s := S16384x128) (k0_off1 i 0#32) S256x128.size (k0_off1_inb i 0)).toLoadRect f2 = diagAt i x2 0 := by
    subst hf2; rfl
  rw [e0, e3, e11, e21, e10, e20, ctr_start]
  iapply (wp_call_spec Variants.nat (c : Thread nD τ) none E
    (spec c arg3 arg4 x1 x2 (walked i x0 x1 x2 x3)) (2 * (i 1).val)
    (fun u hu => by cases hu)
    (spec_le c E i arg3 harg3 arg4 harg4 x1 x2 _ _ _ (2 * (i 1).val) (by have := (i 1).isLt; have h : grid0.bound 1 = 32 := rfl; omega)
      (start i (qv x0) (tv x3) (diagAt i x1 1) (diagAt i x2 1) (diagAt i x1 0) (diagAt i x2 0)) rfl))
  rw [spec_apply]
  unfold held owns
  isplitl [H1 H2]
  · isplitl [H1]
    · iexists f1; isplitr; · ipureintro; exact hf1
      iexact H1
    iexists f2; isplitr; · ipureintro; exact hf2
    iexact H2
  iintro ⟨H1, H2⟩
  iapply (wp_load Variants.nat (c : Thread nD τ) none E (m := arg6) (View.setOn_subset_set _ _)) $$ H4; iintro H4
  sl_exec
  sl_step
  iapply Hk
  isplitl [H0]
  · iexists f0; isplitr; · ipureintro; exact hf0
    iexact H0
  isplitl [H1]; · iexact H1
  isplitl [H2]; · iexact H2
  isplitl [H3]
  · iexists f3; isplitr; · ipureintro; exact hf3
    iexact H3
  iexists _; isplitr
  swap; · iexact H4
  ipureintro
  exact View.read_writes_full arg6.view f4 inb_S512x128_S512x128_0_0 (sbOut i x0 x1 x2 x3) []

end Cert.Proof.KI

end
-- ==== Proof.KIRun.lean ====
/-
  Stick-breaking attention, the idealized program: the whole call. The body's run at every grid point gives the
  call's run, its frame, and the contents of the result array block by block.
-/
module

public import proofs.«01_k».proof.Proof.KIBody
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host code before the call -/

/-- A core's arrays when the call begins: after the host operations. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
/-- The program up to the call: the host operations. -/
theorem up_to_call : Pipeline.HMain (Ix := Unit) (Name := ℕ) (U := UR sig nD τ) (Lvl := ℕ) cfgs 0 defs₀ Variants.nat m (main (F := F)) (V m) :=
  Pipeline.hmain_prefix cfgs 0 defs₀ Variants.nat m main hostOps0 hostOps0_sub ops_fresh main_chain

/-- The host operations leave the argument as it was. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks and the proof data -/

/-- What window `w` fetches at point `t`. -/
def blk (c : Dev nD) (w : Fin cfg0.W) (t : Fin (cfg0 (F := F)).N) : ((cfg0.win w).xblock (cfg0.grid.coords t)).Idx → Elt F (cfg0.win w).elt :=
  ((cfg0.win w).blk t).view.read (Elt F) (V m c (Pipeline.arrRef spec0 w))

/-- What the point stores. -/
def stored (c : Dev nD) (t : Fin (cfg0 (F := F)).N) : Vec F S512x128 .f32 :=
  sbOut (grid0.coords t) (blk m c 0 t) (blk m c 1 t) (blk m c 2 t) (blk m c 3 t)

/-- The call's proof data: each input's staging buffer keeps its block, the output's holds `stored`. -/
def dats (_ : Fin 1) (c : Dev nD) : Dat τ (Elt F) Unit ℕ (UR sig nD τ) ℕ (cfg0 (F := F)) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => stored m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin (cfg0 (F := F)).N) : (dats m 0 c).after 0 t = blk m c 0 t := rfl
theorem after_1 (c : Dev nD) (t : Fin (cfg0 (F := F)).N) : (dats m 0 c).after 1 t = blk m c 1 t := rfl
theorem after_2 (c : Dev nD) (t : Fin (cfg0 (F := F)).N) : (dats m 0 c).after 2 t = blk m c 2 t := rfl
theorem after_3 (c : Dev nD) (t : Fin (cfg0 (F := F)).N) : (dats m 0 c).after 3 t = blk m c 3 t := rfl
theorem after_4 (c : Dev nD) (t : Fin (cfg0 (F := F)).N) : (dats m 0 c).after 4 t = stored m c t := rfl

/-- An input's staging buffer holds its block at every point, freshly fetched or kept. -/
theorem before_0 (c : Dev nD) (t : Fin (cfg0 (F := F)).N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (cfg0 (F := F)).N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin (cfg0 (F := F)).N) (d) : (dats m 0 c).before 2 t d = blk m c 2 t :=
  ((dats m 0 c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin (cfg0 (F := F)).N) (d) : (dats m 0 c).before 3 t d = blk m c 3 t :=
  ((dats m 0 c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)

/-! ## The body at a point -/

/-- Each window's staging buffer at a point. -/
abbrev st0 (t : Fin (cfg0 (F := F)).N) : Memref sig .tc .vmem S512x128 .bf16 := win0_0.stage (cfg0.slots t 0)
abbrev st1 (t : Fin (cfg0 (F := F)).N) : Memref sig .tc .vmem S16384x128 .bf16 := win0_1.stage (cfg0.slots t 1)
abbrev st2 (t : Fin (cfg0 (F := F)).N) : Memref sig .tc .vmem S16384x128 .bf16 := win0_2.stage (cfg0.slots t 2)
abbrev st3 (t : Fin (cfg0 (F := F)).N) : Memref sig .tc .vmem S256x256 .bf16 := win0_3.stage (cfg0.slots t 3)
abbrev st4 (t : Fin (cfg0 (F := F)).N) : Memref sig .tc .vmem S512x128 .f32 := win0_4.stage (cfg0.slots t 4)

/-- What the body finds, window by window, -/
def found (c : Dev nD) (t : Fin (cfg0 (F := F)).N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it leaves. -/
def left (c : Dev nD) (t : Fin (cfg0 (F := F)).N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

theorem body_at (c : Dev nD) (t : Fin (cfg0 (F := F)).N) :
    found m c t ⊢ wp frame (wpE (defs₀ (F := F)) Variants.nat c none) Set.univ (bodyAt0 t) (fun _ => left m c t) := by
  unfold found left bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold stored
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (blk m c 0 t) (blk m c 1 t) (blk m c 2 t) (blk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row_at (t : Fin (cfg0 (F := F)).N) :
    defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.nat () Set.univ := fun t => by
  rw [bigSep_W0, bigSep_W0, row_at]
  exact triple_restated (body_at m c t) rfl .rfl fun _ => .rfl

/-! ## The run -/

set_option backward.isDefEq.respectTransparency.types false in
/-- The call's run from any memory, every counter at zero at the end. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (obligation m c).loose) (hq := fun _ _ _ => rfl)
    (howed := fun _ _ => rfl) (V := V m) (hmain := up_to_call m) (hA := A_eq m) (hΦ := fun _ _ => rfl)

theorem kept (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by show ∀ w : Fin 5, (spec0 w).arr.view.ref ≠ main_arg0; decide))).trans (V_arg m c)

/-- The frame: every run ends, leaves the argument as it was, and ends with every counter at zero. -/
theorem frame_ok : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => kept m r h.1 c, h.2⟩) (run_all m ρ)

/-! ## The result, block by block -/

/-- Distinct points write distinct blocks. -/
theorem index_inj : ∀ t t' : Fin (cfg0 (F := F)).N, win0_4.index t = win0_4.index t' → t = t' :=
  (by decide +kernel : ∀ t t' : Fin grid0.N, win0_4.index t = win0_4.index t' → t = t')

theorem disjoint_blocks : ∀ t t' : Fin (cfg0 (F := F)).N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (index_inj t t' h)

/-- Block `t` of the result is what point `t` stores. -/
theorem block_at (c : Dev nD) (t : Fin (cfg0 (F := F)).N) (hf : (cfg0.win 4).flush t = true) :
    ((cfg0.win 4).blk t).view.read (Elt F) ((dats m 0 c).arrAt 4 (cfg0 (F := F)).N) = (cfg0.win 4).cut (grid0.coords t) (stored m c t) := by
  rw [(dats m 0 c).read_blk_arrAt_eq_flushed 4 disjoint_blocks (cfg0 (F := F)).N t t.isLt hf]
  show (cfg0.win 4).cut (grid0.coords t) ((dats m 0 c).after 4 t) = _
  rw [after_4]

/-- The run with the result named. -/
theorem run_result : θ_run defs (onTc (τ := τ) (main (F := F))) ⟨m, fun _ => 0, ρ⟩ fun r => ∀ c : Dev nD,
      r.2.mem ((c : Thread nD τ).loc main_v39) = (dats m 0 c).arrAt 4 (cfg0 (F := F)).N
      ∧ r.2.mem ((c : Thread nD τ).loc main_arg0) = m ((c : Thread nD τ).loc main_arg0) :=
  (θ_run defs _ _).mono (fun r h c => ⟨(h.1 c).1 4, kept m r h.1 c⟩) (run_all m ρ)

end Cert.Proof.KI

end
-- ==== Proof.Claims1.lean ====
/-
  Stick-breaking attention: the frames and the idealization's ledger.
-/
module

public import proofs.«01_k».proof.Defs
public import proofs.«01_k».proof.Proof.KRun
public import proofs.«01_k».proof.Proof.KIRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The stick-breaking kernel runs, keeps its argument and ends with every counter at zero. -/
theorem frame_k : Cert.quiescent_Kernel (hKernel := Cert.Kernel.Gen.facts) := fun m ρ _ => Cert.Proof.K.frame_ok m ρ

/-- So does its idealization. -/
theorem frame_ki : Cert.quiescent_KernelIdeal (hKernelIdeal := Cert.KernelIdeal.Gen.facts) := fun m ρ _ => Cert.Proof.KI.frame_ok m ρ

/-- So does the reference. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The one rewritten constant: the exponent at which the walk stops stands for the logarithm of zero. -/
theorem preserves_k : Cert.preserves_Kernel_KernelIdeal :=
  IdealRules.named_const.statement Cert.KernelIdeal.κ "exp_zero" .f32 0xC2D00000#32 ⊥ rfl

end Cert.Proof

end
-- ==== Proof.Post.lean ====
module

public import proofs.«01_k».proof.Defs
public import proofs.«01_k».proof.Proof.Gen.Kernel2Ideal
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Proof.Post
open Idealize.ShloMosaic Idealize.ShloMosaic.TcCoe Idealize.SL.Sem
open Cert.Kernel2Ideal Cert.Kernel2Ideal.Gen

variable (m : (ℓ : Loc nD τ sig) → Buf (Elt Ideal) ℓ)

/-- The blocks of every grid point: rows `256 t …` of the row arrays, the whole of every weight. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![0, 0] ∧ win0_13.index t = ![0, 0] ∧ win0_14.index t = ![0, 0]
    ∧ win0_15.index t = ![0, 0] ∧ win0_16.index t = ![t.val, 0] :=
  (by decide +kernel : ∀ t : Fin grid0.N, _)

/-- The reference's arguments are the kernel's. -/
structure Same (c : Dev nD) (W : Valuation Cert.Reference2Ideal.τ Cert.Reference2Ideal.sig (Elt Ideal)) : Prop where
  e0 : W (Proc.devRef .tc Cert.Reference2Ideal.main_arg0) = m ((c : Thread nD τ).loc main_arg0)
  e1 : W (Proc.devRef .tc Cert.Reference2Ideal.main_arg1) = m ((c : Thread nD τ).loc main_arg1)
  e2 : W (Proc.devRef .tc Cert.Reference2Ideal.main_arg2) = m ((c : Thread nD τ).loc main_arg2)
  e3 : W (Proc.devRef .tc Cert.Reference2Ideal.main_arg3) = m ((c : Thread nD τ).loc main_arg3)
  e4 : W (Proc.devRef .tc Cert.Reference2Ideal.main_arg4) = m ((c : Thread nD τ).loc main_arg4)
  e5 : W (Proc.devRef .tc Cert.Reference2Ideal.main_arg5) = m ((c : Thread nD τ).loc main_arg5)
  e6 : W (Proc.devRef .tc Cert.Reference2Ideal.main_arg6) = m ((c : Thread nD τ).loc main_arg6)
  e7 : W (Proc.devRef .tc Cert.Reference2Ideal.main_arg7) = m ((c : Thread nD τ).loc main_arg7)
  e8 : W (Proc.devRef .tc Cert.Reference2Ideal.main_arg8) = m ((c : Thread nD τ).loc main_arg8)
  e9 : W (Proc.devRef .tc Cert.Reference2Ideal.main_arg9) = m ((c : Thread nD τ).loc main_arg9)
  e10 : W (Proc.devRef .tc Cert.Reference2Ideal.main_arg10) = m ((c : Thread nD τ).loc main_arg10)
  e11 : W (Proc.devRef .tc Cert.Reference2Ideal.main_arg11) = m ((c : Thread nD τ).loc main_arg11)
  e12 : W (Proc.devRef .tc Cert.Reference2Ideal.main_arg12) = m ((c : Thread nD τ).loc main_arg12)
  e13 : W (Proc.devRef .tc Cert.Reference2Ideal.main_arg13) = m ((c : Thread nD τ).loc main_arg13)
  e14 : W (Proc.devRef .tc Cert.Reference2Ideal.main_arg14) = m ((c : Thread nD τ).loc main_arg14)
  e15 : W (Proc.devRef .tc Cert.Reference2Ideal.main_arg15) = m ((c : Thread nD τ).loc main_arg15)

variable {m} {c : Dev nD} {W : Valuation Cert.Reference2Ideal.τ Cert.Reference2Ideal.sig (Elt Ideal)}

theorem row_lt (t : Fin cfg0.N) (y : Fin 256) : t.val * 256 + y.val < 16384 := by
  have h : t.val < 64 := t.isLt
  omega

/-- The array row at which row `y` of point `t`'s block sits. -/
def row (t : Fin cfg0.N) (y : Fin 256) : Fin 16384 := ⟨t.val * 256 + y.val, row_lt t y⟩

/-- The rows after the output projection, of point `t`. -/
def v14 (m : (ℓ : Loc nD τ sig) → Buf (Elt Ideal) ℓ) (c : Dev nD) (t : Fin cfg0.N) := k0_pay11 (iblk m c 0 t) (iblk m c 1 t) (iblk m c 2 t) (iblk m c 3 t) (iblk m c 4 t)
  (iblk m c 5 t) (iblk m c 6 t) (iblk m c 7 t) (iblk m c 8 t) (iblk m c 9 t) (iblk m c 10 t) (iblk m c 11 t)
  (iblk m c 12 t) (iblk m c 13 t) (iblk m c 14 t) (iblk m c 15 t)

/-- Their normalised rows. -/
def v29 (m : (ℓ : Loc nD τ sig) → Buf (Elt Ideal) ℓ) (c : Dev nD) (t : Fin cfg0.N) := k0_pay12 (iblk m c 0 t) (iblk m c 1 t) (iblk m c 2 t) (iblk m c 3 t) (iblk m c 4 t)
  (iblk m c 5 t) (iblk m c 6 t) (iblk m c 7 t) (iblk m c 8 t) (iblk m c 9 t) (iblk m c 10 t) (iblk m c 11 t)
  (iblk m c 12 t) (iblk m c 13 t) (iblk m c 14 t) (iblk m c 15 t)

/-- The sum of the first three hidden tiles' products. -/
def v63 (m : (ℓ : Loc nD τ sig) → Buf (Elt Ideal) ℓ) (c : Dev nD) (t : Fin cfg0.N) := k0_pay13 (iblk m c 0 t) (iblk m c 1 t) (iblk m c 2 t) (iblk m c 3 t) (iblk m c 4 t)
  (iblk m c 5 t) (iblk m c 6 t) (iblk m c 7 t) (iblk m c 8 t) (iblk m c 9 t) (iblk m c 10 t) (iblk m c 11 t)
  (iblk m c 12 t) (iblk m c 13 t) (iblk m c 14 t) (iblk m c 15 t)

/-- The last hidden tile. -/
def v70 (m : (ℓ : Loc nD τ sig) → Buf (Elt Ideal) ℓ) (c : Dev nD) (t : Fin cfg0.N) := k0_pay14 (iblk m c 0 t) (iblk m c 1 t) (iblk m c 2 t) (iblk m c 3 t) (iblk m c 4 t)
  (iblk m c 5 t) (iblk m c 6 t) (iblk m c 7 t) (iblk m c 8 t) (iblk m c 9 t) (iblk m c 10 t) (iblk m c 11 t)
  (iblk m c 12 t) (iblk m c 13 t) (iblk m c 14 t) (iblk m c 15 t)

open Cert.Reference2Ideal.Value (res_main_v5 res_main_v21 res_main_v24 res_main_v50) in
theorem v14_at (s : Same m c W) (t : Fin cfg0.N) (y : Fin 256) (j : Fin 1024) :
    v14 m c t (ix2 y j) = res_main_v5 W (ix2 (row t y) j) := by
  unfold res_main_v5
  rw [s.e0, s.e1, s.e2, s.e3, s.e4, s.e6, s.e7]
  pointwise [v14, k0_pay11, k0_pay2]
  blk_point [iblk, V, idx t]
  all_goals rfl

open Cert.Reference2Ideal.Value (res_main_v5 res_main_v21 res_main_v24 res_main_v50)

/-- The reference's row after the output projection. -/
def a5 (W : Valuation Cert.Reference2Ideal.τ Cert.Reference2Ideal.sig (Elt Ideal)) (r : Fin 16384) (k : Fin 1024) : EReal :=
  res_main_v5 W (ix2 r k)

/-- A row divided by its root mean square. -/
def normed (a : Fin 1024 → EReal) (k : Fin 1024) : EReal :=
  a k * Ideal.rsqrt (Ideal.div (∑ x, a x * a x) (Ideal.ofBits FTy.f32 1149239296#32) + Ideal.ofBits FTy.f32 897988541#32)

/-- One hidden unit of the reference's feed-forward part, after the rectifier. -/
def hid (W : Valuation Cert.Reference2Ideal.τ Cert.Reference2Ideal.sig (Elt Ideal)) (r : Fin 16384) (k : Fin 4096) : EReal :=
  max (∑ x, normed (a5 W r) x * W (Proc.devRef .tc Cert.Reference2Ideal.main_arg8) (ix1 x)
    * W (Proc.devRef .tc Cert.Reference2Ideal.main_arg9) (ix2 x k)) 0

theorem v21_at (r : Fin 16384) (j : Fin 4096) : res_main_v21 W (ix2 r j) = hid W r j := by
  unfold res_main_v21
  pointwise
  rfl

theorem v29_at (s : Same m c W) (t : Fin cfg0.N) (y : Fin 256) (j : Fin 1024) :
    v29 m c t (ix2 y j) = normed (a5 W (row t y)) j * W (Proc.devRef .tc Cert.Reference2Ideal.main_arg8) (ix1 j) := by
  rw [s.e8]
  pointwise [v29, k0_pay12, k0_pay3]
  generalize hu : k0_pay2 (F := Ideal) _ _ _ _ _ _ _ = u
  have h (k) : u (ix2 y k) = a5 W (row t y) k := by rw [← hu]; exact v14_at s t y k
  simp only [h]
  unfold normed
  blk_point [iblk, V, idx t]

/-- Hidden unit `k` squared, times its row of the down-projection. -/
def term (W : Valuation Cert.Reference2Ideal.τ Cert.Reference2Ideal.sig (Elt Ideal)) (r : Fin 16384) (j : Fin 1024) (k : Fin 4096) : EReal :=
  hid W r k * hid W r k * W (Proc.devRef .tc Cert.Reference2Ideal.main_arg10) (ix2 k j)

theorem v63_at (s : Same m c W) (t : Fin cfg0.N) (y : Fin 256) (j : Fin 1024) :
    v63 m c t (ix2 y j) = ∑ k : Fin 1024, term W (row t y) j ⟨k.val, by omega⟩
      + ∑ k : Fin 1024, term W (row t y) j ⟨1024 + k.val, by omega⟩
      + ∑ k : Fin 1024, term W (row t y) j ⟨2048 + k.val, by omega⟩ := by
  unfold term hid
  rw [s.e9, s.e10]
  pointwise [v63, k0_pay13, k0_pay6, k0_pay5, k0_pay4]
  generalize hu : k0_pay3 (F := Ideal) _ _ _ _ _ _ _ _ = u
  have h (k) : u (ix2 y k) = normed (a5 W (row t y)) k * W (Proc.devRef .tc Cert.Reference2Ideal.main_arg8) (ix1 k) := by
    rw [← hu]; exact v29_at s t y k
  generalize hu' : k0_pay12 (F := Ideal) _ _ _ _ _ _ _ _ _ _ _ _ _ _ _ _ = u'
  have h' (k) : u' (ix2 y k) = normed (a5 W (row t y)) k * W (Proc.devRef .tc Cert.Reference2Ideal.main_arg8) (ix1 k) := by
    rw [← hu']; exact v29_at s t y k
  simp only [h, h']
  blk_point [iblk, V, idx t]

theorem v70_at (s : Same m c W) (t : Fin cfg0.N) (y : Fin 256) (j : Fin 1024) :
    v70 m c t (ix2 y j) = hid W (row t y) ⟨3072 + j.val, by omega⟩ * hid W (row t y) ⟨3072 + j.val, by omega⟩ := by
  unfold hid
  rw [s.e9]
  pointwise [v70, k0_pay14, k0_pay7]
  generalize hu' : k0_pay12 (F := Ideal) _ _ _ _ _ _ _ _ _ _ _ _ _ _ _ _ = u'
  have h' (k) : u' (ix2 y k) = normed (a5 W (row t y)) k * W (Proc.devRef .tc Cert.Reference2Ideal.main_arg8) (ix1 k) := by
    rw [← hu']; exact v29_at s t y k
  simp only [h']
  blk_point [iblk, V, idx t]

/-- The reference's row after the feed-forward part. -/
def a24 (W : Valuation Cert.Reference2Ideal.τ Cert.Reference2Ideal.sig (Elt Ideal)) (r : Fin 16384) (k : Fin 1024) : EReal :=
  res_main_v24 W (ix2 r k)

/-- A sum over the hidden units is the sum of the four tiles' sums. -/
theorem sum_tiles (f : Fin 4096 → EReal) : ∑ k, f k
    = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  rw [show (∑ k, f k) = ∑ k : Fin (3072 + 1024), f k from rfl, Fin.sum_univ_add]
  rw [show (∑ k : Fin 3072, f (Fin.castAdd 1024 k)) = ∑ k : Fin (2048 + 1024), f (Fin.castAdd 1024 k) from rfl, Fin.sum_univ_add]
  rw [show (∑ k : Fin 2048, f (Fin.castAdd 1024 (Fin.castAdd 1024 k))) = ∑ k : Fin (1024 + 1024), f (Fin.castAdd 1024 (Fin.castAdd 1024 k)) from rfl, Fin.sum_univ_add]
  rfl

theorem a24_eq (r : Fin 16384) (j : Fin 1024) : a24 W r j = a5 W r j
    + (∑ k : Fin 1024, term W r j ⟨k.val, by omega⟩ + ∑ k : Fin 1024, term W r j ⟨1024 + k.val, by omega⟩
      + ∑ k : Fin 1024, term W r j ⟨2048 + k.val, by omega⟩ + ∑ k : Fin 1024, term W r j ⟨3072 + k.val, by omega⟩) := by
  rw [← sum_tiles]
  unfold a24 res_main_v24 term
  pointwise
  generalize hu : res_main_v21 W = u
  have h (k) : u (ix2 r k) = hid W r k := by rw [← hu]; exact v21_at r k
  simp only [h]
  rfl

/-- The row after the feed-forward part and the gate, of point `t`. -/
def v105 (m : (ℓ : Loc nD τ sig) → Buf (Elt Ideal) ℓ) (c : Dev nD) (t : Fin cfg0.N) :=
  k0_pay8 (F := Ideal) (v14 m c t) (v63 m c t) (v70 m c t) (View.ld (iblk m c 10 t) r0_11) (iblk m c 11 t)
    (iblk m c 12 t) (iblk m c 13 t) (iblk m c 5 t) (iblk m c 14 t)

theorem v105_at (s : Same m c W) (t : Fin cfg0.N) (y : Fin 256) (j : Fin 1024) :
    v105 m c t (ix2 y j) = res_main_v50 W (ix2 (row t y) j) := by
  have h24 (k : Fin 1024) : v14 m c t (ix2 y k) + (v63 m c t (ix2 y k)
      + ∑ x : Fin 1024, v70 m c t (ix2 y x) * iblk m c 10 t (ix2 ⟨3072 + x.val, by omega⟩ k)) = a24 W (row t y) k := by
    rw [a24_eq, v63_at s]
    refine congrArg₂ (· + ·) (v14_at s t y k) (congrArg₂ (· + ·) rfl (Finset.sum_congr rfl fun x _ => ?_))
    rw [v70_at s, term, s.e10]
    blk_point [iblk, V, idx t]
  unfold res_main_v50
  pointwise [v105, k0_pay8]
  simp only [h24]
  rw [s.e5, s.e11, s.e12, s.e13, s.e14]
  unfold Ideal.logistic
  generalize hu : res_main_v24 W = u
  have h (k) : u (ix2 (row t y) k) = a24 W (row t y) k := by rw [← hu]; rfl
  simp only [h]
  blk_point [iblk, V, idx t]
  all_goals rfl

/-- The sum of the squares of a row, of point `t`. -/
def v110 (m : (ℓ : Loc nD τ sig) → Buf (Elt Ideal) ℓ) (c : Dev nD) (t : Fin cfg0.N) :=
  k0_pay10 (F := Ideal) (v14 m c t) (v63 m c t) (v70 m c t) (View.ld (iblk m c 10 t) r0_11) (iblk m c 11 t)
    (iblk m c 12 t) (iblk m c 13 t) (iblk m c 5 t) (iblk m c 14 t)

theorem v110_at (t : Fin cfg0.N) (y : Fin 256) :
    v110 m c t (ix2 y 0) = (∑ x : Fin 1024, v105 m c t (ix2 y x) * v105 m c t (ix2 y x) : EReal) := by
  pointwise [v110, v105, k0_pay10, k0_pay8]

/-- The reference's result. -/
def out63 (W : Valuation Cert.Reference2Ideal.τ Cert.Reference2Ideal.sig (Elt Ideal)) :
    FVec Ideal Cert.Reference2Ideal.S16384x1024 .f32 :=
  mulf (mulf (res_main_v50 W) (broadcastInDim Cert.Reference2Ideal.S16384x1024 ![0, 1] Cert.Reference2Ideal.Gen.bcast_S16384x1_S16384x1024_0_1 (Host.rsqrt (addf (Host.divf (broadcastInDim Cert.Reference2Ideal.S16384x1 ![0] Cert.Reference2Ideal.Gen.bcast_S16384_S16384x1_0 (Host.reduceAdd (mulf (res_main_v50 W) (res_main_v50 W)) (constant Cert.Reference2Ideal.S_ .f32 0x00000000#32) Cert.Reference2Ideal.Gen.reducesTo_S16384x1024_S16384_d1 Cert.Reference2Ideal.Gen.h_S_)) (broadcastInDim Cert.Reference2Ideal.S16384x1 ![] Cert.Reference2Ideal.Gen.bcast_S_S16384x1 (constant Cert.Reference2Ideal.S_ .f32 0x44800000#32))) (broadcastInDim Cert.Reference2Ideal.S16384x1 ![] Cert.Reference2Ideal.Gen.bcast_S_S16384x1 (constant Cert.Reference2Ideal.S_ .f32 0x358637BD#32)))))) (broadcastInDim Cert.Reference2Ideal.S16384x1024 ![0, 1] Cert.Reference2Ideal.Gen.bcast_S1x1024_S16384x1024_0_1 (broadcastInDim Cert.Reference2Ideal.S1x1024 ![1] Cert.Reference2Ideal.Gen.bcast_S1024_S1x1024_1 (W (Proc.devRef .tc Cert.Reference2Ideal.main_arg15))))

/-- What point `t` stores is the reference's result at the rows of its block. -/
theorem point (s : Same m c W) (t : Fin cfg0.N) (y : Fin 256) (j : Fin 1024) :
    k0_pay1 (F := Ideal) (v105 m c t) (k0_pay9 (iblk m c 15 t)) (v110 m c t) (Scalar.ofBits .f32 0x44800000#32) (ix2 y j)
      = out63 W (ix2 (row t y) j) := by
  have h (k) : v105 m c t (ix2 y k) = (res_main_v50 W (ix2 (row t y) k) : EReal) := v105_at s t y k
  pointwise [k0_pay1, k0_pay9, out63]
  rw [v110_at, s.e15]
  simp only [h]
  blk_point [iblk, V, idx t]

/-- The kernel's result array is the reference's. -/
theorem final (s : Same m c W) : (dats m 0 c).arrAt 16 (cfgs 0).N = out63 W := by
  refine (dats m 0 c).arrAt_eq_of_covers 16 _ (by decide +kernel) fun t _ y => ?_
  blk_simp
  rw [after0_16]
  frame_out
  refine Eq.trans (congrArg _ (eq_ix2 (show S256x1024.Idx from y))) ((point s t (y 0) (y 1)).trans (congrArg (out63 W) ?_))
  blk_ext [idx t]
  rfl

end Cert.Proof.Post
-- ==== Proof.Claims2.lean ====
/-
  The layer's closing call (output projection, MLP, gate, last norm): the frames and the idealization's ledger.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Post
public import Idealize.ShloMosaic.Adequacy
public import Idealize.ShloMosaic.Init

@[expose] public section

noncomputable section

namespace Cert.Proof

open Idealize.ShloMosaic Idealize.SL.Sem

/-- The closing call runs, keeps its arguments and ends with every counter at zero. -/
theorem frame_k2 : Cert.quiescent_Kernel2 (hKernel2 := Cert.Kernel2.Gen.facts) := fun m ρ _ => Cert.Kernel2.Gen.frame m ρ

/-- So does its idealization. -/
theorem frame_ki2 : Cert.quiescent_Kernel2Ideal (hKernel2Ideal := Cert.Kernel2Ideal.Gen.facts) := fun m ρ _ => Cert.Kernel2Ideal.Gen.frame m ρ

/-- So does the reference. -/
theorem frame_ri2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- No operation of the closing call is rewritten. -/
theorem preserves_k2 : Cert.preserves_Kernel2_Kernel2Ideal := trivial

/-- The closing call's result, every element of it, is the reference's, in exact arithmetic and for any arguments. -/
theorem algebraic_k2 : Cert.algebraic_Kernel2Ideal_Reference2Ideal (hKernel2Ideal := Cert.Kernel2Ideal.Gen.facts)
    (hReference2Ideal := Cert.Reference2Ideal.Gen.facts) := by
  intro m g m' g' _ agree
  have same (c : Dev Cert.Kernel2Ideal.nD) : Post.Same m c (StableHlo.launchContents m' c) := by
    obtain ⟨h0, h1, h2, h3, h4, h5, h6, h7, h8, h9, h10, h11, h12, h13, h14, h15⟩ := agree c
    exact ⟨h0, h1, h2, h3, h4, h5, h6, h7, h8, h9, h10, h11, h12, h13, h14, h15⟩
  refine ⟨fun c => (Cert.Kernel2Ideal.Gen.dats m 0 c).arrAt 16 (Cert.Kernel2Ideal.cfgs 0).N, ?_, ?_⟩
  · exact Cert.Kernel2Ideal.Value.run_blocks m g
  · refine (θ_run Cert.Reference2Ideal.defs _ _).mono (fun r h c => ⟨(h c).1.trans ?_, (h c).2⟩)
      (Cert.Reference2Ideal.Value.run (F := Ideal) m' g')
    exact (Post.final (same c)).symm

end Cert.Proof

end
-- ==== Proof.FKRun.lean ====
/-
  Forgetting attention, the idealized program: the whole call. The body's run at every grid point gives the
  call's run, its frame, and the contents of the result array block by block.
-/
module

public import proofs.«01_k».proof.Proof.FKBody
public import Idealize.ShloMosaic.Lib.Pipeline.Value

@[expose] public section

set_option maxRecDepth 16384

noncomputable section

namespace Cert.Proof.FK

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code before the call -/

/-- A core's arrays when the call begins: after the host operations. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
/-- The program up to the call: the host operations. -/
theorem up_to_call : Pipeline.HMain (Ix := Unit) (Name := ℕ) (U := UR sig nD τ) (Lvl := ℕ) cfgs 0 defs₀ Variants.nat m (main (F := F)) (V m) :=
  Pipeline.hmain_prefix cfgs 0 defs₀ Variants.nat m main hostOps0 hostOps0_sub ops_fresh main_chain

/-- The host operations leave the argument as it was. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The scratch, as the body names it. -/
abbrev scr : Memref sig .tc .vmem S8x128 .f32 := Memref.whole cc0_scratch0

/-- Between points the scratch is held at some contents, and the generator's register at some state. -/
theorem PhiA0_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-! ## The windows' blocks and the proof data -/

/-- What window `w` fetches at point `t`. -/
def blk (c : Dev nD) (w : Fin cfg0.W) (t : Fin (cfg0 (F := F)).N) : ((cfg0.win w).xblock (cfg0.grid.coords t)).Idx → Elt F (cfg0.win w).elt :=
  ((cfg0.win w).blk t).view.read (Elt F) (V m c (Pipeline.arrRef spec0 w))

/-- The output window is not followed: what a point stores depends on what the scratch holds. -/
def fgt : Fin (cfg0 (F := F)).W → Bool := fun w => w == 4

/-- The call's proof data: each input's staging buffer keeps its block; of the output's nothing is said. -/
def dats (_ : Fin 1) (c : Dev nD) : Dat τ (Elt F) Unit ℕ (UR sig nD τ) ℕ (cfg0 (F := F)) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => fun _ => FloatOps.ofBits .f32 0#32
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin (cfg0 (F := F)).N) : (dats m 0 c).after 0 t = blk m c 0 t := rfl
theorem after_1 (c : Dev nD) (t : Fin (cfg0 (F := F)).N) : (dats m 0 c).after 1 t = blk m c 1 t := rfl
theorem after_2 (c : Dev nD) (t : Fin (cfg0 (F := F)).N) : (dats m 0 c).after 2 t = blk m c 2 t := rfl
theorem after_3 (c : Dev nD) (t : Fin (cfg0 (F := F)).N) : (dats m 0 c).after 3 t = blk m c 3 t := rfl

/-- An input's staging buffer holds its block at every point, freshly fetched or kept. -/
theorem before_0 (c : Dev nD) (t : Fin (cfg0 (F := F)).N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (cfg0 (F := F)).N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin (cfg0 (F := F)).N) (d) : (dats m 0 c).before 2 t d = blk m c 2 t :=
  ((dats m 0 c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin (cfg0 (F := F)).N) (d) : (dats m 0 c).before 3 t d = blk m c 3 t :=
  ((dats m 0 c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)

/-! ## The body at a point -/

/-- Each window's staging buffer at a point. -/
abbrev st0 (t : Fin (cfg0 (F := F)).N) : Memref sig .tc .vmem S512x128 .bf16 := win0_0.stage (cfg0.slots t 0)
abbrev st1 (t : Fin (cfg0 (F := F)).N) : Memref sig .tc .vmem S16384x128 .bf16 := win0_1.stage (cfg0.slots t 1)
abbrev st2 (t : Fin (cfg0 (F := F)).N) : Memref sig .tc .vmem S16384x128 .bf16 := win0_2.stage (cfg0.slots t 2)
abbrev st3 (t : Fin (cfg0 (F := F)).N) : Memref sig .tc .vmem S1x2x16384 .f32 := win0_3.stage (cfg0.slots t 3)
abbrev st4 (t : Fin (cfg0 (F := F)).N) : Memref sig .tc .vmem S512x128 .f32 := win0_4.stage (cfg0.slots t 4)

/-- What the body finds, window by window, -/
def found (c : Dev nD) (t : Fin (cfg0 (F := F)).N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare d))

/-- and what it leaves. -/
def left (c : Dev nD) (t : Fin (cfg0 (F := F)).N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ (∃ d, owns (c : Thread nD τ) (st4 t) fullShare d))

theorem body_at (c : Dev nD) (t : Fin (cfg0 (F := F)).N) :
    found m c t ⊢ wp frame (wpE (defs₀ (F := F)) Variants.nat c none) Set.univ (bodyAt0 t) (fun _ => left m c t) := by
  unfold found left bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, PhiA0_eq]
  iintro ⟨⟨HS, Hr⟩, Ho, ⟨%d0, H0⟩, ⟨%d1, H1⟩, ⟨%d2, H2⟩, ⟨%d3, H3⟩, ⟨%d4, H4⟩⟩
  iapply (body_run c (grid0.coords t) _ _ _ _ _ _ _ _ _ _ _ _ (blk m c 0 t) (blk m c 1 t) (blk m c 2 t) (blk m c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%na, %nb, H4⟩, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  iexists _; iexact H4

theorem row_at (t : Fin (cfg0 (F := F)).N) :
    defs₀ (F := F) .tc cfg0.body (cfg0.bodyArgs t (cfg0.slots t)) = bodyAt0 t := by
  unfold defs₀; rw [Defs.onTc_tc]

/-- The body meets its obligation at every point. -/
theorem obligation (c : Dev nD) : Pipeline.BodyObligation (dats (F := F) m 0 c) (defs₀ (F := F)) Variants.nat () Set.univ fgt := fun t => by
  rw [bigSep_W0, bigSep_W0, row_at]
  exact triple_restated (body_at m c t) rfl .rfl fun _ => .rfl

/-! ## The run -/

set_option backward.isDefEq.respectTransparency.types false in
/-- The call's run from any memory, every counter at zero at the end. -/
theorem run_all : θ_run defs (onTc (τ := τ) (main (F := F))) (s₀ m ρ) (fun r => (Pipeline.RDat.FramePost (cfgs 0) (fun c => (dats m 0 c).toRForget fgt) (V m)) r ∧ r.2.sem = fun _ => 0) :=
  Pipeline.θ_run_frame_forget_shared (Q' := _) cfgs (dats m) (0 : Fin 1) launch₀0 defs₀ Variants.nat fgt m ρ main
    (hbody := fun c => (obligation m c).loose) (hq := fun _ _ _ => rfl)
    (howed := fun _ _ => rfl) (V := V m) (hmain := up_to_call m) (hA := A_eq m) (hΦ := fun _ _ => rfl)

theorem kept (r : PUnit × MemSt nD τ sig (Elt F)) (h : Pipeline.RDat.FramePost (cfgs 0) (fun c => (dats m 0 c).toRForget fgt) (V m) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨((h c).2 main_arg0 (Pipeline.mem_restRefs_of main_arg0 (by decide) (by show ∀ w : Fin 5, (spec0 w).arr.view.ref ≠ main_arg0; decide))).trans (V_arg m c),
    ((h c).2 main_arg1 (Pipeline.mem_restRefs_of main_arg1 (by decide) (by show ∀ w : Fin 5, (spec0 w).arr.view.ref ≠ main_arg1; decide))).trans (V_arg1 m c)⟩

/-- The frame: every run ends, leaves the arguments as they were, and ends with every counter at zero. -/
theorem frame_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => kept m r h.1 c, h.2⟩) (run_all m ρ)

end Cert.Proof.FK

end
-- ==== Proof.FIBody.lean ====
/-
  The forgetting attention, the idealized program: what one grid point computes as a function of its four input
  blocks and of the two key norms the scratch holds, and the run of its body. The early exit of the walk over the key
  tiles is a call of a label that calls itself; it is met by induction on the number of tiles left.
-/
module

public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

noncomputable section

namespace Cert.Proof.FI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The walk over the key tiles -/

/-- What the walk carries: the next tile, the largest exponent left, and per head the running maximum, the running sum
    and the accumulator. -/
abbrev St (F : FTy → Type) := BitVec 32 × F .f32 × FVec F S512x1 .f32 × FVec F S512x1 .f32 × FVec F S512x128 .f32 × FVec F S512x1 .f32 × FVec F S512x1 .f32 × FVec F S512x128 .f32

/-- The tile number when `n` tiles are left: `n - 1` as a word. -/
def ctr (n : ℕ) : BitVec 32 := BitVec.ofNat 32 n - 1#32

/-- The 512 rows of a key or value block that tile `w` reads. -/
def tileAt (x : Vec F S16384x128 .bf16) (w : BitVec 32) (h : k0_chk1 w) : Vec F S512x128 .bf16 :=
  View.ld x (Rect.unit (s := S16384x128) (k0_off5 w) S512x128.size (k0_off5_inb w h))

/-- The first head's 512 decays that tile `w` reads. -/
def decA (x : Vec F S1x2x16384 .f32) (w : BitVec 32) (h : k0_chk1 w) : Vec F S1x1x512 .f32 :=
  View.ld x (Rect.unit (s := S1x2x16384) (k0_off6 w) S1x1x512.size (k0_off6_inb w h))

/-- The second head's 512 decays that tile `w` reads. -/
def decB (x : Vec F S1x2x16384 .f32) (w : BitVec 32) (h : k0_chk1 w) : Vec F S1x1x512 .f32 :=
  View.ld x (Rect.unit (s := S1x2x16384) (k0_off7 w) S1x1x512.size (k0_off7_inb w h))

/-- Whether the walk goes on. -/
def goes (s : St F) : Prop :=
  Scalar.andi (Scalar.cmpi .sge s.1 0#32) (Scalar.cmpf .oge s.2.1 (Named.named κ "exp_zero" 0xC2D20000#32 : F .f32)) = 1#1

instance (s : St F) : Decidable (goes s) := by unfold goes; infer_instance

/-- One tile of the walk, on the tile's rows of the keys, of the values and of the decays. -/
def stepOn (v34 : FVec F S512x128 .bf16) (v42 : FVec F S512x1 .f32) (v47 : FVec F S512x128 .bf16) (v55 : FVec F S512x1 .f32)
    (kb vb : Vec F S512x128 .bf16) (ca cb : Vec F S1x1x512 .f32) (s : St F) : St F :=
  (Scalar.subi s.1 1#32,
    k0_pay7 v55 s.2.2.2.2.2.1 (k0_pay58 v34 v42 s.2.2.1 kb ca) (k0_pay59 cb) (k0_pay60 v47 kb cb),
    k0_pay53 v34 s.2.2.1 kb ca, k0_pay56 v34 s.2.2.1 s.2.2.2.1 kb ca, k0_pay57 v34 s.2.2.1 s.2.2.2.2.1 kb vb ca,
    k0_pay2 s.2.2.2.2.2.1 (k0_pay60 v47 kb cb), k0_pay5 s.2.2.2.2.2.1 s.2.2.2.2.2.2.1 (k0_pay60 v47 kb cb),
    k0_pay6 s.2.2.2.2.2.1 s.2.2.2.2.2.2.2 (k0_pay50 vb) (k0_pay60 v47 kb cb))

/-- The walk with at most `n` tiles left. -/
def walk (x1 x2 : Vec F S16384x128 .bf16) (x3 : Vec F S1x2x16384 .f32) (v34 : FVec F S512x128 .bf16) (v42 : FVec F S512x1 .f32)
    (v47 : FVec F S512x128 .bf16) (v55 : FVec F S512x1 .f32) : ℕ → St F → St F
  | 0, s => s
  | n + 1, s => if goes s then
      (if h : k0_chk1 s.1 then walk x1 x2 x3 v34 v42 v47 v55 n
        (stepOn v34 v42 v47 v55 (tileAt x1 s.1 h) (tileAt x2 s.1 h) (decA x3 s.1 h) (decB x3 s.1 h) s) else s)
    else s

theorem ctr_zero : ctr 0 = 4294967295#32 := by decide

/-- Each tile number of the grid is in range. -/
theorem chk_ctr : ∀ n : Fin 32, k0_chk1 (ctr (n.val + 1)) := by decide +kernel

theorem ctr_pred (n : ℕ) : Scalar.subi (ctr (n + 1)) 1#32 = ctr n := by
  show (BitVec.ofNat 32 (n + 1) - 1#32) - 1#32 = BitVec.ofNat 32 n - 1#32
  rw [BitVec.ofNat_add]
  generalize BitVec.ofNat 32 n = x
  show x + 1#32 - 1#32 - 1#32 = x - 1#32
  rw [BitVec.add_sub_cancel]

/-- With no tile left the walk stops. -/
theorem not_goes_zero (s : St F) (h : s.1 = ctr 0) : ¬ goes s := by
  unfold goes
  rw [h, ctr_zero]
  show ¬ (0#1 &&& _ = 1#1)
  rw [BitVec.zero_and]; decide

/-- The keys, the values and the decays, held. -/
def held (c : Dev nD) (arg3 arg4 : Memref sig .tc .vmem S16384x128 .bf16) (arg5 : Memref sig .tc .vmem S1x2x16384 .f32)
    (x1 x2 : Vec F S16384x128 .bf16) (x3 : Vec F S1x2x16384 .f32) : sProp 𝕄 :=
  iprop(owns (c : Thread nD τ) arg3 fullShare x1 ∗ owns (c : Thread nD τ) arg4 fullShare x2 ∗ owns (c : Thread nD τ) arg5 fullShare x3)

/-- The walk's specification: holding the keys, the values and the decays, give them back with the walk's result. -/
def spec (c : Dev nD) (arg3 arg4 : Memref sig .tc .vmem S16384x128 .bf16) (arg5 : Memref sig .tc .vmem S1x2x16384 .f32)
    (x1 x2 : Vec F S16384x128 .bf16) (x3 : Vec F S1x2x16384 .f32) (r : St F) : sWPT 𝕄 (St F) :=
  sWPT.consume (held c arg3 arg4 arg5 x1 x2 x3) >>= fun _ => sWPT.produce (held c arg3 arg4 arg5 x1 x2 x3) >>= fun _ => Pure.pure r

theorem spec_apply (c : Dev nD) (arg3 arg4 : Memref sig .tc .vmem S16384x128 .bf16) (arg5 : Memref sig .tc .vmem S1x2x16384 .f32)
    (x1 x2 : Vec F S16384x128 .bf16) (x3 : Vec F S1x2x16384 .f32) (r : St F) (K : St F → sProp 𝕄) :
    spec c arg3 arg4 arg5 x1 x2 x3 r K = iprop(held c arg3 arg4 arg5 x1 x2 x3 ∗ (held c arg3 arg4 arg5 x1 x2 x3 -∗ K r)) := by
  unfold spec; simp only [spec_simps]

/-- The walk with at most `n` tiles left meets its specification, at the variant `n`. -/
theorem spec_le (c : Dev nD) (E : Set ℕ) (i : grid0.Coords) (arg3 : Memref sig .tc .vmem S16384x128 .bf16) (h3 : arg3.IsWhole)
    (arg4 : Memref sig .tc .vmem S16384x128 .bf16) (h4 : arg4.IsWhole) (arg5 : Memref sig .tc .vmem S1x2x16384 .f32) (h5 : arg5.IsWhole)
    (x1 x2 : Vec F S16384x128 .bf16) (x3 : Vec F S1x2x16384 .f32)
    (v34 : FVec F S512x128 .bf16) (v42 : FVec F S512x1 .f32) (v47 : FVec F S512x128 .bf16) (v55 : FVec F S512x1 .f32) :
    ∀ n, n ≤ 32 → ∀ s : St F, s.1 = ctr n → ∀ K, spec c arg3 arg4 arg5 x1 x2 x3 (walk x1 x2 x3 v34 v42 v47 v55 n s) K
      ⊢ wp frame (wpE (defs₀ (F := F)) Variants.nat (c : Thread nD τ) (some n)) E
          (defs₀ (F := F) .tc 1 ⟨i, arg3, h3, arg4, h4, arg5, h5, v34, v42, v47, v55, s.1, s.2.1, s.2.2.1, s.2.2.2.1, s.2.2.2.2.1, s.2.2.2.2.2.1, s.2.2.2.2.2.2.1, s.2.2.2.2.2.2.2⟩) K := by
  intro n
  induction n with
  | zero =>
    intro _ s hs K
    rw [spec_apply]
    show _ ⊢ wp frame (wpE (defs₀ (F := F)) Variants.nat (c : Thread nD τ) (some 0)) E
      (cc0_while1 i arg3 h3 arg4 h4 arg5 h5 v34 v42 v47 v55 s.1 s.2.1 s.2.2.1 s.2.2.2.1 s.2.2.2.2.1 s.2.2.2.2.2.1 s.2.2.2.2.2.2.1 s.2.2.2.2.2.2.2) K
    simp only [cc0_while1_eq_skeleton]; unfold cc0_while1_skel
    dsimp only
    rw [if_neg (show ¬ Scalar.andi _ _ = 1#1 from not_goes_zero s hs)]
    iintro ⟨H, Hk⟩
    rw [Prog.pure_eq_ret, wp_ret]; imodintro
    unfold walk
    iapply Hk; iexact H
  | succ n ih =>
    intro hn s hs K
    rw [spec_apply]
    show _ ⊢ wp frame (wpE (defs₀ (F := F)) Variants.nat (c : Thread nD τ) (some (n + 1))) E
      (cc0_while1 i arg3 h3 arg4 h4 arg5 h5 v34 v42 v47 v55 s.1 s.2.1 s.2.2.1 s.2.2.2.1 s.2.2.2.2.1 s.2.2.2.2.2.1 s.2.2.2.2.2.2.1 s.2.2.2.2.2.2.2) K
    simp only [cc0_while1_eq_skeleton]; unfold cc0_while1_skel
    dsimp only
    unfold walk
    by_cases hg : goes s
    swap
    · rw [if_neg hg, if_neg (show ¬ Scalar.andi _ _ = 1#1 from hg)]
      iintro ⟨H, Hk⟩
      rw [Prog.pure_eq_ret, wp_ret]; imodintro
      iapply Hk; iexact H
    · have hc : k0_chk1 s.1 := by rw [hs]; exact chk_ctr ⟨n, hn⟩
      rw [if_pos hg, dif_pos hc, if_pos (show Scalar.andi _ _ = 1#1 from hg)]
      simp only [k0_part5_eq_skeleton]; unfold k0_part5_skel
      simp only [Prog.lift, Prog.bind_op, Prog.bind_ret, Prog.pure_eq_ret]
      unfold held owns
      iintro ⟨⟨⟨%f1, %hf1, H1⟩, ⟨%f2, %hf2, H2⟩, ⟨%f3, %hf3, H3⟩⟩, Hk⟩
      iapply (wp_assume Variants.nat (c : Thread nD τ) (some (n + 1)) E hc)
      iapply (wp_load Variants.nat (c : Thread nD τ) (some (n + 1)) E (m := arg3) (View.setOn_subset_set _ _)) $$ H1; iintro H1
      iapply (wp_load Variants.nat (c : Thread nD τ) (some (n + 1)) E (m := arg4) (View.setOn_subset_set _ _)) $$ H2; iintro H2
      iapply (wp_load Variants.nat (c : Thread nD τ) (some (n + 1)) E (m := arg5) (View.setOn_subset_set _ _)) $$ H3; iintro H3
      iapply (wp_load Variants.nat (c : Thread nD τ) (some (n + 1)) E (m := arg5) (View.setOn_subset_set _ _)) $$ H3; iintro H3
      have hl1 : View.readAt (Elt F) arg3.view (Rect.unit (s := S16384x128) (k0_off5 s.1) S512x128.size (k0_off5_inb s.1 hc)).toLoadRect f1 = tileAt x1 s.1 hc := by
        subst hf1; rfl
      have hl2 : View.readAt (Elt F) arg4.view (Rect.unit (s := S16384x128) (k0_off5 s.1) S512x128.size (k0_off5_inb s.1 hc)).toLoadRect f2 = tileAt x2 s.1 hc := by
        subst hf2; rfl
      have hl3 : View.readAt (Elt F) arg5.view (Rect.unit (s := S1x2x16384) (k0_off6 s.1) S1x1x512.size (k0_off6_inb s.1 hc)).toLoadRect f3 = decA x3 s.1 hc := by
        subst hf3; rfl
      have hl4 : View.readAt (Elt F) arg5.view (Rect.unit (s := S1x2x16384) (k0_off7 s.1) S1x1x512.size (k0_off7_inb s.1 hc)).toLoadRect f3 = decB x3 s.1 hc := by
        subst hf3; rfl
      rw [hl1, hl2, hl3, hl4]
      iapply (wp_call_spec Variants.nat (c : Thread nD τ) (some (n + 1)) E
        (spec c arg3 arg4 arg5 x1 x2 x3 (walk x1 x2 x3 v34 v42 v47 v55 n (stepOn v34 v42 v47 v55 (tileAt x1 s.1 hc) (tileAt x2 s.1 hc) (decA x3 s.1 hc) (decB x3 s.1 hc) s))) n
        (fun u hu => by cases hu; exact Nat.lt_succ_self n)
        (ih (Nat.le_of_succ_le hn) (stepOn v34 v42 v47 v55 (tileAt x1 s.1 hc) (tileAt x2 s.1 hc) (decA x3 s.1 hc) (decB x3 s.1 hc) s) (by
          show Scalar.subi s.1 1#32 = _; rw [hs, ctr_pred])))
      rw [spec_apply]
      unfold held owns
      isplitl [H1 H2 H3]
      · isplitl [H1]
        · iexists f1; isplitr; · ipureintro; exact hf1
          iexact H1
        isplitl [H2]
        · iexists f2; isplitr; · ipureintro; exact hf2
          iexact H2
        iexists f3; isplitr; · ipureintro; exact hf3
        iexact H3
      iintro H
      rw [wp_ret]; imodintro
      iapply Hk; iexact H

/-! ## One grid point -/

/-- The tile on the diagonal, as the body computes its number: the point's row block divided by the tile's rows. -/
def firstTile (i : grid0.Coords) : BitVec 32 :=
  let v0 : BitVec 32 := Scalar.muli (BitVec.ofNat 32 (i 1).val) 512#32
  let v1 : BitVec 32 := Scalar.divsi v0 512#32
  let v6 : BitVec 32 := Scalar.subi (Scalar.extui (Scalar.cmpi .sgt v0 0#32)) (Scalar.extui (Scalar.cmpi .slt v0 0#32))
  let v11 : BitVec 32 := Scalar.subi (Scalar.extui (Scalar.cmpi .sgt 512#32 0#32)) (Scalar.extui (Scalar.cmpi .slt 512#32 0#32))
  Scalar.select (Scalar.andi (Scalar.cmpi .ne v6 v11) (Scalar.cmpi .ne (Scalar.remsi v0 512#32) 0#32)) (Scalar.subi v1 1#32) v1

/-- It is the row block's number. -/
theorem firstTile_eq : ∀ i : grid0.Coords, firstTile i = BitVec.ofNat 32 (i 1).val := by decide +kernel

/-- The walk starts one tile before the diagonal. -/
theorem ctr_start (i : grid0.Coords) : Scalar.subi (firstTile i) 1#32 = ctr (i 1).val := by
  rw [firstTile_eq]; rfl

/-- The whole of the query block, as the body loads it. -/
def qv (x0 : Vec F S512x128 .bf16) : Vec F S512x128 .bf16 :=
  View.ld x0 (Rect.unit (s := S512x128) ![0, 0] S512x128.size inb_S512x128_S512x128_0_0)

/-- The rows of the keys or values on the diagonal. -/
def diagAt (i : grid0.Coords) (x : Vec F S16384x128 .bf16) : Vec F S512x128 .bf16 :=
  View.ld x (Rect.unit (s := S16384x128) (k0_off2 i) S512x128.size (k0_off2_inb i))

/-- The first head's decays on the diagonal. -/
def diagCA (i : grid0.Coords) (x : Vec F S1x2x16384 .f32) : Vec F S1x1x512 .f32 :=
  View.ld x (Rect.unit (s := S1x2x16384) (k0_off3 i) S1x1x512.size (k0_off3_inb i))

/-- The second head's decays on the diagonal. -/
def diagCB (i : grid0.Coords) (x : Vec F S1x2x16384 .f32) : Vec F S1x1x512 .f32 :=
  View.ld x (Rect.unit (s := S1x2x16384) (k0_off4 i) S1x1x512.size (k0_off4_inb i))

/-- The tile's columns. -/
def cols : IVec S512x512 32 := iota .tc S512x512 32 [1] iota_S512x512_d1_w32

/-- The first head's largest query norm times its largest key norm. -/
def reachA (q : Vec F S512x128 .bf16) (na : Vec F S1x1 .f32) : FVec F S512x1 .f32 := k0_pay19 (k0_pay18 q) na

/-- The second head's. -/
def reachB (q : Vec F S512x128 .bf16) (nb : Vec F S1x1 .f32) : FVec F S512x1 .f32 := k0_pay21 (k0_pay15 q) nb

/-- What the walk starts from: both heads after the diagonal tile. -/
def start (i : grid0.Coords) (q : Vec F S512x128 .bf16) (kb vb : Vec F S512x128 .bf16) (ca cb : Vec F S1x1x512 .f32) (na nb : Vec F S1x1 .f32) : St F :=
  (ctr (i 1).val,
    k0_pay43 (k0_pay34 (reachA q na) (k0_pay27 ca) (k0_pay29 (k0_pay16 i) cols (k0_pay17 q) kb ca))
      (k0_pay42 (k0_pay16 i) cols (k0_pay20 (k0_pay15 q)) (reachB q nb) (k0_pay22 (F := F)) (k0_pay25 kb) cb),
    k0_pay29 (k0_pay16 i) cols (k0_pay17 q) kb ca,
    k0_pay32 (k0_pay22 (F := F)) (k0_pay23 (F := F)) (k0_pay29 (k0_pay16 i) cols (k0_pay17 q) kb ca) (k0_pay30 (k0_pay16 i) cols (k0_pay17 q) kb ca),
    k0_pay33 (k0_pay22 (F := F)) (k0_pay24 (F := F)) (k0_pay26 vb) (k0_pay29 (k0_pay16 i) cols (k0_pay17 q) kb ca) (k0_pay30 (k0_pay16 i) cols (k0_pay17 q) kb ca),
    k0_pay37 (k0_pay16 i) cols (k0_pay20 (k0_pay15 q)) (k0_pay22 (F := F)) (k0_pay25 kb) cb,
    k0_pay40 (k0_pay16 i) cols (k0_pay20 (k0_pay15 q)) (k0_pay22 (F := F)) (k0_pay23 (F := F)) (k0_pay25 kb) cb,
    k0_pay41 (k0_pay16 i) cols (k0_pay20 (k0_pay15 q)) (k0_pay22 (F := F)) (k0_pay24 (F := F)) (k0_pay25 kb) (k0_pay26 vb) cb)

/-- The end of the walk of one grid point. -/
def walked (i : grid0.Coords) (x0 : Vec F S512x128 .bf16) (x1 x2 : Vec F S16384x128 .bf16) (x3 : Vec F S1x2x16384 .f32) (na nb : Vec F S1x1 .f32) : St F :=
  walk x1 x2 x3 (k0_pay17 (qv x0)) (reachA (qv x0) na) (k0_pay20 (k0_pay15 (qv x0))) (reachB (qv x0) nb) (i 1).val
    (start i (qv x0) (diagAt i x1) (diagAt i x2) (diagCA i x3) (diagCB i x3) na nb)

/-- The heads' normalisation of the walk's two quotients: what the point stores. -/
def closed (s : St F) : FVec F S512x128 .f32 :=
  k0_pay1 (k0_pay44 s.2.2.2.1 s.2.2.2.2.1 s.2.2.2.2.2.2.1 s.2.2.2.2.2.2.2) (k0_pay46 s.2.2.2.1 s.2.2.2.2.1 s.2.2.2.2.2.2.1 s.2.2.2.2.2.2.2)
    k0_pay47 (k0_pay48 s.2.2.2.1 s.2.2.2.2.1 s.2.2.2.2.2.2.1 s.2.2.2.2.2.2.2)

/-- What one grid point stores, from its input blocks and the two key norms. -/
def foxOut (i : grid0.Coords) (x0 : Vec F S512x128 .bf16) (x1 x2 : Vec F S16384x128 .bf16) (x3 : Vec F S1x2x16384 .f32) (na nb : Vec F S1x1 .f32) : FVec F S512x128 .f32 :=
  closed (walked i x0 x1 x2 x3 na nb)

/-- What the first part of the body hands on: the diagonal tile's number, the query block, the tile's rows and columns,
    the first head's queries and their norms. -/
def part1Val (i : grid0.Coords) (q : Vec F S512x128 .bf16) :
    (Σ' (v17 : BitVec 32) (v22 : FVec F S512x128 .bf16) (v28 : IVec S512x512 32) (v29 : IVec S512x512 32) (v34 : FVec F S512x128 .bf16), FVec F S512x1 .f32) :=
  ⟨firstTile i, k0_pay15 q, k0_pay16 i, cols, k0_pay17 q, k0_pay18 q⟩

/-- The first part of the body: at the first row block it fills two rows of the scratch, and it loads the queries. -/
theorem part1_run (c : Dev nD) (i : grid0.Coords) (arg2 : Memref sig .tc .vmem S512x128 .bf16) (harg2 : arg2.IsWhole) (arg3 : Memref sig .tc .vmem S16384x128 .bf16) (harg3 : arg3.IsWhole)
    (arg4 : Memref sig .tc .vmem S16384x128 .bf16) (harg4 : arg4.IsWhole) (arg5 : Memref sig .tc .vmem S1x2x16384 .f32) (harg5 : arg5.IsWhole) (arg6 : Memref sig .tc .vmem S512x128 .f32) (harg6 : arg6.IsWhole)
    (arg7 : Memref sig .tc .vmem S8x128 .f32) (harg7 : arg7.IsWhole)
    (x0 : Vec F S512x128 .bf16) (x1 : Vec F S16384x128 .bf16) (E : Set ℕ)
    (K : (Σ' (v17 : BitVec 32) (v22 : FVec F S512x128 .bf16) (v28 : IVec S512x512 32) (v29 : IVec S512x512 32) (v34 : FVec F S512x128 .bf16), FVec F S512x1 .f32) → sProp 𝕄) :
    iprop(owns (c : Thread nD τ) arg2 fullShare x0 ∗ owns (c : Thread nD τ) arg3 fullShare x1 ∗ (∃ d, owns (c : Thread nD τ) arg7 fullShare d)
      ∗ (iprop(owns (c : Thread nD τ) arg2 fullShare x0 ∗ owns (c : Thread nD τ) arg3 fullShare x1 ∗ (∃ d, owns (c : Thread nD τ) arg7 fullShare d)) -∗ K (part1Val i (qv x0))))
    ⊢ wp frame (wpE (defs₀ (F := F)) Variants.nat (c : Thread nD τ) none) E (k0_part1 i arg2 harg2 arg3 harg3 arg4 harg4 arg5 harg5 arg6 harg6 arg7 harg7) K := by
  unfold part1Val firstTile cols
  simp only [k0_part1_eq_skeleton]
  unfold k0_part1_skel
  unfold owns
  iintro ⟨⟨%f0, %hf0, H0⟩, ⟨%f1, %hf1, H1⟩, ⟨%d7, %f7, -, H7⟩, Hk⟩
  have e0 : View.readAt (Elt F) arg2.view (Rect.unit (s := S512x128) ![0, 0] S512x128.size inb_S512x128_S512x128_0_0).toLoadRect f0 = qv x0 := by
    subst hf0; rfl
  by_cases hc : k0_cond1 i = 1#1
  · rw [dif_pos hc]
    rw [wp_bind]
    iapply (Scf.wp_for frame (wpE (defs₀ (F := F)) Variants.nat (c : Thread nD τ) none) E _ _ _ _ _ _
      (fun _ _ => iprop((arg3.view.loc (c : Thread nD τ) ↦[arg3.view.set]{fullShare} f1))) (by
        intro k acc
        unfold k0_t1_body
        simp only [Prog.lift, Prog.bind_op, Prog.bind_ret, Prog.pure_eq_ret]
        iintro H1
        iapply (wp_load Variants.nat (c : Thread nD τ) none E (m := arg3) (View.setOn_subset_set _ _)) $$ H1; iintro H1
        rw [wp_ret]; imodintro; iexact H1))
    isplitl [H1]; · iexact H1
    iintro %acc H1
    dsimp only
    simp only [Prog.lift, Prog.bind_op, Prog.bind_ret, Prog.pure_eq_ret]
    sl_exec
    rw [wp_ret]; imodintro
    iapply Hk
    isplitl [H0]
    · iexists f0; isplitr; · ipureintro; exact hf0
      iexact H0
    isplitl [H1]
    · iexists f1; isplitr; · ipureintro; exact hf1
      iexact H1
    iexists _; iexists _; isplitr
    swap; · iexact H7
    ipureintro; rfl
  · rw [dif_neg hc]
    simp only [Prog.lift, Prog.bind_op, Prog.bind_ret, Prog.pure_eq_ret]
    iapply (wp_load Variants.nat (c : Thread nD τ) none E (m := arg2) (View.setOn_subset_set _ _)) $$ H0; iintro H0
    rw [e0, wp_ret]; imodintro
    iapply Hk
    isplitl [H0]
    · iexists f0; isplitr; · ipureintro; exact hf0
      iexact H0
    isplitl [H1]
    · iexists f1; isplitr; · ipureintro; exact hf1
      iexact H1
    iexists _; iexists f7; isplitr
    swap; · iexact H7
    ipureintro; rfl

/-- One grid point's body: from whole staging buffers and a scratch of any contents it ends with the inputs' as they
    were, the output's holding `foxOut` at some two norms, and the scratch at some contents. -/
theorem body_run (c : Dev nD) (i : grid0.Coords) (arg2 : Memref sig .tc .vmem S512x128 .bf16) (harg2 : arg2.IsWhole) (arg3 : Memref sig .tc .vmem S16384x128 .bf16) (harg3 : arg3.IsWhole)
    (arg4 : Memref sig .tc .vmem S16384x128 .bf16) (harg4 : arg4.IsWhole) (arg5 : Memref sig .tc .vmem S1x2x16384 .f32) (harg5 : arg5.IsWhole) (arg6 : Memref sig .tc .vmem S512x128 .f32) (harg6 : arg6.IsWhole)
    (arg7 : Memref sig .tc .vmem S8x128 .f32) (harg7 : arg7.IsWhole)
    (x0 : Vec F S512x128 .bf16) (x1 : Vec F S16384x128 .bf16) (x2 : Vec F S16384x128 .bf16) (x3 : Vec F S1x2x16384 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
      ∗ (∃ d, owns (c : Thread nD τ) arg7 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ na nb, owns (c : Thread nD τ) arg6 fullShare (foxOut i x0 x1 x2 x3 na nb))
          ∗ (∃ d, owns (c : Thread nD τ) arg7 fullShare d)) -∗ K ⟨⟩))
    ⊢ wp frame (wpE (defs₀ (F := F)) Variants.nat (c : Thread nD τ) none) E (cc0_forgetting_attention i arg2 harg2 arg3 harg3 arg4 harg4 arg5 harg5 arg6 harg6 arg7 harg7) K := by
  simp only [cc0_forgetting_attention_eq_skeleton]; unfold cc0_forgetting_attention_skel
  iintro ⟨H0, H1, H2, H3, H6, H7, Hk⟩
  rw [wp_bind]
  iapply (part1_run c i arg2 harg2 arg3 harg3 arg4 harg4 arg5 harg5 arg6 harg6 arg7 harg7 x0 x1 E _)
  isplitl [H0]; · iexact H0
  isplitl [H1]; · iexact H1
  isplitl [H7]; · iexact H7
  unfold owns
  iintro ⟨H0, ⟨%f1, %hf1, H1⟩, ⟨%d7, %f7, -, H7⟩⟩
  icases H2 with ⟨%f2, %hf2, H2⟩
  icases H3 with ⟨%f3, %hf3, H3⟩
  icases H6 with ⟨%d6, %f6, -, H6⟩
  unfold part1Val
  simp only [k0_part2_eq_skeleton, k0_part3_eq_skeleton, k0_part4_eq_skeleton]
  unfold k0_part2_skel k0_part3_skel k0_part4_skel
  simp only [Prog.lift, Prog.bind_op, Prog.bind_ret, Prog.pure_eq_ret]
  iapply (wp_load Variants.nat (c : Thread nD τ) none E (m := arg7) (View.setOn_subset_set _ _)) $$ H7; iintro H7
  iapply (wp_load Variants.nat (c : Thread nD τ) none E (m := arg7) (View.setOn_subset_set _ _)) $$ H7; iintro H7
  iapply (wp_load Variants.nat (c : Thread nD τ) none E (m := arg3) (View.setOn_subset_set _ _)) $$ H1; iintro H1
  iapply (wp_load Variants.nat (c : Thread nD τ) none E (m := arg4) (View.setOn_subset_set _ _)) $$ H2; iintro H2
  iapply (wp_load Variants.nat (c : Thread nD τ) none E (m := arg5) (View.setOn_subset_set _ _)) $$ H3; iintro H3
  iapply (wp_load Variants.nat (c : Thread nD τ) none E (m := arg5) (View.setOn_subset_set _ _)) $$ H3; iintro H3
  have e1 : View.readAt (Elt F) arg3.view (Rect.unit (s := S16384x128) (k0_off2 i) S512x128.size (k0_off2_inb i)).toLoadRect f1 = diagAt i x1 := by
    subst hf1; rfl
  have e2 : View.readAt (Elt F) arg4.view (Rect.unit (s := S16384x128) (k0_off2 i) S512x128.size (k0_off2_inb i)).toLoadRect f2 = diagAt i x2 := by
    subst hf2; rfl
  have e3 : View.readAt (Elt F) arg5.view (Rect.unit (s := S1x2x16384) (k0_off3 i) S1x1x512.size (k0_off3_inb i)).toLoadRect f3 = diagCA i x3 := by
    subst hf3; rfl
  have e4 : View.readAt (Elt F) arg5.view (Rect.unit (s := S1x2x16384) (k0_off4 i) S1x1x512.size (k0_off4_inb i)).toLoadRect f3 = diagCB i x3 := by
    subst hf3; rfl
  rw [e1, e2, e3, e4, ctr_start]
  generalize hna : View.readAt (Elt F) arg7.view (Rect.unit (s := S8x128) ![0, 0] S1x1.size inb_S8x128_S1x1_0_0).toLoadRect f7 = na
  generalize hnb : View.readAt (Elt F) arg7.view (Rect.unit (s := S8x128) ![1, 0] S1x1.size inb_S8x128_S1x1_1_0).toLoadRect f7 = nb
  iapply (wp_call_spec Variants.nat (c : Thread nD τ) none E
    (spec c arg3 arg4 arg5 x1 x2 x3 (walked i x0 x1 x2 x3 na nb)) (i 1).val
    (fun u hu => by cases hu)
    (spec_le c E i arg3 harg3 arg4 harg4 arg5 harg5 x1 x2 x3 _ _ _ _ (i 1).val (by have := (i 1).isLt; have h : grid0.bound 1 = 32 := rfl; omega)
      (start i (qv x0) (diagAt i x1) (diagAt i x2) (diagCA i x3) (diagCB i x3) na nb) rfl))
  rw [spec_apply]
  unfold held owns
  isplitl [H1 H2 H3]
  · isplitl [H1]
    · iexists f1; isplitr; · ipureintro; exact hf1
      iexact H1
    isplitl [H2]
    · iexists f2; isplitr; · ipureintro; exact hf2
      iexact H2
    iexists f3; isplitr; · ipureintro; exact hf3
    iexact H3
  iintro ⟨H1, H2, H3⟩
  iapply (wp_load Variants.nat (c : Thread nD τ) none E (m := arg6) (View.setOn_subset_set _ _)) $$ H6; iintro H6
  sl_exec
  sl_step
  iapply Hk
  isplitl [H0]; · iexact H0
  isplitl [H1]; · iexact H1
  isplitl [H2]; · iexact H2
  isplitl [H3]; · iexact H3
  isplitl [H6]
  · iexists na; iexists nb; iexists _; isplitr
    swap; · iexact H6
    ipureintro
    exact View.read_writes_full arg6.view f6 inb_S512x128_S512x128_0_0 (foxOut i x0 x1 x2 x3 na nb) []
  iexists _; iexists f7; isplitr
  swap; · iexact H7
  ipureintro; rfl

end Cert.Proof.FI

end
-- ==== Proof.FIRun.lean ====
/-
  Forgetting attention, the idealized program: the whole call. The body's run at every grid point gives the
  call's run, its frame, and the contents of the result array block by block.
-/
module

public import proofs.«01_k».proof.Proof.FIBody
public import Idealize.ShloMosaic.Lib.Pipeline.Value
public import Idealize.ShloMosaic.Lib.Pointwise
public import Idealize.ShloMosaic.Lib.Claim

@[expose] public section

set_option maxRecDepth 16384

noncomputable section

namespace Cert.Proof.FI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The walk never ends early -/

/-- A key norm to name the stored block with. -/
def noNorm : Vec Ideal S1x1 .f32 := fun _ => (0 : EReal)

/-- The walk goes on while a tile is left: its bound is minus infinity. -/
theorem goes_on (n : ℕ) (hn : n < 32) (s : St Ideal) (hs : s.1 = ctr (n + 1)) : goes s := by
  have hc : ∀ n : Fin 32, Scalar.cmpi .sge (ctr (n.val + 1)) 0#32 = 1#1 := by decide +kernel
  have hk : (Named.named κ "exp_zero" 0xC2D20000#32 : Ideal .f32) = (⊥ : EReal) :=
    IdealRules.named_const.ideal_named_scalar κ "exp_zero" _ _ rfl
  unfold goes
  rw [hs, hc ⟨n, hn⟩, hk]
  show 1#1 &&& BitVec.ofBool (decide ((⊥ : EReal) ≤ s.2.1)) = 1#1
  rw [decide_eq_true bot_le]; rfl

/-- Two states that differ at most in the number the walk's end is decided by. -/
def Same (s t : St Ideal) : Prop := s.1 = t.1 ∧ s.2.2 = t.2.2

/-- The walk's result does not depend on the key norms. -/
theorem walk_same (x1 x2 : Vec Ideal S16384x128 .bf16) (x3 : Vec Ideal S1x2x16384 .f32) (qa qb : FVec Ideal S512x128 .bf16)
    (ra rb ra' rb' : FVec Ideal S512x1 .f32) : ∀ n, n ≤ 32 → ∀ s t : St Ideal, s.1 = ctr n → Same s t →
      Same (walk x1 x2 x3 qa ra qb rb n s) (walk x1 x2 x3 qa ra' qb rb' n t) := by
  intro n
  induction n with
  | zero => intro _ s t _ h; exact h
  | succ n ih =>
    rintro hn ⟨w, g, u⟩ ⟨w', g', u'⟩ hs ⟨e1, e2⟩
    dsimp only at hs e1 e2
    subst e1 e2
    have hc : k0_chk1 w := by rw [hs]; exact chk_ctr ⟨n, hn⟩
    unfold walk
    rw [if_pos (goes_on n hn _ hs), if_pos (goes_on n hn _ hs), dif_pos hc, dif_pos hc]
    refine ih (Nat.le_of_succ_le hn) _ _ ?_ ⟨rfl, rfl⟩
    show Scalar.subi w 1#32 = _
    rw [hs]; exact ctr_pred n

/-- Nor does what a point stores. -/
theorem foxOut_norms (i : grid0.Coords) (x0 : Vec Ideal S512x128 .bf16) (x1 x2 : Vec Ideal S16384x128 .bf16) (x3 : Vec Ideal S1x2x16384 .f32)
    (na nb na' nb' : Vec Ideal S1x1 .f32) : foxOut i x0 x1 x2 x3 na nb = foxOut i x0 x1 x2 x3 na' nb' := by
  have h : Same (walked i x0 x1 x2 x3 na nb) (walked i x0 x1 x2 x3 na' nb') := by
    unfold walked
    exact walk_same _ _ _ _ _ _ _ _ _ (i 1).val (by have := (i 1).isLt; have h : grid0.bound 1 = 32 := rfl; omega) _ _ rfl ⟨rfl, rfl⟩
  unfold foxOut closed
  rw [h.2]

/-! ## The host code before the call -/

/-- A core's arrays when the call begins: after the host operations. -/
abbrev V (c : Dev nD) (b : Ref sig .tc) : Buf (Elt Ideal) ((c : Thread nD τ).loc b) := StableHlo.after hostOps0 (fun b => m (c, b)) b

theorem ops_fresh : (hostOps0 : List (HloOp τ sig (Elt Ideal))).Forall fun op => op.fresh = ∅ := by
  simp only [List.Forall]; repeat' constructor

set_option maxHeartbeats 800000 in
/-- The program up to the call: the host operations. -/
theorem up_to_call : Pipeline.HMain (Ix := Unit) (Name := ℕ) (U := UR sig nD τ) (Lvl := ℕ) cfgs 0 defs₀ Variants.nat m (main (F := Ideal)) (V m) :=
  Pipeline.hmain_prefix cfgs 0 defs₀ Variants.nat m main hostOps0 hostOps0_sub ops_fresh main_chain

/-- The host operations leave the argument as it was. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The scratch, as the body names it. -/
abbrev scr : Memref sig .tc .vmem S8x128 .f32 := Memref.whole cc0_scratch0

/-- Between points the scratch is held at some contents, and the generator's register at some state. -/
theorem PhiA0_eq (c : Dev nD) : (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-! ## The windows' blocks and the proof data -/

/-- What window `w` fetches at point `t`. -/
def blk (c : Dev nD) (w : Fin cfg0.W) (t : Fin (cfg0 (F := Ideal)).N) : ((cfg0.win w).xblock (cfg0.grid.coords t)).Idx → Elt Ideal (cfg0.win w).elt :=
  ((cfg0.win w).blk t).view.read (Elt Ideal) (V m c (Pipeline.arrRef spec0 w))

/-- What the point stores: by `foxOut_norms` the key norms do not matter. -/
def stored (c : Dev nD) (t : Fin (cfg0 (F := Ideal)).N) : Vec Ideal S512x128 .f32 :=
  foxOut (grid0.coords t) (blk m c 0 t) (blk m c 1 t) (blk m c 2 t) (blk m c 3 t) noNorm noNorm

/-- The call's proof data: each input's staging buffer keeps its block, the output's holds `stored`. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => stored m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin (cfg0 (F := Ideal)).N) : (dats m 0 c).after 0 t = blk m c 0 t := rfl
theorem after_1 (c : Dev nD) (t : Fin (cfg0 (F := Ideal)).N) : (dats m 0 c).after 1 t = blk m c 1 t := rfl
theorem after_2 (c : Dev nD) (t : Fin (cfg0 (F := Ideal)).N) : (dats m 0 c).after 2 t = blk m c 2 t := rfl
theorem after_3 (c : Dev nD) (t : Fin (cfg0 (F := Ideal)).N) : (dats m 0 c).after 3 t = blk m c 3 t := rfl
theorem after_4 (c : Dev nD) (t : Fin (cfg0 (F := Ideal)).N) : (dats m 0 c).after 4 t = stored m c t := rfl

/-- An input's staging buffer holds its block at every point, freshly fetched or kept. -/
theorem before_0 (c : Dev nD) (t : Fin (cfg0 (F := Ideal)).N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (cfg0 (F := Ideal)).N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin (cfg0 (F := Ideal)).N) (d) : (dats m 0 c).before 2 t d = blk m c 2 t :=
  ((dats m 0 c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin (cfg0 (F := Ideal)).N) (d) : (dats m 0 c).before 3 t d = blk m c 3 t :=
  ((dats m 0 c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)

/-! ## The body at a point -/

/-- Each window's staging buffer at a point. -/
abbrev st0 (t : Fin (cfg0 (F := Ideal)).N) : Memref sig .tc .vmem S512x128 .bf16 := win0_0.stage (cfg0.slots t 0)
abbrev st1 (t : Fin (cfg0 (F := Ideal)).N) : Memref sig .tc .vmem S16384x128 .bf16 := win0_1.stage (cfg0.slots t 1)
abbrev st2 (t : Fin (cfg0 (F := Ideal)).N) : Memref sig .tc .vmem S16384x128 .bf16 := win0_2.stage (cfg0.slots t 2)
abbrev st3 (t : Fin (cfg0 (F := Ideal)).N) : Memref sig .tc .vmem S1x2x16384 .f32 := win0_3.stage (cfg0.slots t 3)
abbrev st4 (t : Fin (cfg0 (F := Ideal)).N) : Memref sig .tc .vmem S512x128 .f32 := win0_4.stage (cfg0.slots t 4)

/-- What the body finds, window by window, -/
def found (c : Dev nD) (t : Fin (cfg0 (F := Ideal)).N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it leaves. -/
def left (c : Dev nD) (t : Fin (cfg0 (F := Ideal)).N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

theorem body_at (c : Dev nD) (t : Fin (cfg0 (F := Ideal)).N) :
    found m c t ⊢ wp frame (wpE (defs₀ (F := Ideal)) Variants.nat c none) Set.univ (bodyAt0 t) (fun _ => left m c t) := by
  unfold found left bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, PhiA0_eq]
  iintro ⟨⟨HS, Hr⟩, Ho, ⟨%d0, H0⟩, ⟨%d1, H1⟩, ⟨%d2, H2⟩, ⟨%d3, H3⟩, ⟨%d4, H4⟩⟩
  iapply (body_run c (grid0.coords t) _ _ _ _ _ _ _ _ _ _ _ _ (blk m c 0 t) (blk m c 1 t) (blk m c 2 t) (blk m c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%na, %nb, H4⟩, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  unfold stored
  rw [foxOut_norms _ _ _ _ _ noNorm noNorm na nb]
  iexact H4

theorem row_at (t : Fin (cfg0 (F := Ideal)).N) :
    defs₀ (F := Ideal) .tc cfg0.body (cfg0.bodyArgs t (cfg0.slots t)) = bodyAt0 t := by
  unfold defs₀; rw [Defs.onTc_tc]

/-- The body meets its obligation at every point. -/
theorem obligation (c : Dev nD) : BodyObligation (dats m 0 c) (defs₀ (F := Ideal)) Variants.nat () Set.univ := fun t => by
  rw [bigSep_W0, bigSep_W0, row_at]
  exact triple_restated (body_at m c t) rfl .rfl fun _ => .rfl

/-! ## The run -/

set_option backward.isDefEq.respectTransparency.types false in
/-- The call's run from any memory, every counter at zero at the end. -/
theorem run_all : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (obligation m c).loose) (hq := fun _ _ _ => rfl)
    (howed := fun _ _ => rfl) (V := V m) (hmain := up_to_call m) (hA := A_eq m) (hΦ := fun _ _ => rfl)

theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨((h c).2 main_arg0 (Pipeline.mem_restRefs_of main_arg0 (by decide) (by show ∀ w : Fin 5, (spec0 w).arr.view.ref ≠ main_arg0; decide))).trans (V_arg m c),
    ((h c).2 main_arg1 (Pipeline.mem_restRefs_of main_arg1 (by decide) (by show ∀ w : Fin 5, (spec0 w).arr.view.ref ≠ main_arg1; decide))).trans (V_arg1 m c)⟩

/-- The frame: every run ends, leaves the arguments as they were, and ends with every counter at zero. -/
theorem frame_ok : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => kept m r h.1 c, h.2⟩) (run_all m ρ)

/-! ## The result, block by block -/

/-- Distinct points write distinct blocks. -/
theorem index_inj : ∀ t t' : Fin (cfg0 (F := Ideal)).N, win0_4.index t = win0_4.index t' → t = t' :=
  (by decide +kernel : ∀ t t' : Fin grid0.N, win0_4.index t = win0_4.index t' → t = t')

theorem disjoint_blocks : ∀ t t' : Fin (cfg0 (F := Ideal)).N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (index_inj t t' h)

/-- Block `t` of the result is what point `t` stores. -/
theorem block_at (c : Dev nD) (t : Fin (cfg0 (F := Ideal)).N) (hf : (cfg0.win 4).flush t = true) :
    ((cfg0.win 4).blk t).view.read (Elt Ideal) ((dats m 0 c).arrAt 4 (cfg0 (F := Ideal)).N) = (cfg0.win 4).cut (grid0.coords t) (stored m c t) := by
  rw [(dats m 0 c).read_blk_arrAt_eq_flushed 4 disjoint_blocks (cfg0 (F := Ideal)).N t t.isLt hf]
  show (cfg0.win 4).cut (grid0.coords t) ((dats m 0 c).after 4 t) = _
  rw [after_4]

/-- The run with the result named. -/
theorem run_result : θ_run defs (onTc (τ := τ) (main (F := Ideal))) ⟨m, fun _ => 0, ρ⟩ fun r => ∀ c : Dev nD,
      r.2.mem ((c : Thread nD τ).loc main_v29) = (dats m 0 c).arrAt 4 (cfg0 (F := Ideal)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 4, kept m r h.1 c⟩) (run_all m ρ)

end Cert.Proof.FI

end
-- ==== Proof.Claims3.lean ====
/-
  Forgetting attention: the frames and the idealization's ledger.
-/
module

public import proofs.«01_k».proof.Defs
public import proofs.«01_k».proof.Proof.FKRun
public import proofs.«01_k».proof.Proof.FIRun
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_finite_decays
public import Idealize.ShloMosaic.Adequacy
public import Idealize.ShloMosaic.Init

@[expose] public section

noncomputable section

namespace Cert.Proof

open Idealize.ShloMosaic Idealize.SL.Sem

/-- The forgetting attention runs, keeps its arguments and ends with every counter at zero. -/
theorem frame_k3 : Cert.quiescent_Kernel3 (hKernel3 := Cert.Kernel3.Gen.facts) := fun m ρ _ => Cert.Proof.FK.frame_ok m ρ

/-- So does its idealization. -/
theorem frame_ki3 : Cert.quiescent_Kernel3Ideal (hKernel3Ideal := Cert.Kernel3Ideal.Gen.facts) := fun m ρ _ => Cert.Proof.FI.frame_ok m ρ

/-- Also from arguments with finite decays. -/
theorem frame_ki3_finite : Cert.quiescent_Kernel3Ideal_pre_finite_decays (hKernel3Ideal := Cert.Kernel3Ideal.Gen.facts)
    (hPre_finite_decays := Cert.Pre_finite_decays.Gen.facts) := fun m ρ _ => Cert.Proof.FI.frame_ok m ρ

/-- So does the reference. -/
theorem frame_ri3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Also from arguments with finite decays. -/
theorem frame_ri3_finite : Cert.quiescent_Reference3Ideal_pre_finite_decays (hReference3Ideal := Cert.Reference3Ideal.Gen.facts)
    (hPre_finite_decays := Cert.Pre_finite_decays.Gen.facts) := fun m ρ _ => frame_ri3 m ρ trivial

/-- The one rewritten constant: the exponent under which the walk stops stands for the logarithm of zero. -/
theorem preserves_k3 : Cert.preserves_Kernel3_Kernel3Ideal :=
  IdealRules.named_const.statement Cert.Kernel3Ideal.κ "exp_zero" .f32 0xC2D20000#32 ⊥ rfl

end Cert.Proof

end
-- ==== Proof.In1.lean ====
/-
  The in-projection's call: what one grid point leaves in each of its five results, as entries of the point's one product.
-/
module

public import proofs.«01_k».proof.Proof.Gen.Kernel4Ideal.Value
public import Idealize.ShloMosaic.Lib.Pointwise
public import Idealize.ShloMosaic.Lib.Pipeline.ValueKit
public import Idealize.ShloMosaic.Lib.WholeRead

@[expose] public section

set_option maxRecDepth 16384

noncomputable section

namespace Cert.Proof.In
open Idealize.ShloMosaic Idealize.ShloMosaic.TcCoe
open Cert.Kernel4Ideal Cert.Kernel4Ideal.Gen

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S512x2944 .bf16) (harg4 : arg4.IsWhole) (arg5 : Memref sig .tc .vmem S512x128 .f32) (harg5 : arg5.IsWhole) (arg6 : Memref sig .tc .vmem S32x2048 .bf16) (harg6 : arg6.IsWhole) (arg7 : Memref sig .tc .vmem S4x128x768 .bf16) (harg7 : arg7.IsWhole) (arg8 : Memref sig .tc .vmem S16x32x768 .bf16) (harg8 : arg8.IsWhole) (arg9 : Memref sig .tc .vmem S7x512x128 .f32) (harg9 : arg9.IsWhole)
  (x0 : Vec Ideal S512x1024 .f32) (x1 : Vec Ideal S1x1024 .f32) (x2 : Vec Ideal S1024x3072 .bf16)

/-- A whole input block is read as it is. -/
theorem rd1 : View.readAt (Elt Ideal) arg1.view (Rect.unit ![0, 0] S512x1024.size inb_S512x1024_S512x1024_0_0).toLoadRect (harg1.unread x0) = x0 := by
  funext x
  rw [harg1.readAt_unread]
  refine congrArg x0 (funext fun a => Fin.ext ?_)
  fin_cases a <;> simp [Rect.toLoadRect, LoadRect.idx]

theorem rd2 : View.readAt (Elt Ideal) arg2.view (Rect.unit ![0, 0] S1x1024.size inb_S1x1024_S1x1024_0_0).toLoadRect (harg2.unread x1) = x1 := by
  funext x
  rw [harg2.readAt_unread]
  refine congrArg x1 (funext fun a => Fin.ext ?_)
  fin_cases a <;> simp [Rect.toLoadRect, LoadRect.idx]

theorem rd3 : View.readAt (Elt Ideal) arg3.view (Rect.unit ![0, 0] S1024x3072.size inb_S1024x3072_S1024x3072_0_0).toLoadRect (harg3.unread x2) = x2 := by
  funext x
  rw [harg3.readAt_unread]
  refine congrArg x2 (funext fun a => Fin.ext ?_)
  fin_cases a <;> simp [Rect.toLoadRect, LoadRect.idx]

/-- The scratch's column block `a` starts at this column of the product. -/
def scol (a : Nat) : Nat := if a = 0 then 256 else 512 + 128 * a

theorem scol_lt (a : Fin 7) (l : Fin 128) : scol a.val + l.val < 3072 := by
  unfold scol; split <;> omega

/-- A product's 128 columns from column `o`, laid out as one block: an entry. -/
theorem slice_cast (A : FVec Ideal S512x3072 .f32) (o : Nat) (x : S1x512x128.Idx) (r : Fin 512) (k : Fin 3072) (h1 : r.val = (x 1).val) (hk : k.val = o + (x 2).val)
    (hs : S512x3072.Slices ![0, o] S512x128) :
    shapeCast S1x512x128 (extractStridedSlice S512x128 ![0, o] A hs) shapeCasts_S512x128_S1x512x128 x = A (ix2 r k) := by
  have h0 : (x 0).val = 0 := Nat.lt_one_iff.mp (x 0).isLt
  refine (shapeCast_apply (s := S512x128) (t := S1x512x128) _ _ x (ix2 (x 1) (x 2) : S512x128.Idx) ?_).trans ?_
  · rw [Shape.rowMajor_val_two, Shape.rowMajor_val_three, h0]
    show (x 1).val * 128 + (x 2).val = (0 * 512 + (x 1).val) * 128 + (x 2).val
    omega
  refine extractStridedSlice_apply _ _ _ _ _ fun a => ?_
  match a with
  | ⟨0, _⟩ => show r.val = 0 + (x 1).val; omega
  | ⟨1, _⟩ => show k.val = o + (x 2).val; omega

/-- The scratch after its seven stores: the product's columns 256 … 383 and 640 … 1407, 128 at a time. -/
theorem scr (a : Fin 7) (r : Fin 512) (l : Fin 128) :
    View.canon (kernelRun0_A.sl.HS0_7 (F := Ideal) c arg1 harg1 arg2 harg2 arg3 harg3 x0 x1 x2) (ix3 a r l)
      = k0_pay3 x0 x1 x2 (ix2 r ⟨scol a.val + l.val, scol_lt a l⟩) := by
  unfold kernelRun0_A.sl.HS0_7
  canon_tiles x h
  all_goals
    (try unfold kernelRun0_A.sl.r)
    (try unfold kernelRun0_A.sl.r_1)
    rw [rd1, rd2, rd3]
    generalize hA : k0_pay3 x0 x1 x2 = A
    try simp only [k0_pay6, k0_pay7, k0_pay8, k0_pay9, k0_pay10, k0_pay11, k0_pay12, k0_pay13, hA]
    replace h0 : a.val = _ := h0
    refine slice_cast A _ x r _ h1 ?_ _
    replace h2 : l.val = (x 2).val := h2
    show scol a.val + l.val = _
    rw [h0]
    have hx : (x 0).val = 0 := by omega
    rw [hx, ← h2]
    rfl

/-- The same, at any index of the scratch. -/
theorem scr_at (z : S7x512x128.Idx) (r : Fin 512) (k : Fin 3072) (h1 : r.val = (z 1).val) (hk : k.val = scol (z 0).val + (z 2).val) :
    View.canon (kernelRun0_A.sl.HS0_7 (F := Ideal) c arg1 harg1 arg2 harg2 arg3 harg3 x0 x1 x2) z = k0_pay3 x0 x1 x2 (ix2 r k) := by
  rw [eq_ix3 z]
  refine (scr c arg1 harg1 arg2 harg2 arg3 harg3 x0 x1 x2 _ _ _).trans (congrArg _ ?_)
  congr 1
  · exact Fin.ext h1.symm
  · exact Fin.ext hk.symm

/-- Rows `o`, `o + 16`, … of the scratch's first block, rounded: a piece of the third result. -/
theorem piece5 (o : Nat) (inb) (x : S32x128.Idx) (a : Fin 32) (q : Fin 2048) (h0 : a.val = (x 0).val) (h1 : q.val = 128 * o + (x 1).val)
    (hr : 16 * a.val + q.val / 128 < 512) (hc : 256 + q.val % 128 < 3072) :
    k0_pay14 (F := Ideal) (arg9.view.readCov (kernelRun0_A.sl.HS0_7 (F := Ideal) c arg1 harg1 arg2 harg2 arg3 harg3 x0 x1 x2)
        { off := ![0, o, 0], size := S1x32x128.size, stride := ![1, 16, 1], inb := inb }) x
      = k0_pay3 x0 x1 x2 (ix2 ⟨16 * a.val + q.val / 128, hr⟩ ⟨256 + q.val % 128, hc⟩) := by
  rw [View.readCov_eq_canon']
  unfold k0_pay14
  have hx : (x 1).val < 128 := (x 1).isLt
  rw [truncf_apply]
  refine (shapeCast_apply (s := S1x32x128) (t := S32x128) _ _ x (ix3 0 (x 0) (x 1) : S1x32x128.Idx) ?_).trans ?_
  · rw [Shape.rowMajor_val_two, Shape.rowMajor_val_three]
    show (0 * 32 + (x 0).val) * 128 + (x 1).val = (x 0).val * 128 + (x 1).val
    omega
  refine scr_at c arg1 harg1 arg2 harg2 arg3 harg3 x0 x1 x2 _ _ _ ?_ ?_
  · show 16 * a.val + q.val / 128 = o + 16 * (x 0).val
    omega
  · show 256 + q.val % 128 = scol (0 + 1 * 0) + (0 + 1 * (x 1).val)
    show 256 + q.val % 128 = 256 + (0 + 1 * (x 1).val)
    omega

/-- Rows `a`, `a + 4`, … of a later block of the scratch, rounded: a piece of the fourth result. -/
theorem piece6 (o a : Nat) (inb) (x : S1x128x128.Idx) (y0 : Fin 4) (y1 : Fin 128) (q : Fin 768) (h0 : y0.val = a) (h1 : y1.val = (x 1).val)
    (h2 : q.val + 128 = 128 * o + (x 2).val)
    (hr : 4 * y1.val + y0.val < 512) (hc : 640 + q.val < 3072) :
    k0_pay30 (F := Ideal) (arg9.view.readCov (kernelRun0_A.sl.HS0_7 (F := Ideal) c arg1 harg1 arg2 harg2 arg3 harg3 x0 x1 x2)
        { off := ![o, a, 0], size := S1x128x128.size, stride := ![1, 4, 1], inb := inb }) x
      = k0_pay3 x0 x1 x2 (ix2 ⟨4 * y1.val + y0.val, hr⟩ ⟨640 + q.val, hc⟩) := by
  rw [View.readCov_eq_canon']
  unfold k0_pay30
  have hx0 : (x 0).val = 0 := Nat.lt_one_iff.mp (x 0).isLt
  have hx : (x 2).val < 128 := (x 2).isLt
  refine (shapeCast_apply (s := S128x128) (t := S1x128x128) _ _ x (ix2 (x 1) (x 2) : S128x128.Idx) ?_).trans ?_
  · rw [Shape.rowMajor_val_two, Shape.rowMajor_val_three, hx0]
    show (x 1).val * 128 + (x 2).val = (0 * 128 + (x 1).val) * 128 + (x 2).val
    omega
  rw [truncf_apply]
  refine (shapeCast_apply (s := S1x128x128) (t := S128x128) _ _ _ x ?_).trans ?_
  · rw [Shape.rowMajor_val_two, Shape.rowMajor_val_three, hx0]
    show (0 * 128 + (x 1).val) * 128 + (x 2).val = (x 1).val * 128 + (x 2).val
    omega
  refine scr_at c arg1 harg1 arg2 harg2 arg3 harg3 x0 x1 x2 _ _ _ ?_ ?_
  · show 4 * y1.val + y0.val = a + 4 * (x 1).val
    omega
  · show 640 + q.val = scol (o + 1 * (x 0).val) + (0 + 1 * (x 2).val)
    rw [hx0]
    unfold scol
    split <;> omega

/-- Rows `a`, `a + 16`, … likewise: a piece of the fifth result. -/
theorem piece7 (o a : Nat) (inb) (x : S1x32x128.Idx) (y0 : Fin 16) (y1 : Fin 32) (q : Fin 768) (h0 : y0.val = a) (h1 : y1.val = (x 1).val)
    (h2 : q.val + 128 = 128 * o + (x 2).val)
    (hr : 16 * y1.val + y0.val < 512) (hc : 640 + q.val < 3072) :
    k0_pay56 (F := Ideal) (arg9.view.readCov (kernelRun0_A.sl.HS0_7 (F := Ideal) c arg1 harg1 arg2 harg2 arg3 harg3 x0 x1 x2)
        { off := ![o, a, 0], size := S1x32x128.size, stride := ![1, 16, 1], inb := inb }) x
      = k0_pay3 x0 x1 x2 (ix2 ⟨16 * y1.val + y0.val, hr⟩ ⟨640 + q.val, hc⟩) := by
  rw [View.readCov_eq_canon']
  unfold k0_pay56
  have hx0 : (x 0).val = 0 := Nat.lt_one_iff.mp (x 0).isLt
  have hx : (x 2).val < 128 := (x 2).isLt
  refine (shapeCast_apply (s := S32x128) (t := S1x32x128) _ _ x (ix2 (x 1) (x 2) : S32x128.Idx) ?_).trans ?_
  · rw [Shape.rowMajor_val_two, Shape.rowMajor_val_three, hx0]
    show (x 1).val * 128 + (x 2).val = (0 * 32 + (x 1).val) * 128 + (x 2).val
    omega
  rw [truncf_apply]
  refine (shapeCast_apply (s := S1x32x128) (t := S32x128) _ _ _ x ?_).trans ?_
  · rw [Shape.rowMajor_val_two, Shape.rowMajor_val_three, hx0]
    show (0 * 32 + (x 1).val) * 128 + (x 2).val = (x 1).val * 128 + (x 2).val
    omega
  refine scr_at c arg1 harg1 arg2 harg2 arg3 harg3 x0 x1 x2 _ _ _ ?_ ?_
  · show 16 * y1.val + y0.val = a + 16 * (x 1).val
    omega
  · show 640 + q.val = scol (o + 1 * (x 0).val) + (0 + 1 * (x 2).val)
    rw [hx0]
    unfold scol
    split <;> omega

/-- The first result's block: the product's first 2944 columns. -/
theorem out3 (r : Fin 512) (q : Fin 2944) :
    out0_A_3 (F := Ideal) c i arg1 harg1 arg2 harg2 arg3 harg3 arg4 harg4 arg5 harg5 arg6 harg6 arg7 harg7 arg8 harg8 arg9 harg9 x0 x1 x2 (ix2 r q)
      = k0_pay3 x0 x1 x2 (ix2 r ⟨q.val, by omega⟩) := by
  unfold out0_A_3
  rw [View.read_writes_junk_eq_canon]
  unfold kernelRun0_A
  dsimp only
  canon_tiles x h
  rw [rd1, rd2, rd3]
  unfold k0_pay4
  rw [truncf_apply]
  refine extractStridedSlice_apply _ _ _ _ _ fun a => ?_
  match a with
  | ⟨0, _⟩ => exact h0.trans (Nat.zero_add _).symm
  | ⟨1, _⟩ => exact h1.trans (Nat.zero_add _).symm

/-- The second result's block: the next 128 columns. -/
theorem out4 (r : Fin 512) (q : Fin 128) :
    out0_A_4 (F := Ideal) c i arg1 harg1 arg2 harg2 arg3 harg3 arg4 harg4 arg5 harg5 arg6 harg6 arg7 harg7 arg8 harg8 arg9 harg9 x0 x1 x2 (ix2 r q)
      = k0_pay3 x0 x1 x2 (ix2 r ⟨2944 + q.val, by omega⟩) := by
  unfold out0_A_4
  rw [View.read_writes_junk_eq_canon]
  unfold kernelRun0_A
  dsimp only
  canon_tiles x h
  rw [rd1, rd2, rd3]
  unfold k0_pay5
  refine extractStridedSlice_apply _ _ _ _ _ fun a => ?_
  match a with
  | ⟨0, _⟩ => exact h0.trans (Nat.zero_add _).symm
  | ⟨1, _⟩ => exact congrArg (2944 + ·) h1

theorem out5_lt (a : Fin 32) (q : Fin 2048) : 16 * a.val + q.val / 128 < 512 := by omega
theorem out5_lt' (q : Fin 2048) : 256 + q.val % 128 < 3072 := by omega

/-- The third result's block: sixteen rows of 128 columns side by side. -/
theorem out5 (a : Fin 32) (q : Fin 2048) :
    out0_A_5 (F := Ideal) c i arg1 harg1 arg2 harg2 arg3 harg3 arg4 harg4 arg5 harg5 arg6 harg6 arg7 harg7 arg8 harg8 arg9 harg9 x0 x1 x2 (ix2 a q)
      = k0_pay3 x0 x1 x2 (ix2 ⟨16 * a.val + q.val / 128, out5_lt a q⟩ ⟨256 + q.val % 128, out5_lt' q⟩) := by
  unfold out0_A_5
  rw [View.read_writes_junk_eq_canon]
  unfold kernelRun0_A
  dsimp only
  canon_tiles x h
  all_goals
    replace h0 : a.val = _ := h0
    replace h1 : q.val = _ := h1
    exact piece5 c arg1 harg1 arg2 harg2 arg3 harg3 arg9 x0 x1 x2 _ _ x a q h0 (by omega) _ _

theorem out6_lt (a : Fin 4) (r : Fin 128) : 4 * r.val + a.val < 512 := by omega
theorem out6_lt' (q : Fin 768) : 640 + q.val < 3072 := by omega

/-- The fourth result's block: residue by residue, every fourth row of 768 columns. -/
theorem out6 (a : Fin 4) (r : Fin 128) (q : Fin 768) :
    out0_A_6 (F := Ideal) c i arg1 harg1 arg2 harg2 arg3 harg3 arg4 harg4 arg5 harg5 arg6 harg6 arg7 harg7 arg8 harg8 arg9 harg9 x0 x1 x2 (ix3 a r q)
      = k0_pay3 x0 x1 x2 (ix2 ⟨4 * r.val + a.val, out6_lt a r⟩ ⟨640 + q.val, out6_lt' q⟩) := by
  unfold out0_A_6
  rw [View.read_writes_junk_eq_canon]
  unfold kernelRun0_A
  dsimp only
  canon_tiles x h
  all_goals
    replace h0 : a.val = _ := h0
    replace h1 : r.val = _ := h1
    replace h2 : q.val = _ := h2
    exact piece6 c arg1 harg1 arg2 harg2 arg3 harg3 arg9 x0 x1 x2 _ _ _ x a r q (by omega) h1 (by omega) _ _

theorem out7_lt (a : Fin 16) (r : Fin 32) : 16 * r.val + a.val < 512 := by omega
theorem out7_lt' (q : Fin 768) : 640 + q.val < 3072 := by omega

/-- The fifth result's block: residue by residue, every sixteenth row of 768 columns. -/
theorem out7 (a : Fin 16) (r : Fin 32) (q : Fin 768) :
    out0_A_7 (F := Ideal) c i arg1 harg1 arg2 harg2 arg3 harg3 arg4 harg4 arg5 harg5 arg6 harg6 arg7 harg7 arg8 harg8 arg9 harg9 x0 x1 x2 (ix3 a r q)
      = k0_pay3 x0 x1 x2 (ix2 ⟨16 * r.val + a.val, out7_lt a r⟩ ⟨640 + q.val, out7_lt' q⟩) := by
  unfold out0_A_7
  rw [View.read_writes_junk_eq_canon]
  unfold kernelRun0_A
  dsimp only
  canon_tiles x h
  all_goals
    replace h0 : a.val = _ := h0
    replace h1 : r.val = _ := h1
    replace h2 : q.val = _ := h2
    exact piece7 c arg1 harg1 arg2 harg2 arg3 harg3 arg9 x0 x1 x2 _ _ _ x a r q (by omega) h1 (by omega) _ _

end Cert.Proof.In

end
-- ==== Proof.InLit.lean ====
/-
  The in-projection: the order of the columns and the scale of the queries' columns.
-/
module

public import proofs.«01_k».proof.Kernel4Ideal
public import proofs.«01_k».proof.Reference4Ideal
public import Idealize.ShloMosaic.Lib.Pointwise
public import Idealize.ShloMosaic.Lib.Pipeline.ValueKit

@[expose] public section

set_option maxRecDepth 16384

noncomputable section

namespace Cert.Proof.In

open Idealize.ShloMosaic

/-- The two programs list the columns in the same order. -/
theorem order_eq : ∀ j : Fin 2960, Cert.Reference4Ideal.lit0 j = Cert.Kernel4Ideal.lit0 j := by decide +kernel

/-- They hold the same scale. -/
theorem scale_eq : ∀ j : Fin 2960, Cert.Reference4Ideal.lit1 j = Cert.Kernel4Ideal.lit1 j := by decide +kernel

/-- Every column's scale is 1 or 1/8. -/
theorem scale_two : ∀ j : Fin 2960, Cert.Kernel4Ideal.lit1 j = 0x3F800000#32 ∨ Cert.Kernel4Ideal.lit1 j = 0x3E000000#32 := by decide +kernel

end Cert.Proof.In

end
-- ==== Proof.InGather.lean ====
/-
  The in-projection: a gather of columns read at an entry.
-/
module

public import Idealize.ShloMosaic.Lib.Pointwise
public import Idealize.ShloMosaic.Lib.Pipeline.ValueKit

@[expose] public section

set_option maxRecDepth 16384

noncomputable section

namespace Cert.Proof.In

open Idealize.ShloMosaic

/-- A gather of columns: entry `(r, j)` is the operand's at row `r` and the column listed at `j`. -/
theorem gather_cols {α : Type} {R C n : Nat} (d : GatherDims ⟨2, ![R, C]⟩ ⟨2, ![n, 1]⟩ ⟨2, ![R, n]⟩)
    (hoff : d.offsetDims = [0]) (hcoll : d.collapsedSliceDims = [1]) (hob : d.operandBatchingDims = []) (hsb : d.startIndicesBatchingDims = [])
    (hsim : d.startIndexMap = [1]) (hivd : d.indexVectorDim = 1) (hsz : d.sliceSizes = ![R, 1])
    (x : (⟨2, ![R, C]⟩ : Shape).Idx → α) (idx : IVec ⟨2, ![n, 1]⟩ 32) (r : Fin R) (j : Fin n) (hC : 0 < C) :
    Host.gather d x idx (ix2 r j) = x (ix2 r ⟨min (idx (ix2 j 0)).toInt.toNat (C - 1), by omega⟩) := by
  obtain ⟨a1, a2, a3, a4, a5, a6, a7, wf⟩ := d
  dsimp only at hoff hcoll hob hsb hsim hivd hsz
  subst hoff hcoll hob hsb hsim hivd hsz
  unfold Host.gather
  congr 1
  funext a
  refine Fin.ext ?_
  generalize hd : (⟨[0], [1], [], [], [1], 1, ![R, 1], wf⟩ : GatherDims ⟨2, ![R, C]⟩ ⟨2, ![n, 1]⟩ ⟨2, ![R, n]⟩) = d
  have hb (a) : d.batchCoord (ix2 r j) a = 0 := d.batchCoord_eq_zero _ _ (by rw [← hd]; exact List.not_mem_nil)
  show d.start (ix2 r j) idx a + d.batchCoord (ix2 r j) a + d.offCoord (ix2 r j) a = _
  rw [hb]
  match a with
  | ⟨0, _⟩ =>
    have hs : d.start (ix2 r j) idx (⟨0, Nat.zero_lt_two⟩ : Fin 2) = 0 := by
      unfold GatherDims.start
      rw [dif_neg (by rw [← hd]; exact (by decide : (0 : Fin 2) ∉ ([1] : List (Fin 2))))]
    rw [hs, ← hd]
    simp only [Nat.zero_add]
    rfl
  | ⟨1, _⟩ =>
    have ho : d.offCoord (ix2 r j) (⟨1, Nat.one_lt_two⟩ : Fin 2) = 0 :=
      d.offCoord_eq_zero _ _ (fun h => ((GatherDims.mem_sKept _ _).mp h).1 (by rw [← hd]; exact List.mem_singleton.mpr rfl))
    have hm : (⟨1, Nat.one_lt_two⟩ : Fin 2) ∈ d.startIndexMap := by rw [← hd]; exact List.mem_singleton.mpr rfl
    rw [ho]
    unfold GatherDims.start
    rw [dif_pos hm]
    subst hd
    simp only [Nat.add_zero]
    refine congrArg (fun i => min (idx i).toInt.toNat (C - 1)) ?_
    funext b
    refine Fin.ext ?_
    match b with
    | ⟨0, _⟩ => rfl
    | ⟨1, _⟩ => rfl

end Cert.Proof.In

end
-- ==== Proof.In2.lean ====
/-
  The in-projection's call: the arrays it is launched on, and its one product at an entry of the whole array.
-/
module

public import proofs.«01_k».proof.Proof.Gen.Kernel4Ideal.Value
public import proofs.«01_k».proof.Proof.InGather
public import Idealize.ShloMosaic.Lib.Pointwise
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.Proof.In
open Idealize.ShloMosaic Idealize.ShloMosaic.TcCoe
open Cert.Kernel4Ideal Cert.Kernel4Ideal.Gen

/-- A column's place in the weight. -/
def src (j : Fin 2960) : Fin 2960 := ⟨min (Cert.Kernel4Ideal.lit0 j).toInt.toNat (2960 - 1), by omega⟩

/-- A column's scale. -/
def scl (j : Fin 2960) : EReal := Ideal.ofBits .f32 (Cert.Kernel4Ideal.lit1 j)

/-- The normalised row `R`, at column `k`. -/
def un (h : S16384x1024.Idx → EReal) (g : S1024.Idx → EReal) (R : Fin 16384) (k : Fin 1024) : EReal :=
  h (ix2 R k) * Ideal.rsqrt (Ideal.div (∑ x : Fin 1024, h (ix2 R x) * h (ix2 R x)) (Ideal.ofBits FTy.f32 1149239296#32) + Ideal.ofBits FTy.f32 897988541#32) * g (ix1 k)

/-- The weight as the call takes it: its columns in order and scaled, then columns of zeros. -/
def wt (w : S1024x2960.Idx → EReal) (k : Fin 1024) (j : Fin 3072) : EReal :=
  if hj : j.val < 2960 then w (ix2 k (src ⟨j.val, hj⟩)) * scl ⟨j.val, hj⟩ else 0

variable (m : (ℓ : Loc nD τ sig) → Buf (Elt Ideal) ℓ)

/-- The places of the columns, as the host builds them. -/
def places : S2960x1.Idx → BitVec 32 :=
  broadcastInDim S2960x1 ![0] bcast_S2960_S2960x1_0
    (select (constantI S2960 1 0#1)
      (addi (fun i => lit0 (S2960.rowMajor i)) (broadcastInDim S2960 ![] bcast_S_S2960 (constantI S_ 32 2960#32)))
      fun i => lit0 (S2960.rowMajor i))

/-- The scales of the columns, as the host builds them. -/
def scales : S1024x2960.Idx → EReal :=
  broadcastInDim S1024x2960 ![0, 1] bcast_S1x2960_S1024x2960_0_1
    (broadcastInDim S1x2960 ![1] bcast_S2960_S1x2960_1 fun i => Ideal.ofBits FTy.f32 (lit1 (S2960.rowMajor i)))

theorem flat (j : Fin 2960) : S2960.rowMajor (ix1 j) = j := Fin.ext (by rw [Shape.rowMajor_val_one]; rfl)

theorem places_at (j : Fin 2960) : places (ix2 j 0) = lit0 j := by
  unfold places
  pointwise
  exact congrArg lit0 (flat j)

theorem scales_at (k : Fin 1024) (j : Fin 2960) : scales (ix2 k j) = scl j := by
  unfold scales scl
  pointwise
  exact congrArg (fun z => Ideal.ofBits FTy.f32 (lit1 z)) (flat j)

/-- The weight with its columns in order and scaled. -/
def cols (w : S1024x2960.Idx → EReal) : S1024x2960.Idx → EReal :=
  mulf (F := Ideal) (φ := .f32) (Host.gather gather_S1024x2960_S2960x1_S1024x2960_0_1_n_n_1_1_10241 w places) scales

theorem cols_at (w : S1024x2960.Idx → EReal) (k : Fin 1024) (j : Fin 2960) :
    cols w (ix2 k j) = w (ix2 k (src j)) * scl j := by
  show Host.gather gather_S1024x2960_S2960x1_S1024x2960_0_1_n_n_1_1_10241 w places (ix2 k j) * scales (ix2 k j) = _
  rw [scales_at]
  refine congrArg (· * scl j) ?_
  refine (gather_cols gather_S1024x2960_S2960x1_S1024x2960_0_1_n_n_1_1_10241 rfl rfl rfl rfl rfl rfl rfl w places k j (by decide)).trans ?_
  refine congrArg (fun z => w (ix2 k z)) (Fin.ext ?_)
  show min (places (ix2 j 0)).toInt.toNat (2960 - 1) = min (lit0 j).toInt.toNat (2960 - 1)
  rw [places_at]

/-- The call's operand: the columns, then the columns of padding. -/
theorem w_eq (c : Dev nD) : V m c main_v9
    = truncf (F := Ideal) (φ := .f32) .bf16 (pad S1024x3072 ![0, 0] ![0, 112] ![0, 0] (cols (m ((c : Thread nD τ).loc main_arg2)))
        (sitofp (F := Ideal) .f32 (constantI S_ 32 0#32)) pads_S1024x2960_S1024x3072_000_01120 h_S_) bitsLt_bf16_f32 := by
  unfold V
  unfold hostOps0 hostOps0_1 hostOps0_2
  simp only [List.flatten_cons, List.flatten_nil, List.append_nil, List.cons_append, List.nil_append]
  after_reads_simp
  rfl

theorem w_entry (c : Dev nD) (k : Fin 1024) (j : Fin 3072) :
    V m c main_v9 (ix2 k j) = wt (m ((c : Thread nD τ).loc main_arg2)) k j := by
  rw [w_eq]
  refine (truncf_apply _ _ _ _).trans ?_
  unfold wt
  by_cases hj : j.val < 2960
  · rw [dif_pos hj]
    refine (pad_apply_of_inside _ _ _ _ _ _ _ (ix2 k j) (ix2 k ⟨j.val, hj⟩) ?_).trans (cols_at _ k ⟨j.val, hj⟩)
    intro a
    fin_cases a
    · show k.val = 0 + k.val * (0 + 1)
      omega
    · show j.val = 0 + j.val * (0 + 1)
      omega
  · rw [dif_neg hj]
    refine (pad_apply_of_not_inside _ _ _ _ _ _ _ (ix2 k j) 1 ?_).trans ?_
    · intro h
      have h2 : (j.val - 0) / (0 + 1) < 2960 := h.2.2
      omega
    · pointwise
      show (((0#32 : BitVec 32).toInt : ℝ) : EReal) = 0
      norm_num

theorem g_entry (c : Dev nD) (k : Fin 1024) :
    V m c main_v10 (ix2 0 k) = m ((c : Thread nD τ).loc main_arg1) (ix1 k) := by
  unfold V
  unfold hostOps0 hostOps0_1 hostOps0_2
  simp only [List.flatten_cons, List.flatten_nil, List.append_nil, List.cons_append, List.nil_append]
  after_reads_simp
  pointwise

/-- The blocks of every grid point. -/
theorem idx : ∀ t : Fin cfg0.N,
    win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![0, t.val, 0] ∧ win0_7.index t = ![0, t.val, 0] :=
  (by decide +kernel : ∀ t : Fin grid0.N, _)

theorem row_lt (t : Fin cfg0.N) (y : Fin 512) : t.val * 512 + y.val < 16384 := by
  have h : t.val < 32 := t.isLt
  omega

/-- The array row at which row `y` of point `t`'s block sits. -/
def row (t : Fin cfg0.N) (y : Fin 512) : Fin 16384 := ⟨t.val * 512 + y.val, row_lt t y⟩

theorem b0 (c : Dev nD) (t : Fin cfg0.N) (y : Fin 512) (k : Fin 1024) :
    iblk m c 0 t (ix2 y k) = V m c main_arg0 (ix2 (row t y) k) := by
  blk_point [iblk, idx t]
  rfl

theorem b1 (c : Dev nD) (t : Fin cfg0.N) (k : Fin 1024) :
    iblk m c 1 t (ix2 0 k) = V m c main_v10 (ix2 0 k) := by
  blk_point [iblk, idx t]

theorem b2 (c : Dev nD) (t : Fin cfg0.N) (k : Fin 1024) (j : Fin 3072) :
    iblk m c 2 t (ix2 k j) = V m c main_v9 (ix2 k j) := by
  blk_point [iblk, idx t]

theorem acc_at (c : Dev nD) (t : Fin cfg0.N) (y : Fin 512) (j : Fin 3072) :
    k0_pay3 (F := Ideal) (iblk m c 0 t) (iblk m c 1 t) (iblk m c 2 t) (ix2 y j)
      = ∑ k : Fin 1024, un (m ((c : Thread nD τ).loc main_arg0)) (m ((c : Thread nD τ).loc main_arg1)) (row t y) k
          * wt (m ((c : Thread nD τ).loc main_arg2)) k j := by
  have e0 := fun k => (b0 m c t y k).trans (congrFun (V_main_arg0 m c) (ix2 (row t y) k))
  have e1 := fun k => (b1 m c t k).trans (g_entry m c k)
  have e2 := fun k => (b2 m c t k j).trans (w_entry m c k j)
  pointwise [k0_pay3]
  simp only [e0, e1, e2]
  rfl

end Cert.Proof.In

end
-- ==== Proof.SbSums.lean ====
/-
  Stick-breaking attention, the mathematics of one row: the logarithm of the share that a key leaves, the weights, and
  the sums over the keys from a tile on, which the kernel builds tile by tile.
-/
module

public import Idealize.ShloMosaic.Lib.Pointwise

@[expose] public section

noncomputable section

namespace Cert.Proof.Sb

open Idealize.ShloMosaic

/-- `log (1 + e^x)`, as the programs compute it. -/
def sp (x : ℝ) : ℝ := max x 0 + Real.log (1 + Real.exp (-|x|))

theorem coe_max (a b : ℝ) : ((max a b : ℝ) : EReal) = max (a : EReal) (b : EReal) := EReal.coe_strictMono.monotone.map_max

/-- The logarithm of the share of the stick that a key with score `x` leaves. -/
theorem keep_eq (x : ℝ) : (0 : EReal) - (max (x : EReal) 0 + Ideal.log (1 + Ideal.exp (0 - max (x : EReal) (-(x : EReal)))))
    = ((-sp x : ℝ) : EReal) := by
  have h1 : max (x : EReal) (-(x : EReal)) = ((|x| : ℝ) : EReal) := by
    rw [← EReal.coe_neg, ← coe_max, abs_eq_max_neg]
  have h2 : (0 : EReal) - ((|x| : ℝ) : EReal) = ((-|x| : ℝ) : EReal) := by
    rw [← EReal.coe_zero, ← EReal.coe_sub, zero_sub]
  have h3 : (1 : EReal) + ((Real.exp (-|x|) : ℝ) : EReal) = ((1 + Real.exp (-|x|) : ℝ) : EReal) := by
    rw [← EReal.coe_one, ← EReal.coe_add]
  have h4 : ¬ (1 + Real.exp (-|x|) ≤ 0) := by have := Real.exp_pos (-|x|); linarith
  rw [h1, h2, Ideal.exp_coe, h3, Ideal.log_coe, if_neg h4, ← EReal.coe_zero, ← coe_max, ← EReal.coe_add, ← EReal.coe_sub]
  unfold sp
  rw [zero_sub]

/-- The same with the sum's argument under `log1p`, negations for differences from zero. -/
theorem keep_eq' (x : ℝ) : -(max (x : EReal) 0 + Ideal.log1p (Ideal.exp (-(max (x : EReal) (-(x : EReal))))))
    = ((-sp x : ℝ) : EReal) := by
  rw [← keep_eq x, Ideal.log1p, sub_eq_add_neg, zero_add, sub_eq_add_neg (0 : EReal) (max (x : EReal) _), zero_add]

theorem sp_neg (x : ℝ) : -sp (-x) = x + -sp x := by
  unfold sp
  rw [abs_neg]
  rcases le_total 0 x with h | h
  · rw [max_eq_right (by linarith : -x ≤ 0), max_eq_left h]; ring
  · rw [max_eq_left (by linarith : 0 ≤ -x), max_eq_right h]; ring

theorem coe_sub_self (x : ℝ) : (x : EReal) - (x : EReal) = 0 := by
  rw [← EReal.coe_sub, sub_self, EReal.coe_zero]

/-- A sum of finite terms is finite. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum over the keys of tile `J` and of the later ones. -/
def tail (J : ℕ) (f : Fin 16384 → EReal) : EReal := ∑ s ∈ Finset.univ.filter (fun s : Fin 16384 => 256 * J ≤ s.val), f s

theorem tail_zero (f : Fin 16384 → EReal) : tail 0 f = ∑ s, f s := by
  unfold tail
  rw [Finset.filter_true_of_mem (fun s _ => by omega)]

theorem tail_none (J : ℕ) (f : Fin 16384 → EReal) (h : ∀ s : Fin 16384, 256 * J ≤ s.val → f s = 0) : tail J f = 0 :=
  Finset.sum_eq_zero fun s hs => h s (Finset.mem_filter.mp hs).2

theorem tail_congr (J : ℕ) (f g : Fin 16384 → EReal) (h : ∀ s : Fin 16384, 256 * J ≤ s.val → f s = g s) : tail J f = tail J g :=
  Finset.sum_congr rfl fun s hs => h s (Finset.mem_filter.mp hs).2

theorem tile_lt {J : ℕ} (hJ : J < 64) (b : Fin 256) : 256 * J + b.val < 16384 := by omega

/-- Key `b` of tile `J`. -/
def key {J : ℕ} (hJ : J < 64) (b : Fin 256) : Fin 16384 := ⟨256 * J + b.val, tile_lt hJ b⟩

theorem tail_step {J : ℕ} (hJ : J < 64) (f : Fin 16384 → EReal) : tail J f = tail (J + 1) f + ∑ b, f (key hJ b) := by
  unfold tail
  rw [← Finset.sum_filter_add_sum_filter_not (Finset.univ.filter fun s : Fin 16384 => 256 * J ≤ s.val) (fun s => 256 * (J + 1) ≤ s.val)]
  refine congrArg₂ (· + ·) ?_ ?_
  · refine Finset.sum_congr (Finset.ext fun s => ?_) fun _ _ => rfl
    simp only [Finset.mem_filter, Finset.mem_univ, true_and]
    omega
  · refine Finset.sum_bij' (fun s _ => (⟨s.val % 256, Nat.mod_lt _ (by norm_num)⟩ : Fin 256)) (fun b _ => key hJ b) ?_ ?_ ?_ ?_ ?_
    · intro s _; exact Finset.mem_univ _
    · intro b _
      simp only [Finset.mem_filter, Finset.mem_univ, true_and, key]
      omega
    · intro s hs
      simp only [Finset.mem_filter, Finset.mem_univ, true_and] at hs
      refine Fin.ext ?_
      show 256 * J + s.val % 256 = s.val
      omega
    · intro b _
      refine Fin.ext ?_
      show (256 * J + b.val) % 256 = b.val
      omega
    · intro s hs
      simp only [Finset.mem_filter, Finset.mem_univ, true_and] at hs
      refine congrArg f (Fin.ext ?_)
      show s.val = 256 * J + s.val % 256
      omega

/-- `log (1 + e^x)` on the extended reals. -/
def softv (x : EReal) : EReal := max x 0 + Ideal.log1p (Ideal.exp (-(max x (-x))))

/-- The logarithm of the share that a key with score `x` leaves. -/
def kpv (x : EReal) : EReal := -(softv x)

/-- The same as the kernel spells it. -/
theorem kpv_eq (x : EReal) : (0 : EReal) - (max x 0 + Ideal.log (1 + Ideal.exp (0 - max x (-x)))) = kpv x := by
  rw [kpv, softv, Ideal.log1p, sub_eq_add_neg, zero_add, sub_eq_add_neg (0 : EReal) (max x _), zero_add]

theorem kpv_coe (x : ℝ) : kpv x = ((-sp x : ℝ) : EReal) := keep_eq' x

theorem exp_none : Ideal.log1p (Ideal.exp (-(⊤ : EReal))) = 0 := by
  have e : Ideal.exp (-(⊤ : EReal)) = 0 := by rw [EReal.neg_top]; rfl
  rw [e, Ideal.log1p, add_zero, ← EReal.coe_one, Ideal.log_coe, if_neg (by norm_num), Real.log_one, EReal.coe_zero]

theorem softv_top : softv ⊤ = ⊤ := by
  unfold softv
  rw [EReal.neg_top, max_eq_left le_top, max_eq_left bot_le, exp_none, add_zero]

theorem softv_bot : softv ⊥ = 0 := by
  unfold softv
  rw [EReal.neg_bot, max_eq_right bot_le, max_eq_right le_top, exp_none, add_zero]

theorem kpv_top : kpv ⊤ = ⊥ := by rw [kpv, softv_top, EReal.neg_top]
theorem kpv_bot : kpv ⊥ = 0 := by rw [kpv, softv_bot, neg_zero]

variable (Z : Fin 16384 → Fin 16384 → EReal)

/-- The logarithm of the share that key `s` leaves of row `r`'s stick; only earlier keys take a share. -/
def keep (r s : Fin 16384) : EReal := if s.val < r.val then kpv (Z r s) else 0

/-- The logarithm of the share that the keys after `s` leave. -/
def later (r s : Fin 16384) : EReal := ∑ s' : Fin 16384, if s.val < s'.val then keep Z r s' else 0

/-- The share of row `r`'s stick that key `s` takes. -/
def wt (r s : Fin 16384) : EReal :=
  if s.val < r.val then Ideal.exp (Z r s + kpv (Z r s) + later Z r s) else 0

theorem kpv_cases (x : EReal) : kpv x = ⊥ ∨ ∃ y : ℝ, kpv x = y := by
  induction x using EReal.rec with
  | bot => exact Or.inr ⟨0, kpv_bot⟩
  | coe x => exact Or.inr ⟨_, kpv_coe x⟩
  | top => exact Or.inl kpv_top

theorem keep_cases (r s : Fin 16384) : keep Z r s = ⊥ ∨ ∃ x : ℝ, keep Z r s = x := by
  unfold keep
  split
  · exact kpv_cases _
  · exact Or.inr ⟨0, rfl⟩

/-- What the roundings of a logarithm leave adds nothing: it is 0, or minus infinity where the logarithm is. -/
theorem keep_rest (r s : Fin 16384) (t : EReal) (ht : t = 0 ∨ t = 1) :
    keep Z r s * t + (keep Z r s - keep Z r s) * t + (keep Z r s - keep Z r s - (keep Z r s - keep Z r s)) * t = keep Z r s * t := by
  rcases keep_cases Z r s with h | ⟨x, h⟩
  · rw [h]; rcases ht with rfl | rfl
    · simp only [mul_zero, add_zero]
    · rw [mul_one, mul_one, EReal.bot_add, EReal.bot_sub, EReal.bot_sub, mul_one, EReal.bot_add]
  · rw [h, coe_sub_self, sub_zero, zero_mul, add_zero, add_zero]

theorem keep_late (r s : Fin 16384) (h : r.val ≤ s.val) : keep Z r s = 0 := if_neg (by omega)

theorem wt_late (r s : Fin 16384) (h : r.val ≤ s.val) : wt Z r s = 0 := if_neg (by omega)

/-- Within a tile: the later tiles' sum and the tile's own later keys' make up the sum over all later keys. -/
theorem later_tile {J : ℕ} (hJ : J < 64) (r : Fin 16384) (b : Fin 256) :
    tail (J + 1) (keep Z r) + ∑ b' : Fin 256, keep Z r (key hJ b') * (if b.val < b'.val then 1 else 0) = later Z r (key hJ b) := by
  have h1 : later Z r (key hJ b) = tail J (fun s' => if (key hJ b).val < s'.val then keep Z r s' else 0) := by
    unfold later tail
    rw [Finset.sum_filter]
    refine Finset.sum_congr rfl fun s' _ => ?_
    show (if 256 * J + b.val < s'.val then _ else _) = if _ then (if 256 * J + b.val < s'.val then _ else _) else _
    by_cases h : 256 * J + b.val < s'.val
    · rw [if_pos h, if_pos (by omega)]
    · rw [if_neg h, ite_self]
  rw [h1, tail_step hJ]
  refine congrArg₂ (· + ·) (tail_congr _ _ _ fun s hs => ?_) (Finset.sum_congr rfl fun b' _ => ?_)
  · refine (if_pos ?_).symm
    show 256 * J + b.val < s.val
    omega
  · show _ = if 256 * J + b.val < 256 * J + b'.val then _ else _
    by_cases h : b.val < b'.val
    · rw [if_pos h, if_pos (by omega), mul_one]
    · rw [if_neg h, if_neg (by omega), mul_zero]

/-- The same with the kernel's three parts of each logarithm: its rounding, the rounding of the rest and the rest. -/
theorem later_parts {J : ℕ} (hJ : J < 64) (r : Fin 16384) (b : Fin 256) :
    tail (J + 1) (keep Z r) +
      (((∑ b' : Fin 256, keep Z r (key hJ b') * (if b.val < b'.val then 1 else 0))
        + ∑ b' : Fin 256, (keep Z r (key hJ b') - keep Z r (key hJ b')) * (if b.val < b'.val then 1 else 0))
        + ∑ b' : Fin 256, (keep Z r (key hJ b') - keep Z r (key hJ b') - (keep Z r (key hJ b') - keep Z r (key hJ b')))
            * (if b.val < b'.val then 1 else 0)) = later Z r (key hJ b) := by
  rw [← later_tile Z hJ r b, ← Finset.sum_add_distrib, ← Finset.sum_add_distrib]
  refine congrArg (tail (J + 1) (keep Z r) + ·) (Finset.sum_congr rfl fun b' _ => keep_rest Z r _ _ ?_)
  by_cases h : b.val < b'.val
  · exact Or.inr (if_pos h)
  · exact Or.inl (if_neg h)

end Cert.Proof.Sb

end
-- ==== Proof.Sb1.lean ====
/-
  Stick-breaking attention, the idealized program: what one tile adds, over any scores `Z` (finite) and values `V`.
-/
module

public import proofs.«01_k».proof.Proof.KIBody
public import proofs.«01_k».proof.Proof.SbSums
public import Idealize.ShloMosaic.Lib.Pipeline.ValueKit
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe
open Cert.Proof.Sb

variable (Z : Fin 16384 → Fin 16384 → EReal)

/-- The triangle: 1 where the row is later than the column. -/
def Tri (t : Vec Ideal S256x256 .bf16) : Prop := ∀ b b' : Fin 256, t (ix2 b' b) = (if b.val < b'.val then 1 else 0 : EReal)

/-- The running sum and the accumulator after the tiles from `J` on. -/
def Inv (V : Fin 16384 → Fin 128 → EReal) (r : Fin 512 → Fin 16384) (J : ℕ) (run : FVec Ideal S512x1 .f32) (acc : FVec Ideal S512x128 .f32) : Prop :=
  (∀ a, run (ix2 a 0) = tail J (keep Z (r a))) ∧ ∀ a c, acc (ix2 a c) = tail J (fun s => wt Z (r a) s * V s c)

theorem keep_raw (q : Vec Ideal S512x128 .bf16) (k : Vec Ideal S256x128 .bf16) (a : Fin 512) (b : Fin 256) (x : EReal)
    (h : k0_pay23 (F := Ideal) q k (ix2 a b) = x) : k0_pay24 (F := Ideal) q k (ix2 a b) = kpv x := by
  pointwise [k0_pay24]
  simp only [Ideal.absf_def]
  erw [h]
  exact kpv_eq x

theorem wt_early {r s : Fin 16384} (h : s.val < r.val) :
   wt Z r s = Ideal.exp (Z r s + kpv (Z r s) + later Z r s) := if_pos h

theorem select_ite (p : Prop) [Decidable p] (x y : EReal) :
    Scalar.select (if p then 1#1 else 0#1 : BitVec 1) x y = if p then x else y := by
  by_cases h : p
  · rw [if_pos h, if_pos h]; rfl
  · rw [if_neg h, if_neg h]; rfl

/-- A whole tile's share, added to the accumulator. -/
theorem acc_open (V : Fin 16384 → Fin 128 → EReal) (r : Fin 512 → Fin 16384) {J : ℕ} (hJ : J < 64) (t : Vec Ideal S256x256 .bf16) (ht : Tri t)
    (q : Vec Ideal S512x128 .bf16) (k v : Vec Ideal S256x128 .bf16) (run : FVec Ideal S512x1 .f32) (acc : FVec Ideal S512x128 .f32)
    (hr : ∀ a, 256 * (J + 1) ≤ (r a).val)
    (hz : ∀ a b, k0_pay23 (F := Ideal) q k (ix2 a b) = Z (r a) (key hJ b)) (hv : ∀ b c, v (ix2 b c) = V (key hJ b) c)
    (h : Inv Z V r (J + 1) run acc) (a : Fin 512) (c : Fin 128) :
    k0_pay4 (F := Ideal) t q run acc k v (ix2 a c) = tail J (fun s => wt Z (r a) s * V s c) := by
  have hs (a : Fin 512) (b : Fin 256) : (key hJ b).val < (r a).val := by have := hr a; show 256 * J + b.val < _; omega
  have hl (a b) : k0_pay3 (F := Ideal) q k (ix2 a b) = keep Z (r a) (key hJ b) :=
    (keep_raw q k a b _ (hz a b)).trans (if_pos (hs a b)).symm
  have ht' (b b' : Fin 256) : t (ix2 b' b) = (if b.val < b'.val then 1 else 0 : EReal) := ht b b'
  have hz' (a b) : k0_pay2 (F := Ideal) q k (ix2 a b) = Z (r a) (key hJ b) := hz a b
  rw [tail_step hJ, ← h.2 a c]
  unfold k0_pay4
  generalize k0_pay3 (F := Ideal) _ _ = l at hl
  generalize k0_pay2 (F := Ideal) _ _ = z at hz'
  pointwise
  simp only [hl, hz', ht', hv, h.1 a]
  refine congrArg (acc (ix2 a c) + ·) (Finset.sum_congr rfl fun b _ => ?_)
  simp only [later_parts]
  rw [wt_early Z (hs a b), keep, if_pos (hs a b)]

/-- A whole tile's logarithms, added to the running sum. -/
theorem run_open (V : Fin 16384 → Fin 128 → EReal) (r : Fin 512 → Fin 16384) {J : ℕ} (hJ : J < 64)
    (q : Vec Ideal S512x128 .bf16) (k : Vec Ideal S256x128 .bf16) (run : FVec Ideal S512x1 .f32) (acc : FVec Ideal S512x128 .f32)
    (hr : ∀ a, 256 * (J + 1) ≤ (r a).val)
    (hz : ∀ a b, k0_pay23 (F := Ideal) q k (ix2 a b) = Z (r a) (key hJ b))
    (h : Inv Z V r (J + 1) run acc) (a : Fin 512) :
    k0_pay5 (F := Ideal) q run k (ix2 a 0) = tail J (keep Z (r a)) := by
  have hs (a : Fin 512) (b : Fin 256) : (key hJ b).val < (r a).val := by have := hr a; show 256 * J + b.val < _; omega
  have hl (a b) : k0_pay3 (F := Ideal) q k (ix2 a b) = keep Z (r a) (key hJ b) :=
    (keep_raw q k a b _ (hz a b)).trans (if_pos (hs a b)).symm
  rw [tail_step hJ, ← h.1 a]
  unfold k0_pay5
  generalize k0_pay3 (F := Ideal) _ _ = l at hl
  pointwise
  simp only [hl]

/-- A diagonal tile's share, added to the accumulator: only the keys before the row count. -/
theorem acc_diag (V : Fin 16384 → Fin 128 → EReal) (r : Fin 512 → Fin 16384) {J : ℕ} (hJ : J < 64) (t : Vec Ideal S256x256 .bf16) (ht : Tri t)
    (q : Vec Ideal S512x128 .bf16) (k v : Vec Ideal S256x128 .bf16) (run : FVec Ideal S512x1 .f32) (acc : FVec Ideal S512x128 .f32)
    (mask : IVec S512x256 1) (hm : ∀ a b, mask (ix2 a b) = if (key hJ b).val < (r a).val then 1#1 else 0#1)
    (hz : ∀ a b, k0_pay23 (F := Ideal) q k (ix2 a b) = Z (r a) (key hJ b)) (hv : ∀ b c, v (ix2 b c) = V (key hJ b) c)
    (h : Inv Z V r (J + 1) run acc) (a : Fin 512) (c : Fin 128) :
    k0_pay27 (F := Ideal) t run acc v mask (k0_pay24 q k) (k0_pay25 q k) (ix2 a c) = tail J (fun s => wt Z (r a) s * V s c) := by
  have hw (a b) : k0_pay24 (F := Ideal) q k (ix2 a b) = kpv (Z (r a) (key hJ b)) := keep_raw q k a b _ (hz a b)
  have hl (a b) : k0_pay26 (F := Ideal) mask (k0_pay24 q k) (ix2 a b) = keep Z (r a) (key hJ b) := by
    unfold k0_pay26
    generalize k0_pay24 (F := Ideal) _ _ = w at hw
    pointwise
    rw [hm a b, hw, select_ite]
    rfl
  have ht' (b b' : Fin 256) : t (ix2 b' b) = (if b.val < b'.val then 1 else 0 : EReal) := ht b b'
  rw [tail_step hJ, ← h.2 a c]
  unfold k0_pay27 k0_pay25
  generalize k0_pay26 (F := Ideal) _ _ = l at hl
  generalize k0_pay24 (F := Ideal) _ _ = w at hw
  generalize k0_pay23 (F := Ideal) _ _ = z at hz
  pointwise
  simp only [hl, hz, hw, hm, ht', hv, h.1 a]
  refine congrArg (acc (ix2 a c) + ·) (Finset.sum_congr rfl fun b _ => ?_)
  simp only [later_parts, select_ite]
  rw [wt, ite_mul, zero_mul]

/-- A diagonal tile's logarithms, added to the running sum. -/
theorem run_diag (V : Fin 16384 → Fin 128 → EReal) (r : Fin 512 → Fin 16384) {J : ℕ} (hJ : J < 64)
    (q : Vec Ideal S512x128 .bf16) (k : Vec Ideal S256x128 .bf16) (run : FVec Ideal S512x1 .f32) (acc : FVec Ideal S512x128 .f32)
    (mask : IVec S512x256 1) (hm : ∀ a b, mask (ix2 a b) = if (key hJ b).val < (r a).val then 1#1 else 0#1)
    (hz : ∀ a b, k0_pay23 (F := Ideal) q k (ix2 a b) = Z (r a) (key hJ b))
    (h : Inv Z V r (J + 1) run acc) (a : Fin 512) :
    k0_pay28 (F := Ideal) run mask (k0_pay24 q k) (ix2 a 0) = tail J (keep Z (r a)) := by
  have hw (a b) : k0_pay24 (F := Ideal) q k (ix2 a b) = kpv (Z (r a) (key hJ b)) := keep_raw q k a b _ (hz a b)
  have hl (a b) : k0_pay26 (F := Ideal) mask (k0_pay24 q k) (ix2 a b) = keep Z (r a) (key hJ b) := by
    unfold k0_pay26
    generalize k0_pay24 (F := Ideal) _ _ = w at hw
    pointwise
    rw [hm a b, hw, select_ite]
    rfl
  rw [tail_step hJ, ← h.1 a]
  unfold k0_pay28
  generalize k0_pay26 (F := Ideal) _ _ = l at hl
  pointwise
  simp only [hl]

theorem pay51_id (x : Vec Ideal S256x128 .bf16) : k0_pay51 (F := Ideal) x = x := by ext i; pointwise [k0_pay51]
theorem pay52_id (x : Vec Ideal S256x128 .bf16) : k0_pay52 (F := Ideal) x = x := by ext i; pointwise [k0_pay52]

end Cert.Proof.KI

end
-- ==== Proof.Sb2.lean ====
/-
  Stick-breaking attention, the idealized program: the two diagonal tiles and the whole walk, for both heads. The early
  exit never fires on the extended reals, so the walk's end holds the sums over every key.
-/
module

public import proofs.«01_k».proof.Proof.Sb1

@[expose] public section

set_option maxRecDepth 16384

noncomputable section

namespace Cert.Proof.KI

open Cert.KernelIdeal Cert.KernelIdeal.Gen
open Idealize.ShloMosaic Idealize.ShloMosaic.TcCoe
open Cert.Proof.Sb

/-- The masked queries `q` and the keys `K` have the scores `Z`, tile by tile. -/
def Scores (q : Vec Ideal S512x128 .bf16) (K : Fin 16384 → Fin 128 → EReal) (r : Fin 512 → Fin 16384) (Z : Fin 16384 → Fin 16384 → EReal) : Prop :=
  ∀ (J : ℕ) (hJ : J < 64) (k : Vec Ideal S256x128 .bf16), (∀ b c, k (ix2 b c) = K (key hJ b) c) →
    ∀ a b, k0_pay23 (F := Ideal) q k (ix2 a b) = Z (r a) (key hJ b)

theorem pay8_id (x : Vec Ideal S256x256 .bf16) : k0_pay8 (F := Ideal) x = x := by ext i; pointwise [k0_pay8]
theorem pay13_id (x : Vec Ideal S256x128 .bf16) : k0_pay13 (F := Ideal) x = x := by ext i; pointwise [k0_pay13]
theorem pay14_id (x : Vec Ideal S256x128 .bf16) : k0_pay14 (F := Ideal) x = x := by ext i; pointwise [k0_pay14]
theorem pay29_id (x : Vec Ideal S256x128 .bf16) : k0_pay29 (F := Ideal) x = x := by ext i; pointwise [k0_pay29]
theorem pay30_id (x : Vec Ideal S256x128 .bf16) : k0_pay30 (F := Ideal) x = x := by ext i; pointwise [k0_pay30]

theorem qv_id (x : Vec Ideal S512x128 .bf16) : qv x = x := by
  unfold qv
  exact View.ld_unit_zero (by decide) _ _
theorem tv_id (x : Vec Ideal S256x256 .bf16) : tv x = x := by
  unfold tv
  exact View.ld_unit_zero (by decide) _ _

/-- A key tile the walk loads, at a row. -/
theorem tileAt_at (x : Vec Ideal S16384x128 .bf16) (n : ℕ) (hn : n < 64) (h : k0_chk1 (ctr (n + 1))) (b : Fin 256) (c : Fin 128) :
    tileAt x (ctr (n + 1)) h (ix2 b c) = x (ix2 (key hn b) c) := by
  have off : ∀ n : Fin 64, k0_off2 (ctr (n.val + 1)) = ![256 * n.val, 0] := by decide +kernel
  unfold tileAt
  refine View.ld_unit_apply_of _ _ _ _ _ _ fun d => ?_
  refine Eq.trans ?_ (congrArg (· + (ix2 b c d).val) (congrFun (off ⟨n, hn⟩) d)).symm
  fin_cases d
  · rfl
  · exact (Nat.zero_add _).symm

/-- A key tile of the diagonal, at a row. -/
theorem diagAt_at (i : grid0.Coords) (x : Vec Ideal S16384x128 .bf16) (w : Fin 2) (hn : 2 * (i 1).val + w.val < 64) (b : Fin 256) (c : Fin 128) :
    diagAt i x w (ix2 b c) = x (ix2 (key hn b) c) := by
  unfold diagAt
  refine View.ld_unit_apply_of _ _ _ _ _ _ fun d => ?_
  refine Eq.trans ?_ (congrArg (· + (ix2 b c d).val) (congrFun (k0_off1_eq i w) d)).symm
  fin_cases d
  · show 256 * (2 * (i 1).val + w.val) + b.val = 512 * (i 1).val + 256 * w.val + b.val
    omega
  · exact (Nat.zero_add _).symm

/-- The walk goes on while a tile is left. -/
theorem goes_on (n : ℕ) (hn : n < 64) (s : St Ideal) (hs : s.1 = ctr (n + 1)) : goes s := by
  have hc : ∀ n : Fin 64, Scalar.cmpi .sge (ctr (n.val + 1)) 0#32 = 1#1 := by decide +kernel
  have hk : (Named.named κ "exp_zero" 0xC2D00000#32 : Ideal .f32) = (⊥ : EReal) :=
    IdealRules.named_const.ideal_named_scalar κ "exp_zero" _ _ rfl
  unfold goes
  rw [hs, hc ⟨n, hn⟩, hk]
  show 1#1 &&& BitVec.ofBool (decide ((⊥ : EReal) ≤ s.2.1)) = 1#1
  rw [decide_eq_true bot_le]; rfl

variable (ZA ZB : Fin 16384 → Fin 16384 → EReal)

/-- The walk over the tiles before the diagonal completes both heads' sums. -/
theorem walk_inv (x1 x2 : Vec Ideal S16384x128 .bf16) (qa qb : FVec Ideal S512x128 .bf16) (t : FVec Ideal S256x256 .bf16) (ht : Tri t)
    (r : Fin 512 → Fin 16384) (ha : Scores qa (fun s c => x1 (ix2 s c)) r ZA) (hb : Scores qb (fun s c => x1 (ix2 s c)) r ZB) :
    ∀ n, n ≤ 64 → (∀ a, 256 * n ≤ (r a).val) → ∀ s : St Ideal, s.1 = ctr n →
      Inv ZA (fun s c => x2 (ix2 s c)) r n s.2.2.1 s.2.2.2.1 → Inv ZB (fun s c => x2 (ix2 s c)) r n s.2.2.2.2.1 s.2.2.2.2.2 →
      Inv ZA (fun s c => x2 (ix2 s c)) r 0 (walk x1 x2 qa t qb n s).2.2.1 (walk x1 x2 qa t qb n s).2.2.2.1 ∧
      Inv ZB (fun s c => x2 (ix2 s c)) r 0 (walk x1 x2 qa t qb n s).2.2.2.2.1 (walk x1 x2 qa t qb n s).2.2.2.2.2 := by
  intro n
  induction n with
  | zero => intro _ _ s _ iA iB; exact ⟨iA, iB⟩
  | succ n ih =>
    intro hn hr s hs iA iB
    have hJ : n < 64 := hn
    unfold walk
    have hg : k0_chk1 s.1 := by rw [hs]; exact chk_ctr ⟨n, hJ⟩
    rw [if_pos (goes_on n hJ s hs), dif_pos hg]
    have hk (x : Vec Ideal S16384x128 .bf16) (b c) : tileAt x s.1 hg (ix2 b c) = x (ix2 (key hJ b) c) := by
      have e : ∀ w (hw : k0_chk1 w), w = ctr (n + 1) → tileAt x w hw (ix2 b c) = x (ix2 (key hJ b) c) := by
        intro w hw e; subst e; exact tileAt_at x n hJ hw b c
      exact e _ _ hs
    have hk1 := hk x1
    have hk2 := hk x2
    generalize tileAt x1 s.1 hg = kb at hk1
    generalize tileAt x2 s.1 hg = vb at hk2
    have hr' : ∀ a, 256 * n ≤ (r a).val := fun a => by have := hr a; omega
    have step : Inv ZA (fun s c => x2 (ix2 s c)) r n (stepOn qa t qb kb vb s).2.2.1 (stepOn qa t qb kb vb s).2.2.2.1 ∧
        Inv ZB (fun s c => x2 (ix2 s c)) r n (stepOn qa t qb kb vb s).2.2.2.2.1 (stepOn qa t qb kb vb s).2.2.2.2.2 := by
      refine ⟨⟨fun a => ?_, fun a c => ?_⟩, ⟨fun a => ?_, fun a c => ?_⟩⟩
      · show k0_pay5 (F := Ideal) qa s.2.2.1 (k0_pay51 kb) (ix2 a 0) = _
        rw [pay51_id]
        exact run_open ZA _ r hJ qa kb _ _ hr (ha n hJ kb hk1) iA a
      · show k0_pay4 (F := Ideal) t qa s.2.2.1 s.2.2.2.1 (k0_pay51 kb) (k0_pay52 vb) (ix2 a c) = _
        rw [pay51_id, pay52_id]
        exact acc_open ZA (fun s c => x2 (ix2 s c)) r hJ t ht qa kb vb _ _ hr (ha n hJ kb hk1) hk2 iA a c
      · show k0_pay5 (F := Ideal) qb s.2.2.2.2.1 (k0_pay51 kb) (ix2 a 0) = _
        rw [pay51_id]
        exact run_open ZB _ r hJ qb kb _ _ hr (hb n hJ kb hk1) iB a
      · show k0_pay4 (F := Ideal) t qb s.2.2.2.2.1 s.2.2.2.2.2 (k0_pay51 kb) (k0_pay52 vb) (ix2 a c) = _
        rw [pay51_id, pay52_id]
        exact acc_open ZB (fun s c => x2 (ix2 s c)) r hJ t ht qb kb vb _ _ hr (hb n hJ kb hk1) hk2 iB a c
    exact ih (by omega) hr' _ (by show Scalar.subi s.1 1#32 = _; rw [hs]; exact ctr_pred n) step.1 step.2

/-- A mask word: 1 where the statement holds. -/
theorem ofBool_ite (p : Prop) [Decidable p] : BitVec.ofBool (decide p) = if p then 1#1 else 0#1 := by
  by_cases h : p <;> simp [h]

/-- The rows of grid point `i`. -/
def row (i : grid0.Coords) (a : Fin 512) : Fin 16384 := ⟨512 * (i 1).val + a.val, by have := (i 1).isLt; have : (i 1).val < 32 := this; omega⟩

theorem mask1_at (i : grid0.Coords) (hn : 2 * (i 1).val + 1 < 64) (a : Fin 512) (b : Fin 256) :
    k0_pay15 (ix2 a b) = if (key hn b).val < (row i a).val then 1#1 else 0#1 := by
  have e : k0_pay15 (ix2 a b) = IntOp.cmpi .slt (BitVec.ofNat 32 (b.val + 256)) (BitVec.ofNat 32 a.val) := by
    rw [BitVec.ofNat_add]
    pointwise [k0_pay15]
    rfl
  rw [e, WordCmp.cmpi_slt_ofNat (by omega) (by omega), ofBool_ite]
  refine if_congr ?_ rfl rfl
  show b.val + 256 < a.val ↔ 256 * (2 * (i 1).val + 1) + b.val < 512 * (i 1).val + a.val
  omega

theorem mask0_at (i : grid0.Coords) (hn : 2 * (i 1).val < 64) (a : Fin 512) (b : Fin 256) :
    mask0 (ix2 a b) = if (key hn b).val < (row i a).val then 1#1 else 0#1 := by
  have e : mask0 (ix2 a b) = IntOp.cmpi .slt (BitVec.ofNat 32 (b.val + 0)) (BitVec.ofNat 32 a.val) := by
    rw [BitVec.ofNat_add]
    pointwise [mask0, k0_pay31]
    rfl
  rw [e, WordCmp.cmpi_slt_ofNat (by omega) (by omega), ofBool_ite]
  refine if_congr ?_ rfl rfl
  show b.val + 0 < a.val ↔ 256 * (2 * (i 1).val) + b.val < 512 * (i 1).val + a.val
  omega

/-- Before the diagonal tiles nothing is summed: no later key is before a row of the point. -/
theorem inv_none (Z : Fin 16384 → Fin 16384 → EReal) (V : Fin 16384 → Fin 128 → EReal) (i : grid0.Coords) :
    Inv Z V (row i) (2 * (i 1).val + 2) (k0_pay11 (F := Ideal)) (k0_pay12 (F := Ideal)) := by
  have no (a : Fin 512) (s : Fin 16384) (h : 256 * (2 * (i 1).val + 2) ≤ s.val) : ¬ s.val < (row i a).val := by
    show ¬ s.val < 512 * (i 1).val + a.val
    omega
  constructor
  · intro a
    rw [tail_none _ (keep Z (row i a)) fun s h => if_neg (no a s h)]
    pointwise [k0_pay11]
  · intro a c
    rw [tail_none _ _ fun s h => by rw [wt, if_neg (no a s h), zero_mul]]
    pointwise [k0_pay12]

/-! The payloads of the first head and of the earlier diagonal tile are the second head's of the later one, on other
    operands. -/

theorem runA1_eq (q : Vec Ideal S512x128 .bf16) (k : Vec Ideal S256x128 .bf16) :
    runA1 q k = k0_pay28 (F := Ideal) (k0_pay11 (F := Ideal)) k0_pay15 (k0_pay24 (k0_pay9 q) (k0_pay13 k)) := rfl

theorem accA1_eq (q : Vec Ideal S512x128 .bf16) (t : Vec Ideal S256x256 .bf16) (k v : Vec Ideal S256x128 .bf16) :
    accA1 q t k v = k0_pay27 (F := Ideal) (k0_pay8 t) (k0_pay11 (F := Ideal)) (k0_pay12 (F := Ideal)) (k0_pay14 v) k0_pay15
        (k0_pay24 (k0_pay9 q) (k0_pay13 k)) (k0_pay25 (k0_pay9 q) (k0_pay13 k)) := rfl

theorem pay39_eq (run : FVec Ideal S512x1 .f32) (mask : IVec S512x256 1) (q : FVec Ideal S512x128 .bf16) (k : Vec Ideal S256x128 .bf16) :
    k0_pay39 (F := Ideal) run mask (k0_pay33 q k) (k0_pay34 q k) (k0_pay35 (F := Ideal)) = k0_pay28 run mask (k0_pay24 q (k0_pay29 k)) := rfl

theorem pay38_eq (t : FVec Ideal S256x256 .bf16) (acc : FVec Ideal S512x128 .f32) (run : FVec Ideal S512x1 .f32) (v : FVec Ideal S256x128 .bf16)
    (mask : IVec S512x256 1) (q : FVec Ideal S512x128 .bf16) (k : Vec Ideal S256x128 .bf16) :
    k0_pay38 (F := Ideal) t acc run v mask (k0_pay32 q k) (k0_pay33 q k) (k0_pay34 q k) (k0_pay35 (F := Ideal))
      = k0_pay27 t run acc v mask (k0_pay24 q (k0_pay29 k)) (k0_pay25 q (k0_pay29 k)) := rfl

theorem pay47_eq (run : FVec Ideal S512x1 .f32) (mask : IVec S512x256 1) (q : FVec Ideal S512x128 .bf16) (k : FVec Ideal S256x128 .bf16) :
    k0_pay47 (F := Ideal) run mask (k0_pay42 q k) (k0_pay43 q k) (Scalar.ofBits .f32 0x3F800000#32) = k0_pay28 run mask (k0_pay24 q k) := rfl

theorem pay46_eq (t : FVec Ideal S256x256 .bf16) (acc : FVec Ideal S512x128 .f32) (run : FVec Ideal S512x1 .f32) (v : FVec Ideal S256x128 .bf16)
    (mask : IVec S512x256 1) (q : FVec Ideal S512x128 .bf16) (k : FVec Ideal S256x128 .bf16) :
    k0_pay46 (F := Ideal) t acc run v mask (k0_pay41 q k) (k0_pay42 q k) (k0_pay43 q k) (Scalar.ofBits .f32 0x3F800000#32)
      = k0_pay27 t run acc v mask (k0_pay24 q k) (k0_pay25 q k) := rfl

/-- Both diagonal tiles: the walk's start. -/
theorem start_inv (i : grid0.Coords) (x1 x2 : Vec Ideal S16384x128 .bf16) (q : Vec Ideal S512x128 .bf16) (t : Vec Ideal S256x256 .bf16) (ht : Tri t)
    (ha : Scores (k0_pay9 q) (fun s c => x1 (ix2 s c)) (row i) ZA) (hb : Scores (k0_pay10 q) (fun s c => x1 (ix2 s c)) (row i) ZB)
    (s : St Ideal) (hs : s = start i q t (diagAt i x1 1) (diagAt i x2 1) (diagAt i x1 0) (diagAt i x2 0)) :
    Inv ZA (fun s c => x2 (ix2 s c)) (row i) (2 * (i 1).val) s.2.2.1 s.2.2.2.1 ∧
    Inv ZB (fun s c => x2 (ix2 s c)) (row i) (2 * (i 1).val) s.2.2.2.2.1 s.2.2.2.2.2 := by
  unfold start at hs
  have hi : (i 1).val < 32 := (i 1).isLt
  have n1 : 2 * (i 1).val + 1 < 64 := by omega
  have n0 : 2 * (i 1).val < 64 := by omega
  subst hs
  dsimp only
  have k1 := diagAt_at i x1 1 n1
  have v1 := diagAt_at i x2 1 n1
  have k0 := diagAt_at i x1 0 n0
  have v0 := diagAt_at i x2 0 n0
  generalize diagAt i x1 1 = K1 at k1
  generalize diagAt i x2 1 = V1 at v1
  generalize diagAt i x1 0 = K0 at k0
  generalize diagAt i x2 0 = V0 at v0
  have A1 : Inv ZA (fun s c => x2 (ix2 s c)) (row i) (2 * (i 1).val + 1) (runA1 q K1) (accA1 q t K1 V1) := by
    refine ⟨fun a => ?_, fun a c => ?_⟩
    · rw [runA1_eq, pay13_id]
      exact run_diag ZA (fun s c => x2 (ix2 s c)) (row i) n1 _ K1 _ _ _ (mask1_at i n1) (ha _ n1 K1 k1) (inv_none ZA _ i) a
    · rw [accA1_eq, pay13_id, pay14_id, pay8_id]
      exact acc_diag ZA (fun s c => x2 (ix2 s c)) (row i) n1 t ht _ K1 V1 _ _ _ (mask1_at i n1) (ha _ n1 K1 k1) v1 (inv_none ZA _ i) a c
  have B1 : Inv ZB (fun s c => x2 (ix2 s c)) (row i) (2 * (i 1).val + 1) (runB1 q K1) (accB1 q t K1 V1) := by
    refine ⟨fun a => ?_, fun a c => ?_⟩
    · unfold runB1
      rw [pay13_id]
      exact run_diag ZB (fun s c => x2 (ix2 s c)) (row i) n1 _ K1 _ _ _ (mask1_at i n1) (hb _ n1 K1 k1) (inv_none ZB _ i) a
    · unfold accB1
      rw [pay13_id, pay14_id, pay8_id]
      exact acc_diag ZB (fun s c => x2 (ix2 s c)) (row i) n1 t ht _ K1 V1 _ _ _ (mask1_at i n1) (hb _ n1 K1 k1) v1 (inv_none ZB _ i) a c
  generalize runA1 q K1 = rA at A1
  generalize accA1 q t K1 V1 = cA at A1
  generalize runB1 q K1 = rB at B1
  generalize accB1 q t K1 V1 = cB at B1
  refine ⟨⟨fun a => ?_, fun a c => ?_⟩, ⟨fun a => ?_, fun a c => ?_⟩⟩
  · rw [pay39_eq, pay29_id]
    exact run_diag ZA (fun s c => x2 (ix2 s c)) (row i) n0 _ K0 _ _ _ (mask0_at i n0) (ha _ n0 K0 k0) A1 a
  · rw [pay38_eq, pay29_id, pay30_id, pay8_id]
    exact acc_diag ZA (fun s c => x2 (ix2 s c)) (row i) n0 t ht _ K0 V0 _ _ _ (mask0_at i n0) (ha _ n0 K0 k0) v0 A1 a c
  · rw [pay47_eq, pay29_id]
    exact run_diag ZB (fun s c => x2 (ix2 s c)) (row i) n0 _ K0 _ _ _ (mask0_at i n0) (hb _ n0 K0 k0) B1 a
  · rw [pay46_eq, pay29_id, pay30_id, pay8_id]
    exact acc_diag ZB (fun s c => x2 (ix2 s c)) (row i) n0 t ht _ K0 V0 _ _ _ (mask0_at i n0) (hb _ n0 K0 k0) v0 B1 a c

/-- The end of the walk: both accumulators are the weighted sums over every key. -/
theorem walked_sums (i : grid0.Coords) (x0 : Vec Ideal S512x128 .bf16) (x1 x2 : Vec Ideal S16384x128 .bf16) (x3 : Vec Ideal S256x256 .bf16) (ht : Tri x3)
    (ha : Scores (k0_pay9 x0) (fun s c => x1 (ix2 s c)) (row i) ZA) (hb : Scores (k0_pay10 x0) (fun s c => x1 (ix2 s c)) (row i) ZB)
    (a : Fin 512) (c : Fin 128) :
    (walked i x0 x1 x2 x3).2.2.2.1 (ix2 a c) = ∑ s, wt ZA (row i a) s * x2 (ix2 s c) ∧
    (walked i x0 x1 x2 x3).2.2.2.2.2 (ix2 a c) = ∑ s, wt ZB (row i a) s * x2 (ix2 s c) := by
  have hi : (i 1).val < 32 := (i 1).isLt
  unfold walked
  rw [qv_id, tv_id, pay8_id]
  have st := start_inv ZA ZB i x1 x2 x0 x3 ht ha hb _ rfl
  have w := walk_inv ZA ZB x1 x2 (k0_pay9 x0) (k0_pay10 x0) x3 ht (row i) ha hb (2 * (i 1).val) (by omega)
    (fun a => by show _ ≤ 512 * (i 1).val + a.val; omega) _ rfl st.1 st.2
  rw [w.1.2 a c, w.2.2 a c, tail_zero, tail_zero]
  exact ⟨rfl, rfl⟩

end Cert.Proof.KI

end
-- ==== Proof.Sb3.lean ====
/-
  Stick-breaking attention, the idealized program: the scores as dot products, the heads' normalisation that closes a
  grid point, and so what a grid point stores.
-/
module

public import proofs.«01_k».proof.Proof.Sb2

@[expose] public section

set_option maxRecDepth 16384

noncomputable section

namespace Cert.Proof.KI

open Cert.KernelIdeal Cert.KernelIdeal.Gen
open Idealize.ShloMosaic Idealize.ShloMosaic.TcCoe
open Cert.Proof.Sb

/-- Lane `d` of head `p` of the pair. -/
def lane (p : Fin 2) (d : Fin 64) : Fin 128 := ⟨64 * p.val + d.val, by omega⟩

theorem sum_lanes (f : Fin 128 → EReal) : ∑ x, f x = (∑ d, f (lane 0 d)) + ∑ d, f (lane 1 d) := by
  have e := Fin.sum_univ_add (a := 64) (b := 64) (f : Fin (64 + 64) → EReal)
  refine e.trans (congrArg₂ (· + ·) (Finset.sum_congr rfl fun d _ => congrArg f (Fin.ext ?_)) (Finset.sum_congr rfl fun d _ => congrArg f (Fin.ext ?_)))
  · show d.val = 64 * 0 + d.val; omega
  · show 64 + d.val = 64 * 1 + d.val; omega

theorem lt64_0 (d : Fin 64) : IntOp.cmpi .slt (BitVec.ofNat 32 (lane 0 d).val) 64#32 = 1#1 := by revert d; decide +kernel
theorem lt64_1 (d : Fin 64) : IntOp.cmpi .slt (BitVec.ofNat 32 (lane 1 d).val) 64#32 = 0#1 := by revert d; decide +kernel
theorem ge64_0 (d : Fin 64) : IntOp.cmpi .sge (BitVec.ofNat 32 (lane 0 d).val) 64#32 = 0#1 := by revert d; decide +kernel
theorem ge64_1 (d : Fin 64) : IntOp.cmpi .sge (BitVec.ofNat 32 (lane 1 d).val) 64#32 = 1#1 := by revert d; decide +kernel
theorem ge0 (p : Fin 2) (d : Fin 64) : IntOp.cmpi .sge (BitVec.ofNat 32 (lane p d).val) 0#32 = 1#1 := by revert d; revert p; decide +kernel
theorem lt128 (p : Fin 2) (d : Fin 64) : IntOp.cmpi .slt (BitVec.ofNat 32 (lane p d).val) 128#32 = 1#1 := by revert d; revert p; decide +kernel
theorem and11 : IntOp.andi (1#1) (1#1) = 1#1 := by decide
theorem and10 : IntOp.andi (1#1) (0#1) = 0#1 := by decide
theorem and01 : IntOp.andi (0#1) (1#1) = 0#1 := by decide
theorem sel1 (x y : EReal) : Scalar.select (1#1) x y = x := rfl
theorem sel0 (x y : EReal) : Scalar.select (0#1) x y = y := rfl

/-- The first head's masked queries against the keys: the dot product over its own lanes. -/
theorem scoreA (q : Vec Ideal S512x128 .bf16) (k : Vec Ideal S256x128 .bf16) (a : Fin 512) (b : Fin 256) :
    k0_pay23 (F := Ideal) (k0_pay9 q) k (ix2 a b) = ∑ d, q (ix2 a (lane 0 d)) * k (ix2 b (lane 0 d)) := by
  pointwise [k0_pay23, k0_pay9, k0_pay7]
  rw [sum_lanes]
  simp only [lt64_0, lt64_1, sel1, sel0, zero_mul, Finset.sum_const_zero, add_zero]

/-- The second head's. -/
theorem scoreB (q : Vec Ideal S512x128 .bf16) (k : Vec Ideal S256x128 .bf16) (a : Fin 512) (b : Fin 256) :
    k0_pay23 (F := Ideal) (k0_pay10 q) k (ix2 a b) = ∑ d, q (ix2 a (lane 1 d)) * k (ix2 b (lane 1 d)) := by
  pointwise [k0_pay23, k0_pay10, k0_pay7]
  rw [sum_lanes]
  simp only [ge64_0, ge64_1, sel1, sel0, zero_mul, Finset.sum_const_zero, zero_add]

/-- One head's row divided by its root mean square. -/
def nrm (o : Fin 64 → EReal) (d : Fin 64) : EReal :=
  o d * Ideal.rsqrt ((∑ x, o x * o x) * (((1 / 64 : ℝ) : ℝ) : EReal) + Ideal.ofBits FTy.f32 897988541#32)

theorem lit_64th : Ideal.ofBits .f32 0x3C800000#32 = (((1 / 64 : ℝ) : ℝ) : EReal) := by
  simp [Ideal.ofBits, Ideal.ieee, -EReal.coe_mul]; norm_num

theorem pay49_0 (A B : FVec Ideal S512x128 .f32) (a : Fin 512) (d : Fin 64) : k0_pay49 (F := Ideal) A B (ix2 a (lane 0 d)) = A (ix2 a (lane 0 d)) := by
  pointwise [k0_pay49]
  rw [lt64_0, sel1]

theorem pay49_1 (A B : FVec Ideal S512x128 .f32) (a : Fin 512) (d : Fin 64) : k0_pay49 (F := Ideal) A B (ix2 a (lane 1 d)) = B (ix2 a (lane 1 d)) := by
  pointwise [k0_pay49]
  rw [lt64_1, sel0]

theorem closed_0 (s : St Ideal) (a : Fin 512) (d : Fin 64) :
    closed s (ix2 a (lane 0 d)) = nrm (fun x => s.2.2.2.1 (ix2 a (lane 0 x))) d := by
  unfold closed k0_pay50
  have h := pay49_0 s.2.2.2.1 s.2.2.2.2.2 a
  generalize k0_pay49 (F := Ideal) _ _ = o at h
  pointwise [k0_pay1]
  simp only [sum_lanes, lt64_0, lt64_1, ge64_0, ge64_1, ge0, lt128, and11, and10, and01, sel1, sel0, Finset.sum_const_zero, add_zero, zero_add, h]
  rw [nrm, ← lit_64th]

theorem closed_1 (s : St Ideal) (a : Fin 512) (d : Fin 64) :
    closed s (ix2 a (lane 1 d)) = nrm (fun x => s.2.2.2.2.2 (ix2 a (lane 1 x))) d := by
  unfold closed k0_pay50
  have h := pay49_1 s.2.2.2.1 s.2.2.2.2.2 a
  generalize k0_pay49 (F := Ideal) _ _ = o at h
  pointwise [k0_pay1]
  simp only [sum_lanes, lt64_0, lt64_1, ge64_0, ge64_1, ge0, lt128, and11, and10, and01, sel1, sel0, Finset.sum_const_zero, add_zero, zero_add, h]
  rw [nrm, ← lit_64th]

/-- The column of lane `d` of head `p` of pair `g` in a 256-wide group. -/
def col (g p : Fin 2) (d : Fin 64) : Fin 256 := ⟨128 * g.val + (lane p d).val, by have := (lane p d).isLt; omega⟩

/-- The score of a query row against a key row: the head's dot product of the scaled queries, the scale one over the
    square root of 64. -/
def score (Q K : Fin 16384 → Fin 256 → EReal) (g p : Fin 2) (r s : Fin 16384) : EReal :=
  ∑ d, Q r (col g p d) * (((1 / 8 : ℝ) : ℝ) : EReal) * K s (col g p d)

/-- A real factor above 0 goes out of a sum. -/
theorem sum_mul_pos {ι : Type} (s : Finset ι) (f : ι → EReal) (c : ℝ) (hc : 0 < c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc.le) (EReal.coe_ne_top c) _ _

/-- The score with the scale applied to the dot product. -/
theorem score_eq (Q K : Fin 16384 → Fin 256 → EReal) (g p : Fin 2) (r s : Fin 16384) :
    (∑ d, Q r (col g p d) * K s (col g p d)) * (((1 / 8 : ℝ) : ℝ) : EReal) = score Q K g p r s := by
  rw [sum_mul_pos _ _ _ (by norm_num)]
  exact Finset.sum_congr rfl fun d _ => mul_right_comm _ _ _

/-- A lane of the 128 at its column of the group. -/
def at128 (g : Fin 2) (c : Fin 128) : Fin 256 := ⟨128 * g.val + c.val, by omega⟩

/-- What a grid point stores, at a row and a lane, where its blocks hold the pair's columns of the queries, keys and
    values. -/
theorem sbOut_at (i : grid0.Coords) (g : Fin 2) (Q K V : Fin 16384 → Fin 256 → EReal)
    (x0 : Vec Ideal S512x128 .bf16) (x1 x2 : Vec Ideal S16384x128 .bf16) (x3 : Vec Ideal S256x256 .bf16) (ht : Tri x3)
    (h0 : ∀ a c, x0 (ix2 a c) = Q (row i a) (at128 g c) * (((1 / 8 : ℝ) : ℝ) : EReal))
    (h1 : ∀ s c, x1 (ix2 s c) = K s (at128 g c))
    (h2 : ∀ s c, x2 (ix2 s c) = V s (at128 g c)) (a : Fin 512) (p : Fin 2) (d : Fin 64) :
    sbOut i x0 x1 x2 x3 (ix2 a (lane p d))
      = nrm (fun x => ∑ s, wt (score Q K g p) (row i a) s * V s (col g p x)) d := by
  have ha : Scores (k0_pay9 x0) (fun s c => x1 (ix2 s c)) (row i) (score Q K g 0) := by
    intro J hJ k hk a b
    rw [scoreA]
    refine Finset.sum_congr rfl fun d _ => ?_
    rw [h0, (hk b _).trans (h1 _ _)]; rfl
  have hb : Scores (k0_pay10 x0) (fun s c => x1 (ix2 s c)) (row i) (score Q K g 1) := by
    intro J hJ k hk a b
    rw [scoreB]
    refine Finset.sum_congr rfl fun d _ => ?_
    rw [h0, (hk b _).trans (h1 _ _)]; rfl
  have w := walked_sums (score Q K g 0) (score Q K g 1) i x0 x1 x2 x3 ht ha hb a
  unfold sbOut
  have hp : p = 0 ∨ p = 1 := by revert p; decide
  rcases hp with rfl | rfl
  · rw [closed_0]
    refine congrArg (fun f => nrm f d) (funext fun x => ?_)
    rw [(w (lane 0 x)).1]
    exact Finset.sum_congr rfl fun s _ => by rw [h2]; rfl
  · rw [closed_1]
    refine congrArg (fun f => nrm f d) (funext fun x => ?_)
    rw [(w (lane 1 x)).2]
    exact Finset.sum_congr rfl fun s _ => by rw [h2]; rfl

end Cert.Proof.KI

end
-- ==== Proof.SbCum.lean ====
/-
  The reference's reverse cumulative sum, as the sum over the later positions and the position itself.
-/
module

public import Idealize.ShloMosaic.Lib.Pipeline.ValueKit
public import Idealize.ShloMosaic.Lib.Pointwise

@[expose] public section

set_option maxRecDepth 16384

noncomputable section

namespace Cert.Proof.Sb

open Idealize.ShloMosaic

theorem foldl_sum {ι : Type} (g : ι → EReal) : ∀ (l : List ι) (v : EReal), l.foldl (fun r k => r + g k) v = v + (l.map g).sum
  | [], v => by simp
  | a :: l, v => by
    rw [List.foldl_cons, foldl_sum g l, List.map_cons, List.sum_cons, add_assoc]

/-- A shifted sum that stops at the end is the sum from the shift on. -/
theorem shifted (N s : ℕ) (hs : s < N) (f : ℕ → EReal) (h0 : ∀ n, N ≤ n → f n = 0) :
    ∑ k : Fin N, f (s + k.val) = ∑ n : Fin N, if s ≤ n.val then f n.val else 0 := by
  rw [Fin.sum_univ_eq_sum_range (fun k => f (s + k)) N, Fin.sum_univ_eq_sum_range (fun n => if s ≤ n then f n else 0) N]
  have e1 := Finset.sum_Ico_eq_sum_range f s (s + N)
  rw [Nat.add_sub_cancel_left] at e1
  rw [← e1, ← Finset.sum_filter]
  symm
  refine Finset.sum_subset ?_ ?_
  · intro n hn
    rw [Finset.mem_filter, Finset.mem_range] at hn
    exact Finset.mem_Ico.mpr ⟨hn.2, by omega⟩
  · intro n hn hn'
    rw [Finset.mem_filter, Finset.mem_range] at hn'
    rw [Finset.mem_Ico] at hn
    exact h0 n (by by_contra h; exact hn' ⟨by omega, hn.1⟩)

/-- A windowed sum from zero, over the window's multi-indices. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ i : (⟨s.rank, window⟩ : Shape).Idx,
          if hin : ∀ a, lo a ≤ (j (a.cast h.1.symm)).val * strides a + (i a).val ∧
              (j (a.cast h.1.symm)).val * strides a + (i a).val - lo a < s.size a
          then x (fun a => ⟨(j (a.cast h.1.symm)).val * strides a + (i a).val - lo a, (hin a).2⟩) else 0 := by
  unfold Ideal.hostReduceWindowAdd Host.reduceWindow
  dsimp only
  rw [foldl_sum, zero_add, ← Fin.sum_univ_def]
  refine Eq.trans ?_ (Equiv.sum_comp (⟨s.rank, window⟩ : Shape).rowMajor.symm (fun i : (⟨s.rank, window⟩ : Shape).Idx =>
    (if hin : ∀ a, lo a ≤ (j (a.cast h.1.symm)).val * strides a + (i a).val ∧
              (j (a.cast h.1.symm)).val * strides a + (i a).val - lo a < s.size a
          then x (fun a => ⟨(j (a.cast h.1.symm)).val * strides a + (i a).val - lo a, (hin a).2⟩) else (0 : EReal))))
  refine Finset.sum_congr rfl fun n _ => ?_
  congr

theorem cum_at (h : (⟨3, ![4, 16384, 16384]⟩ : Shape).ReduceWindows ![1, 1, 16384] ![1, 1, 1] ![0, 0, 0] ![0, 0, 16383] ⟨3, ![4, 16384, 16384]⟩)
    (x : (⟨3, ![4, 16384, 16384]⟩ : Shape).Idx → EReal) (d : Fin 4) (r s : Fin 16384) :
    Ideal.hostReduceWindowAdd ![1, 1, 16384] ![1, 1, 1] ![0, 0, 0] ![0, 0, 16383] h x 0 (ix3 d r s)
      = ∑ s' : Fin 16384, if s.val ≤ s'.val then x (ix3 d r s') else 0 := by
  let f : ℕ → EReal := fun n => if hn : n < 16384 then x (ix3 d r ⟨n, hn⟩) else 0
  have hf : ∀ s' : Fin 16384, f s'.val = x (ix3 d r s') := fun s' => dif_pos s'.isLt
  refine (window_sum _ _ _ _ h x _).trans ?_
  have sh := shifted 16384 s.val s.isLt f (fun n hn => dif_neg (by omega))
  simp only [hf] at sh
  rw [← sh]
  refine (sum_idx3 (n0 := 1) (n1 := 1) (n2 := 16384) _).trans ?_
  refine (Fin.sum_univ_one _).trans ((Fin.sum_univ_one _).trans ?_)
  refine Finset.sum_congr rfl fun k _ => ?_
  by_cases hk : s.val + k.val < 16384
  · have hin : ∀ a : Fin 3, ![0, 0, 0] a ≤ ((ix3 d r s (a.cast h.1.symm)).val * ![1, 1, 1] a + (ix3 (0 : Fin 1) (0 : Fin 1) k a).val) ∧
        ((ix3 d r s (a.cast h.1.symm)).val * ![1, 1, 1] a + (ix3 (0 : Fin 1) (0 : Fin 1) k a).val) - ![0, 0, 0] a < (⟨3, ![4, 16384, 16384]⟩ : Shape).size a := by
      intro a
      fin_cases a
      · refine ⟨Nat.zero_le _, ?_⟩; show d.val * 1 + 0 - 0 < 4; omega
      · refine ⟨Nat.zero_le _, ?_⟩; show r.val * 1 + 0 - 0 < 16384; omega
      · refine ⟨Nat.zero_le _, ?_⟩; show s.val * 1 + k.val - 0 < 16384; omega
    refine (dif_pos hin).trans ?_
    refine Eq.trans ?_ (dif_pos hk).symm
    refine congrArg x (funext fun a => Fin.ext ?_)
    fin_cases a
    · show d.val * 1 + 0 - 0 = d.val; omega
    · show r.val * 1 + 0 - 0 = r.val; omega
    · show s.val * 1 + k.val - 0 = s.val + k.val; omega
  · have f0 : f (s.val + k.val) = 0 := dif_neg hk
    refine Eq.trans (dif_neg fun hin => hk ?_) f0.symm
    have := (hin 2).2
    have h2 : s.val * 1 + k.val - 0 < 16384 := this
    omega

end Cert.Proof.Sb

end
-- ==== Proof.SbRef.lean ====
/-
  Stick-breaking attention, the reference: its result term cut at the scores, the shares, the weights and the output of
  a head, each read at an index.
-/
module

public import proofs.«01_k».proof.Proof.Gen.ReferenceIdeal.Run
public import proofs.«01_k».proof.Proof.Sb3
public import proofs.«01_k».proof.Proof.SbCum

@[expose] public section

set_option maxRecDepth 16384

noncomputable section

namespace Cert.Proof.Ref

open Cert.ReferenceIdeal Cert.ReferenceIdeal.Gen Idealize.ShloMosaic Idealize.ShloMosaic.TcCoe Idealize.ShloMosaic.StableHlo
open Cert.Proof.Sb

abbrev Sc := FVec Ideal S4x16384x16384 .f32
abbrev Hd := FVec Ideal S4x16384x64 .f32
abbrev Ot := FVec Ideal S16384x4x64 .f32

def qh (y : FVec Ideal S16384x2960 .f32) : Hd :=
  transpose S4x16384x64 [1, 0, 2] (shapeCast _ (extractStridedSlice S16384x256 ![0, 2192] y slices_S16384x2960_S16384x256_0_2192) shapeCasts_S16384x256_S16384x4x64) transposes_S16384x4x64_S4x16384x64_1_0_2
def kh (y : FVec Ideal S16384x2960 .f32) : Hd :=
  transpose S4x16384x64 [1, 0, 2] (shapeCast _ (extractStridedSlice S16384x256 ![0, 2448] y slices_S16384x2960_S16384x256_0_2448) shapeCasts_S16384x256_S16384x4x64) transposes_S16384x4x64_S4x16384x64_1_0_2
def vh (y : FVec Ideal S16384x2960 .f32) : Hd :=
  transpose S4x16384x64 [1, 0, 2] (shapeCast _ (extractStridedSlice S16384x256 ![0, 2704] y slices_S16384x2960_S16384x256_0_2704) shapeCasts_S16384x256_S16384x4x64) transposes_S16384x4x64_S4x16384x64_1_0_2

theorem lit_0 : Ideal.ofBits .f32 0x00000000#32 = 0 := by simp [Ideal.ofBits, Ideal.ieee]
theorem lit_8th : Ideal.ofBits .f32 0x3E000000#32 = (((1 / 8 : ℝ) : ℝ) : EReal) := by
  simp [Ideal.ofBits, Ideal.ieee, -EReal.coe_mul]
  norm_num
theorem lit_64 : Ideal.ofBits .f32 0x42800000#32 = (((64 : ℝ) : ℝ) : EReal) := by
  simp [Ideal.ofBits, Ideal.ieee, -EReal.coe_mul]
  norm_num

/-- The scores. -/
def zz (q k : Hd) : Sc :=
  mulf (Host.dotGeneral dot_S4x16384x64_S4x16384x64_S4x16384x16384_2_2_1_1_0_0 none q k)
    (broadcastInDim S4x16384x16384 ![] bcast_S_S4x16384x16384 (constant S_ .f32 0x3E000000#32))

/-- The mask of the earlier keys. -/
def mm : Vec Ideal S4x16384x16384 .i1 :=
  broadcastInDim S4x16384x16384 ![1, 2] bcast_S16384x16384_S4x16384x16384_1_2 (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

def z0 : Sc := broadcastInDim S4x16384x16384 ![] bcast_S_S4x16384x16384 (constant S_ .f32 0x00000000#32)
def z0' : Sc := broadcastInDim S4x16384x16384 ![] bcast_S_S4x16384x16384 (id (constant S_ .f32 0x00000000#32))

/-- The logarithm of one plus the exponential, as the reference computes it. -/
def soft (x : Sc) : Sc :=
  select (cmpf .une (subf x z0) (subf x z0)) (addf x z0) (addf (maximumf x z0) (Host.log1p (Host.exp (Host.negf (Host.absf (subf x z0))))))

/-- The logarithms of the shares left. -/
def kp (z : Sc) : Sc := select mm (Host.negf (soft (Host.negf (Host.negf z)))) z0'

/-- Their reverse cumulative sum. -/
def cum (k : Sc) : Sc :=
  Host.reduceWindowAdd ![1, 1, 16384] ![1, 1, 1] ![0, 0, 0] ![0, 0, 16383] k (broadcastInDim S_ ![] bcast_S_S_ (constant S_ .f32 0x00000000#32)) reduceWindows_S4x16384x16384_S4x16384x16384_w1s1p0_0_w1s1p0_0_w16384s1p0_16383 h_S_

/-- The weights. -/
def ww (z : Sc) : Sc :=
  select mm (Host.exp (addf (Host.negf (soft (Host.negf z))) (subf (cum (kp z)) (kp z)))) z0'

def oo (w : Sc) (v : Hd) : Ot :=
  transpose S16384x4x64 [1, 0, 2] (Host.dotGeneral dot_S4x16384x16384_S4x16384x64_S4x16384x64_2_1_1_2_0_0 none w v) transposes_S4x16384x64_S16384x4x64_1_0_2

/-- A head's output under its root mean square. -/
def fin (o : Ot) : FVec Ideal S16384x256 .f32 :=
  shapeCast _ (mulf o (broadcastInDim S16384x4x64 ![0, 1, 2] bcast_S16384x4x1_S16384x4x64_0_1_2 (Host.rsqrt (addf (Host.divf (broadcastInDim S16384x4x1 ![0, 1] bcast_S16384x4_S16384x4x1_0_1 (Host.reduceAdd (mulf o o) (constant S_ .f32 0x00000000#32) reducesTo_S16384x4x64_S16384x4_d2 h_S_)) (broadcastInDim S16384x4x1 ![] bcast_S_S16384x4x1 (constant S_ .f32 0x42800000#32))) (broadcastInDim S16384x4x1 ![] bcast_S_S16384x4x1 (constant S_ .f32 0x358637BD#32)))))) shapeCasts_S16384x4x64_S16384x256

theorem res_eq (m : (ℓ : Loc nD τ sig) → Buf (Elt Ideal) ℓ) (c : Dev nD) (y : FVec Ideal S16384x2960 .f32)
    (hy : m ((c.tc : Thread nD τ).loc main_arg0) = y) :
    Cert.ReferenceIdeal.Value.res_main_v54 (F := Ideal) m c = fin (oo (ww (zz (qh y) (kh y))) (vh y)) := by
  subst hy
  unfold Cert.ReferenceIdeal.Value.res_main_v54
  rfl

theorem qh_at (y : FVec Ideal S16384x2960 .f32) (h : Fin 4) (s : Fin 16384) (d : Fin 64) :
    qh y (ix3 h s d) = y (ix2 s ⟨2192 + (64 * h.val + d.val), by omega⟩) := by
  unfold qh
  pointwise
  exact congrArg (fun j => y (ix2 s j)) (Fin.ext (by show _ + (h.val * 64 + d.val) = _ + (64 * h.val + d.val); omega))
theorem kh_at (y : FVec Ideal S16384x2960 .f32) (h : Fin 4) (s : Fin 16384) (d : Fin 64) :
    kh y (ix3 h s d) = y (ix2 s ⟨2448 + (64 * h.val + d.val), by omega⟩) := by
  unfold kh
  pointwise
  exact congrArg (fun j => y (ix2 s j)) (Fin.ext (by show _ + (h.val * 64 + d.val) = _ + (64 * h.val + d.val); omega))
theorem vh_at (y : FVec Ideal S16384x2960 .f32) (h : Fin 4) (s : Fin 16384) (d : Fin 64) :
    vh y (ix3 h s d) = y (ix2 s ⟨2704 + (64 * h.val + d.val), by omega⟩) := by
  unfold vh
  pointwise
  exact congrArg (fun j => y (ix2 s j)) (Fin.ext (by show _ + (h.val * 64 + d.val) = _ + (64 * h.val + d.val); omega))

theorem zz_at (q k : Hd) (h : Fin 4) (r s : Fin 16384) :
    zz q k (ix3 h r s) = (∑ d, q (ix3 h r d) * k (ix3 h s d)) * Ideal.ofBits .f32 0x3E000000#32 := by
  unfold zz
  pointwise

theorem mm_at (h : Fin 4) (r s : Fin 16384) : mm (ix3 h r s) = if s.val < r.val then 1#1 else 0#1 := by
  unfold mm
  pointwise
  rw [WordCmp.cmpi_slt_ofNat (by omega) (by omega)]
  by_cases h : s.val < r.val <;> simp [h]

theorem soft_at (x : Sc) (i : S4x16384x16384.Idx) (u : EReal) (hu : x i = u) : soft x i = softv u := by
  unfold soft z0
  pointwise
  rw [if_neg (by simp), hu]
  rfl

theorem oo_at (w : Sc) (v : Hd) (r : Fin 16384) (h : Fin 4) (d : Fin 64) :
    oo w v (ix3 r h d) = ∑ s, w (ix3 h r s) * v (ix3 h s d) := by
  unfold oo
  pointwise

theorem fin_at (o : Ot) (r : Fin 16384) (h : Fin 4) (d : Fin 64) :
    fin o (ix2 r ⟨64 * h.val + d.val, by omega⟩) = o (ix3 r h d) * Ideal.rsqrt ((∑ x, o (ix3 r h x) * o (ix3 r h x)) * ((1 / 64 : ℝ) : EReal) + Ideal.ofBits .f32 0x358637BD#32) := by
  unfold fin
  pointwise
  rw [lit_64, Ideal.div_coe (by norm_num)]

theorem sel1 (x y : EReal) : Scalar.select (1#1) x y = x := rfl
theorem sel0 (x y : EReal) : Scalar.select (0#1) x y = y := rfl

theorem kp_at (z : Sc) (h : Fin 4) (Z : Fin 16384 → Fin 16384 → EReal) (hz : ∀ r s, z (ix3 h r s) = Z r s) (r s : Fin 16384) :
    kp z (ix3 h r s) = keep Z r s := by
  have e := soft_at (Host.negf (Host.negf z)) (ix3 h r s) (Z r s) ((neg_neg (z (ix3 h r s))).trans (hz r s))
  unfold kp
  generalize soft (Host.negf (Host.negf z)) = u at e ⊢
  have em := mm_at h r s
  generalize mm = M at em ⊢
  unfold z0' keep
  pointwise
  rw [em, e]
  by_cases hl : s.val < r.val
  · rw [if_pos hl, if_pos hl]; exact sel1 _ _
  · rw [if_neg hl, if_neg hl]; exact (sel0 _ _).trans lit_0

theorem window_init {s t u : Shape} (window strides lo hi : Fin s.rank → ℕ) (h : s.ReduceWindows window strides lo hi t) (x : FVec Ideal s .f32)
    (v : FVec Ideal u .f32) (hu : 0 < u.numel) (hv : v (Shape.Idx.first hu) = 0) {j : t.Idx} :
    Host.reduceWindowAdd (F := Ideal) window strides lo hi x v h hu j = Ideal.hostReduceWindowAdd window strides lo hi h x 0 j :=
  congrArg (fun v => Ideal.hostReduceWindowAdd window strides lo hi h x v j) hv

theorem cum_eq (k : Sc) (h : Fin 4) (r s : Fin 16384) :
    cum k (ix3 h r s) = ∑ s' : Fin 16384, if s.val ≤ s'.val then k (ix3 h r s') else 0 := by
  refine (window_init _ _ _ _ _ k _ _ ?_).trans (cum_at reduceWindows_S4x16384x16384_S4x16384x16384_w1s1p0_0_w1s1p0_0_w16384s1p0_16383 k h r s)
  exact lit_0

/-- The inclusive reverse sum is the key's own term and the sum over the later keys. -/
theorem later_eq (Z : Fin 16384 → Fin 16384 → EReal) (r s : Fin 16384) :
    (∑ s' : Fin 16384, if s.val ≤ s'.val then keep Z r s' else 0) = keep Z r s + later Z r s := by
  have e1 : keep Z r s = ∑ s' : Fin 16384, if s' = s then keep Z r s' else 0 := by
    rw [Finset.sum_ite_eq' Finset.univ s (fun s' => keep Z r s'), if_pos (Finset.mem_univ s)]
  unfold later
  conv_rhs => rw [e1]
  rw [← Finset.sum_add_distrib]
  refine Finset.sum_congr rfl fun s' _ => ?_
  by_cases h1 : s' = s
  · subst h1; simp
  · have h2 : s'.val ≠ s.val := fun h => h1 (Fin.ext h)
    by_cases h3 : s.val < s'.val
    · rw [if_pos (by omega), if_neg h1, if_pos h3, zero_add]
    · rw [if_neg (by omega), if_neg h1, if_neg h3, zero_add]

/-- The logarithm of a weight as the reference takes it, and as the kernel takes it: the same also at an infinite score. -/
theorem log_weight (z l : EReal) : -(softv (-z)) + (kpv z + l - kpv z) = z + kpv z + l := by
  induction z using EReal.rec with
  | bot => rw [EReal.neg_bot, softv_top, EReal.neg_top, EReal.bot_add, EReal.bot_add, EReal.bot_add]
  | coe x =>
    rw [kpv_coe, EReal.add_sub_cancel_left, ← EReal.coe_neg, ← EReal.coe_add, ← sp_neg, EReal.coe_neg (sp (-x))]
    have e : softv ((-x : ℝ) : EReal) = ((sp (-x) : ℝ) : EReal) := by
      have h := congrArg (fun t : EReal => -t) (kpv_coe (-x))
      simp only [kpv, neg_neg, ← EReal.coe_neg] at h
      exact h
    rw [e]
  | top => rw [kpv_top, EReal.bot_add, EReal.bot_sub, EReal.add_bot, EReal.add_bot, EReal.bot_add]

theorem ww_at (z : Sc) (h : Fin 4) (Z : Fin 16384 → Fin 16384 → EReal) (hz : ∀ r s, z (ix3 h r s) = Z r s) (r s : Fin 16384) :
    ww z (ix3 h r s) = wt Z r s := by
  have e := soft_at (Host.negf z) (ix3 h r s) (-Z r s) (by rw [← hz r s]; rfl)
  have ec := cum_eq (kp z) h r s
  simp only [kp_at z h Z hz] at ec
  have ek := kp_at z h Z hz r s
  have em := mm_at h r s
  unfold ww
  generalize soft (Host.negf z) = u at e ⊢
  generalize cum (kp z) = C at ec ⊢
  generalize kp z = K at ek ⊢
  generalize mm = M at em ⊢
  unfold z0' wt
  pointwise
  rw [em, e, ec, ek, later_eq]
  by_cases hl : s.val < r.val
  · rw [if_pos hl, if_pos hl]
    have e2 : keep Z r s = kpv (Z r s) := if_pos hl
    rw [e2, log_weight]; exact sel1 _ _
  · rw [if_neg hl, if_neg hl]; exact (sel0 _ _).trans lit_0

open Cert.Proof.KI

/-- Head `p` of pair `g`. -/
def head (g p : Fin 2) : Fin 4 := ⟨2 * g.val + p.val, by omega⟩

/-- The reference's result at a row and a lane of a head, of its queries, keys and values. -/
theorem ref_at (y : FVec Ideal S16384x2960 .f32) (Q K V : Fin 16384 → Fin 256 → EReal)
    (hq : ∀ (s : Fin 16384) (j : Fin 256), y (ix2 s ⟨2192 + j.val, by omega⟩) = Q s j)
    (hk : ∀ (s : Fin 16384) (j : Fin 256), y (ix2 s ⟨2448 + j.val, by omega⟩) = K s j)
    (hv : ∀ (s : Fin 16384) (j : Fin 256), y (ix2 s ⟨2704 + j.val, by omega⟩) = V s j)
    (g p : Fin 2) (r : Fin 16384) (d : Fin 64) :
    fin (oo (ww (zz (qh y) (kh y))) (vh y)) (ix2 r (col g p d))
      = nrm (fun x => ∑ s, wt (score Q K g p) r s * V s (col g p x)) d := by
  have hc : ∀ d : Fin 64, (col g p d).val = 64 * (head g p).val + d.val := fun d => by
    show 128 * g.val + (64 * p.val + d.val) = 64 * (2 * g.val + p.val) + d.val; omega
  have eq : ∀ s d, qh y (ix3 (head g p) s d) = Q s (col g p d) := fun s d => by
    rw [qh_at, ← hq]; exact congrArg (fun j => y (ix2 s j)) (Fin.ext (by show _ + _ = _ + (col g p d).val; rw [hc]))
  have ek : ∀ s d, kh y (ix3 (head g p) s d) = K s (col g p d) := fun s d => by
    rw [kh_at, ← hk]; exact congrArg (fun j => y (ix2 s j)) (Fin.ext (by show _ + _ = _ + (col g p d).val; rw [hc]))
  have ev : ∀ s d, vh y (ix3 (head g p) s d) = V s (col g p d) := fun s d => by
    rw [vh_at, ← hv]; exact congrArg (fun j => y (ix2 s j)) (Fin.ext (by show _ + _ = _ + (col g p d).val; rw [hc]))
  generalize qh y = q at eq ⊢
  generalize kh y = k at ek ⊢
  generalize vh y = v at ev ⊢
  have ez : ∀ r s, zz q k (ix3 (head g p) r s) = score Q K g p r s := fun r s => by
    rw [zz_at, lit_8th]
    simp only [eq, ek]
    exact score_eq Q K g p r s
  have ew := ww_at (zz q k) (head g p) (score Q K g p) ez
  generalize ww (zz q k) = w at ew ⊢
  have eo : ∀ x, oo w v (ix3 r (head g p) x) = ∑ s, wt (score Q K g p) r s * V s (col g p x) := fun x => by
    rw [oo_at]
    simp only [ew, ev]
  generalize oo w v = o at eo ⊢
  have e := fin_at o r (head g p) d
  simp only [eo] at e
  refine Eq.trans (congrArg (fun j => fin o (ix2 r j)) (Fin.ext (hc d))) e

end Cert.Proof.Ref

end
-- ==== Proof.SbCat.lean ====
/-
  A concatenation read at a piece's own column: earlier pieces are skipped one by one.
-/
module

public import Idealize.ShloMosaic.Lib.Pointwise

@[expose] public section

namespace Cert.Proof.Cat

open Idealize.ShloMosaic

variable {α : Type}

theorem rest {t : Shape} {a : Fin t.rank} {p : (s : Shape) × (s.Idx → α)} {xs : List ((s : Shape) × (s.Idx → α))}
    (hp : p.1.FitsOff t a) {n c c' : ℕ} (hn : p.1.size (a.cast hp.rank_eq.symm) = n) (e : c = n + c')
    (hc : c < (axisSizes t a (p :: xs)).sum) : c' < (axisSizes t a xs).sum := by
  rw [axisSizes_cons t a p xs hp, List.sum_cons] at hc; omega

/-- A piece that ends before the column is skipped. -/
theorem skip {t : Shape} {a : Fin t.rank} (j : t.Idx) {p q : (s : Shape) × (s.Idx → α)} {xs : List ((s : Shape) × (s.Idx → α))}
    (hs : ∀ s ∈ (p :: q :: xs).map (·.1), s.FitsOff t a) {c : ℕ} (n c' : ℕ)
    (hn : p.1.size (a.cast (hs p.1 List.mem_cons_self).rank_eq.symm) = n) (e : c = n + c')
    (hc : c < (axisSizes t a (p :: q :: xs)).sum) :
    concatenateAt t a j (p :: q :: xs) hs c hc
      = concatenateAt t a j (q :: xs) (fun s h => hs s (List.mem_cons_of_mem _ h)) c' (rest (hs p.1 List.mem_cons_self) hn e hc) := by
  subst hn e
  rw [concatenateAt, dif_neg (by omega)]
  congr 1
  omega

/-- The piece the column falls in. -/
theorem here {t : Shape} {a : Fin t.rank} (j : t.Idx) {p : (s : Shape) × (s.Idx → α)} {xs : List ((s : Shape) × (s.Idx → α))}
    (hs : ∀ s ∈ (p :: xs).map (·.1), s.FitsOff t a) {c : ℕ}
    (hlt : c < p.1.size (a.cast (hs p.1 List.mem_cons_self).rank_eq.symm)) (hc : c < (axisSizes t a (p :: xs)).sum) (i : p.1.Idx)
    (hi : ∀ b, (i b).val = if b.val = a.val then c else (j (b.cast (hs p.1 List.mem_cons_self).rank_eq)).val) :
    concatenateAt t a j (p :: xs) hs c hc = p.2 i := by
  cases xs with
  | nil =>
    rw [concatenateAt, Shape.Idx.norm_def]
    exact congrArg p.2 (funext fun b => Fin.ext (hi b).symm)
  | cons q xs =>
    rw [concatenateAt, dif_pos hlt, Shape.Idx.norm_def]
    exact congrArg p.2 (funext fun b => Fin.ext (hi b).symm)

end Cert.Proof.Cat
-- ==== Proof.InRef.lean ====
/-
  The in-projection's reference: its one product at an entry, against the call's.
-/
module

public import proofs.«01_k».proof.Proof.Gen.Reference4Ideal.Run
public import proofs.«01_k».proof.Proof.InLit
public import proofs.«01_k».proof.Proof.In2
public import proofs.«01_k».proof.Proof.SbRef
public import proofs.«01_k».proof.Proof.Sb3
public import proofs.«01_k».proof.Proof.SbCat

@[expose] public section

set_option maxRecDepth 16384

noncomputable section

namespace Cert.Proof.In
open Idealize.ShloMosaic Idealize.ShloMosaic.TcCoe
open Cert.Reference4Ideal Cert.Reference4Ideal.Gen

/-- A scale is one or one eighth. -/
theorem scl_eq (j : Fin 2960) : ∃ r : ℝ, 0 < r ∧ scl j = (r : EReal) := by
  rcases scale_two j with e | e
  · refine ⟨1, one_pos, ?_⟩
    unfold scl
    rw [e]
    simp [Ideal.ofBits, Ideal.ieee, -EReal.coe_mul]
    try norm_num
  · refine ⟨1 / 8, by norm_num, ?_⟩
    unfold scl
    rw [e]
    exact Ref.lit_8th

/-- The product of the normalised rows and the weight. -/
def zz (h : FVec Ideal S16384x1024 .f32) (g : FVec Ideal S1024 .f32) (w : FVec Ideal S1024x2960 .f32) : FVec Ideal S16384x2960 .f32 :=
  Host.dotGeneral dot_S16384x1024_S1024x2960_S16384x2960_1_0_0_1_n_n none (mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

/-- The columns' places as the reference builds them. -/
def rplaces : S2960x1.Idx → BitVec 32 :=
  (broadcastInDim S2960x1 ![0] bcast_S2960_S2960x1_0 (select (constantI S2960 1 0#1) (addi ((fun i => lit0 (S2960.rowMajor i))) (broadcastInDim S2960 ![] bcast_S_S2960 (constantI S_ 32 2960#32))) ((fun i => lit0 (S2960.rowMajor i)))))

/-- The columns' scales as the reference builds them. -/
def rscales : S16384x2960.Idx → EReal :=
  broadcastInDim S16384x2960 ![0, 1] bcast_S1x2960_S16384x2960_0_1 (broadcastInDim S1x2960 ![1] bcast_S2960_S1x2960_1 ((fun i => Ideal.ofBits .f32 (lit1 (S2960.rowMajor i)))))

/-- The product's columns in order and scaled. -/
def yy (h : S16384x1024.Idx → EReal) (g : S1024.Idx → EReal) (w : S1024x2960.Idx → EReal) : S16384x2960.Idx → EReal :=
  mulf (F := Ideal) (φ := .f32) (Host.gather gather_S16384x2960_S2960x1_S16384x2960_0_1_n_n_1_1_163841 (zz h g w) rplaces) rscales

theorem zz_at (h : S16384x1024.Idx → EReal) (g : S1024.Idx → EReal) (w : S1024x2960.Idx → EReal) (R : Fin 16384) (j : Fin 2960) :
    zz h g w (ix2 R j) = ∑ k : Fin 1024, un h g R k * w (ix2 k j) := by
  unfold zz un
  pointwise
  try rfl

theorem rplaces_at (j : Fin 2960) : rplaces (ix2 j 0) = Cert.Kernel4Ideal.lit0 j := by
  unfold rplaces
  pointwise
  exact (congrArg lit0 (flat j)).trans (order_eq j)

theorem rscales_at (R : Fin 16384) (j : Fin 2960) : rscales (ix2 R j) = scl j := by
  unfold rscales scl
  pointwise
  exact congrArg (Ideal.ofBits FTy.f32) ((congrArg lit1 (flat j)).trans (scale_eq j))

theorem yy_at (h : S16384x1024.Idx → EReal) (g : S1024.Idx → EReal) (w : S1024x2960.Idx → EReal) (R : Fin 16384) (j : Fin 2960) :
    yy h g w (ix2 R j) = (∑ k : Fin 1024, un h g R k * w (ix2 k (src j))) * scl j := by
  show Host.gather gather_S16384x2960_S2960x1_S16384x2960_0_1_n_n_1_1_163841 (zz h g w) rplaces (ix2 R j) * rscales (ix2 R j) = _
  rw [rscales_at]
  refine congrArg (· * scl j) ?_
  refine (gather_cols gather_S16384x2960_S2960x1_S16384x2960_0_1_n_n_1_1_163841 rfl rfl rfl rfl rfl rfl rfl (zz h g w) rplaces R j (by decide)).trans ?_
  refine Eq.trans (congrArg (fun z => zz h g w (ix2 R z)) (Fin.ext ?_)) (zz_at h g w R (src j))
  show min (rplaces (ix2 j 0)).toInt.toNat (2960 - 1) = min (Cert.Kernel4Ideal.lit0 j).toInt.toNat (2960 - 1)
  rw [rplaces_at]

/-- Among the columns, the call's product is the reference's: the scale goes into the sum. -/
theorem acc_col (h : S16384x1024.Idx → EReal) (g : S1024.Idx → EReal) (w : S1024x2960.Idx → EReal) (R : Fin 16384) (j : Fin 3072) (hj : j.val < 2960) :
    ∑ k : Fin 1024, un h g R k * wt w k j = yy h g w (ix2 R ⟨j.val, hj⟩) := by
  rw [yy_at]
  obtain ⟨r, hr, e⟩ := scl_eq ⟨j.val, hj⟩
  rw [e, KI.sum_mul_pos _ _ _ hr]
  refine Finset.sum_congr rfl fun k _ => ?_
  unfold wt
  rw [dif_pos hj, e, mul_assoc]

/-- Among the padding, it is zero. -/
theorem acc_pad (h : S16384x1024.Idx → EReal) (g : S1024.Idx → EReal) (w : S1024x2960.Idx → EReal) (R : Fin 16384) (j : Fin 3072) (hj : ¬ j.val < 2960) :
    ∑ k : Fin 1024, un h g R k * wt w k j = 0 := by
  refine Finset.sum_eq_zero fun k _ => ?_
  unfold wt
  rw [dif_neg hj, mul_zero]

/-! ## The five results -/

variable (h : S16384x1024.Idx → EReal) (g : S1024.Idx → EReal) (w : S1024x2960.Idx → EReal)

/-- The main columns. -/
def r3 : S16384x2944.Idx → EReal :=
  truncf (F := Ideal) (φ := .f32) .bf16 (extractStridedSlice S16384x2944 ![0, 0] (yy h g w) slices_S16384x2960_S16384x2944_0_0) bitsLt_bf16_f32

/-- The gate columns, and zeros. -/
def r4 : S16384x128.Idx → EReal :=
  concatenate S16384x128 1 [⟨S16384x16, extractStridedSlice S16384x16 ![0, 2944] (yy h g w) slices_S16384x2960_S16384x16_0_2944⟩, ⟨S16384x112, broadcastInDim S16384x112 ![] bcast_S_S16384x112 (constant (F := Ideal) S_ .f32 0x00000000#32)⟩] concatenates_S16384x16_S16384x112_S16384x128_d1

/-- Sixteen rows of the convolution's columns side by side. -/
def r5 : S1024x2048.Idx → EReal :=
  truncf (F := Ideal) (φ := .f32) .bf16 (shapeCast _ (extractStridedSlice S16384x128 ![0, 256] (extractStridedSlice S16384x2944 ![0, 0] (yy h g w) slices_S16384x2960_S16384x2944_0_0) slices_S16384x2944_S16384x128_0_256) shapeCasts_S16384x128_S1024x2048) bitsLt_bf16_f32

/-- The rows of each residue modulo 4. -/
def r6 : S4x4096x768.Idx → EReal :=
  truncf (F := Ideal) (φ := .f32) .bf16 (transpose S4x4096x768 [1, 0, 2] (shapeCast _ (extractStridedSlice S16384x768 ![0, 640] (extractStridedSlice S16384x2944 ![0, 0] (yy h g w) slices_S16384x2960_S16384x2944_0_0) slices_S16384x2944_S16384x768_0_640) shapeCasts_S16384x768_S4096x4x768) transposes_S4096x4x768_S4x4096x768_1_0_2) bitsLt_bf16_f32

/-- The rows of each residue modulo 16. -/
def r7 : S16x1024x768.Idx → EReal :=
  truncf (F := Ideal) (φ := .f32) .bf16 (transpose S16x1024x768 [1, 0, 2] (shapeCast _ (extractStridedSlice S16384x768 ![0, 640] (extractStridedSlice S16384x2944 ![0, 0] (yy h g w) slices_S16384x2960_S16384x2944_0_0) slices_S16384x2944_S16384x768_0_640) shapeCasts_S16384x768_S1024x16x768) transposes_S1024x16x768_S16x1024x768_1_0_2) bitsLt_bf16_f32

theorem r3_at (R : Fin 16384) (q : Fin 2944) : r3 h g w (ix2 R q) = yy h g w (ix2 R ⟨q.val, by omega⟩) := by
  unfold r3
  generalize yy h g w = y
  pointwise

theorem main_at (y : S16384x2960.Idx → EReal) (R : Fin 16384) (q : Fin 768) :
    extractStridedSlice S16384x768 ![0, 640] (extractStridedSlice S16384x2944 ![0, 0] y slices_S16384x2960_S16384x2944_0_0) slices_S16384x2944_S16384x768_0_640 (ix2 R q)
      = y (ix2 R ⟨640 + q.val, by omega⟩) := by
  pointwise
  try exact congrArg (fun z => y (ix2 R z)) (Fin.ext (by show q.val + 640 = 640 + q.val; omega))

theorem r4_lo (R : Fin 16384) (q : Fin 16) : r4 h g w (ix2 R ⟨q.val, by omega⟩) = yy h g w (ix2 R ⟨2944 + q.val, by omega⟩) := by
  unfold r4
  generalize yy h g w = y
  refine (concatenate_apply _ _ _ _ _).trans ?_
  refine (Cat.here _ _ (by show q.val < 16; omega) _ (ix2 R q) (fun b => by fin_cases b <;> rfl)).trans ?_
  pointwise
  try exact congrArg (fun z => y (ix2 R z)) (Fin.ext (by show q.val + 2944 = 2944 + q.val; omega))

theorem r4_hi (R : Fin 16384) (q : Fin 112) : r4 h g w (ix2 R ⟨16 + q.val, by omega⟩) = 0 := by
  unfold r4
  generalize yy h g w = y
  refine (concatenate_apply _ _ _ _ _).trans ?_
  refine (Cat.skip _ _ 16 q.val rfl (by show 16 + q.val = _; omega) _).trans ?_
  refine (Cat.here _ _ (by show q.val < 112; omega) _ (ix2 R q) (fun b => by fin_cases b <;> rfl)).trans ?_
  pointwise

theorem r5_at (a : Fin 1024) (q : Fin 2048) :
    r5 h g w (ix2 a q) = yy h g w (ix2 ⟨16 * a.val + q.val / 128, by omega⟩ ⟨256 + q.val % 128, by omega⟩) := by
  unfold r5
  generalize yy h g w = y
  refine (truncf_apply _ _ _ _).trans ?_
  refine (shapeCast_apply (s := S16384x128) (t := S1024x2048) _ _ (ix2 a q) (ix2 ⟨16 * a.val + q.val / 128, by omega⟩ ⟨q.val % 128, by omega⟩) ?_).trans ?_
  · rw [Shape.rowMajor_val_two, Shape.rowMajor_val_two]
    show (16 * a.val + q.val / 128) * 128 + q.val % 128 = a.val * 2048 + q.val
    omega
  · pointwise
    try exact congrArg (fun z => y (ix2 _ z)) (Fin.ext (by show q.val % 128 + 256 = 256 + q.val % 128; omega))

theorem r6_at (a : Fin 4) (r : Fin 4096) (q : Fin 768) :
    r6 h g w (ix3 a r q) = yy h g w (ix2 ⟨4 * r.val + a.val, by omega⟩ ⟨640 + q.val, by omega⟩) := by
  unfold r6
  generalize yy h g w = y
  refine (truncf_apply _ _ _ _).trans ?_
  refine (transpose_apply _ _ _ (ix3 a r q) (ix3 r a q) ?_).trans ?_
  · intro b
    fin_cases b <;> rfl
  refine (shapeCast_apply (s := S16384x768) (t := S4096x4x768) _ _ (ix3 r a q) (ix2 ⟨4 * r.val + a.val, by omega⟩ q) ?_).trans ?_
  · rw [Shape.rowMajor_val_two, Shape.rowMajor_val_three]
    show (4 * r.val + a.val) * 768 + q.val = (r.val * 4 + a.val) * 768 + q.val
    omega
  · exact main_at y _ q

theorem r7_at (a : Fin 16) (r : Fin 1024) (q : Fin 768) :
    r7 h g w (ix3 a r q) = yy h g w (ix2 ⟨16 * r.val + a.val, by omega⟩ ⟨640 + q.val, by omega⟩) := by
  unfold r7
  generalize yy h g w = y
  refine (truncf_apply _ _ _ _).trans ?_
  refine (transpose_apply _ _ _ (ix3 a r q) (ix3 r a q) ?_).trans ?_
  · intro b
    fin_cases b <;> rfl
  refine (shapeCast_apply (s := S16384x768) (t := S1024x16x768) _ _ (ix3 r a q) (ix2 ⟨16 * r.val + a.val, by omega⟩ q) ?_).trans ?_
  · rw [Shape.rowMajor_val_two, Shape.rowMajor_val_three]
    show (16 * r.val + a.val) * 768 + q.val = (r.val * 16 + a.val) * 768 + q.val
    omega
  · exact main_at y _ q

end Cert.Proof.In

end
-- ==== Proof.InFin.lean ====
/-
  The in-projection: each of the five arrays its run leaves is the reference's.
-/
module

public import proofs.«01_k».proof.Proof.In1
public import proofs.«01_k».proof.Proof.InRef

@[expose] public section

set_option maxRecDepth 16384

noncomputable section

namespace Cert.Proof.In
open Idealize.ShloMosaic Idealize.ShloMosaic.TcCoe
open Cert.Kernel4Ideal Cert.Kernel4Ideal.Gen

variable (m : (ℓ : Loc nD τ sig) → Buf (Elt Ideal) ℓ) (c : Dev nD)

/-- The three arguments. -/
def hh : S16384x1024.Idx → EReal := m ((c : Thread nD τ).loc main_arg0)
def gg : S1024.Idx → EReal := m ((c : Thread nD τ).loc main_arg1)
def ww : S1024x2960.Idx → EReal := m ((c : Thread nD τ).loc main_arg2)

theorem t_lt (t : Fin cfg0.N) : t.val < 32 := t.isLt

/-- The point's product among the columns is the reference's. -/
theorem acc_eq (t : Fin cfg0.N) (y : Fin 512) (j : Fin 3072) (R : Fin 16384) (J : Fin 2960) (hR : R.val = t.val * 512 + y.val) (hJ : J.val = j.val) :
    k0_pay3 (F := Ideal) (iblk m c 0 t) (iblk m c 1 t) (iblk m c 2 t) (ix2 y j) = yy (hh m c) (gg m c) (ww m c) (ix2 R J) := by
  have e : R = row t y := Fin.ext hR
  have hj : j.val < 2960 := hJ ▸ J.isLt
  have e' : J = ⟨j.val, hj⟩ := Fin.ext hJ
  rw [e, e']
  exact (acc_at m c t y j).trans (acc_col (hh m c) (gg m c) (ww m c) (row t y) j hj)

/-- Among the padding it is zero. -/
theorem acc_zero (t : Fin cfg0.N) (y : Fin 512) (j : Fin 3072) (hj : ¬ j.val < 2960) :
    k0_pay3 (F := Ideal) (iblk m c 0 t) (iblk m c 1 t) (iblk m c 2 t) (ix2 y j) = 0 :=
  (acc_at m c t y j).trans (acc_pad (hh m c) (gg m c) (ww m c) (row t y) j hj)

theorem point3 (t : Fin cfg0.N) (a : Fin 512) (q : Fin 2944) (h : t.val * 512 + a.val < 16384) :
    (outsAt0 m c t).1 (ix2 a q) = r3 (hh m c) (gg m c) (ww m c) (ix2 ⟨t.val * 512 + a.val, h⟩ q) := by
  unfold outsAt0
  dsimp only
  rw [out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) a q]
  refine ((acc_eq m c t _ _ _ _ ?_ ?_).trans (r3_at _ _ _ _ q).symm) <;> rfl

theorem point4 (t : Fin cfg0.N) (a : Fin 512) (q : Fin 128) (h : t.val * 512 + a.val < 16384) :
    (outsAt0 m c t).2.1 (ix2 a q) = r4 (hh m c) (gg m c) (ww m c) (ix2 ⟨t.val * 512 + a.val, h⟩ q) := by
  unfold outsAt0
  dsimp only
  rw [out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) a q]
  by_cases hq : q.val < 16
  · refine (acc_eq m c t _ _ _ _ ?_ ?_).trans (r4_lo _ _ _ _ ⟨q.val, hq⟩).symm <;> rfl
  · have e : q = ⟨16 + (⟨q.val - 16, by omega⟩ : Fin 112).val, by show 16 + (q.val - 16) < 128; omega⟩ := Fin.ext (by show q.val = 16 + (q.val - 16); omega)
    refine (acc_zero m c t a _ (by show ¬ 2944 + q.val < 2960; omega)).trans ?_
    rw [e]
    exact (r4_hi _ _ _ _ _).symm

theorem point5 (t : Fin cfg0.N) (a : Fin 32) (q : Fin 2048) (h : t.val * 32 + a.val < 1024) :
    (outsAt0 m c t).2.2.1 (ix2 a q) = r5 (hh m c) (gg m c) (ww m c) (ix2 ⟨t.val * 32 + a.val, h⟩ q) := by
  unfold outsAt0
  dsimp only
  rw [out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) a q]
  refine ((acc_eq m c t _ _ _ _ ?_ ?_).trans (r5_at _ _ _ _ q).symm)
  · show 16 * (t.val * 32 + a.val) + q.val / 128 = t.val * 512 + (16 * a.val + q.val / 128)
    omega
  · rfl

theorem point6 (t : Fin cfg0.N) (a : Fin 4) (r : Fin 128) (q : Fin 768) (h : t.val * 128 + r.val < 4096) :
    (outsAt0 m c t).2.2.2.1 (ix3 a r q) = r6 (hh m c) (gg m c) (ww m c) (ix3 a ⟨t.val * 128 + r.val, h⟩ q) := by
  unfold outsAt0
  dsimp only
  rw [out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) a r q]
  refine ((acc_eq m c t _ _ _ _ ?_ ?_).trans (r6_at _ _ _ a _ q).symm)
  · show 4 * (t.val * 128 + r.val) + a.val = t.val * 512 + (4 * r.val + a.val)
    omega
  · rfl

theorem point7 (t : Fin cfg0.N) (a : Fin 16) (r : Fin 32) (q : Fin 768) (h : t.val * 32 + r.val < 1024) :
    (outsAt0 m c t).2.2.2.2 (ix3 a r q) = r7 (hh m c) (gg m c) (ww m c) (ix3 a ⟨t.val * 32 + r.val, h⟩ q) := by
  unfold outsAt0
  dsimp only
  rw [out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) a r q]
  refine ((acc_eq m c t _ _ _ _ ?_ ?_).trans (r7_at _ _ _ a _ q).symm)
  · show 16 * (t.val * 32 + r.val) + a.val = t.val * 512 + (16 * r.val + a.val)
    omega
  · rfl

/-- The main columns. -/
theorem final3 : (dats m 0 c).arrAt 3 (cfgs 0).N = r3 (hh m c) (gg m c) (ww m c) := by
  refine (dats m 0 c).arrAt_eq_of_covers 3 _ (by decide +kernel) fun t _ y => ?_
  blk_simp
  rw [after0_3]
  have ht := t_lt t
  have hy : (y 0).val < 512 := (y 0).isLt
  refine Eq.trans (congrArg _ (eq_ix2 (show S512x2944.Idx from y))) ((point3 m c t (y 0) (y 1) (by omega)).trans (congrArg (r3 (hh m c) (gg m c) (ww m c)) ?_))
  blk_ext [idx t]

/-- The gates. -/
theorem final4 : (dats m 0 c).arrAt 4 (cfgs 0).N = r4 (hh m c) (gg m c) (ww m c) := by
  refine (dats m 0 c).arrAt_eq_of_covers 4 _ (by decide +kernel) fun t _ y => ?_
  blk_simp
  rw [after0_4]
  have ht := t_lt t
  have hy : (y 0).val < 512 := (y 0).isLt
  refine Eq.trans (congrArg _ (eq_ix2 (show S512x128.Idx from y))) ((point4 m c t (y 0) (y 1) (by omega)).trans (congrArg (r4 (hh m c) (gg m c) (ww m c)) ?_))
  blk_ext [idx t]

/-- Sixteen rows side by side. -/
theorem final5 : (dats m 0 c).arrAt 5 (cfgs 0).N = r5 (hh m c) (gg m c) (ww m c) := by
  refine (dats m 0 c).arrAt_eq_of_covers 5 _ (by decide +kernel) fun t _ y => ?_
  blk_simp
  rw [after0_5]
  have ht := t_lt t
  have hy : (y 0).val < 32 := (y 0).isLt
  refine Eq.trans (congrArg _ (eq_ix2 (show S32x2048.Idx from y))) ((point5 m c t (y 0) (y 1) (by omega)).trans (congrArg (r5 (hh m c) (gg m c) (ww m c)) ?_))
  blk_ext [idx t]

/-- The rows modulo 4. -/
theorem final6 : (dats m 0 c).arrAt 6 (cfgs 0).N = r6 (hh m c) (gg m c) (ww m c) := by
  refine (dats m 0 c).arrAt_eq_of_covers 6 _ (by decide +kernel) fun t _ y => ?_
  blk_simp
  rw [after0_6]
  have ht := t_lt t
  have hy : (y 1).val < 128 := (y 1).isLt
  refine Eq.trans (congrArg _ (eq_ix3 (show S4x128x768.Idx from y))) ((point6 m c t (y 0) (y 1) (y 2) (by omega)).trans (congrArg (r6 (hh m c) (gg m c) (ww m c)) ?_))
  blk_ext [idx t]

/-- The rows modulo 16. -/
theorem final7 : (dats m 0 c).arrAt 7 (cfgs 0).N = r7 (hh m c) (gg m c) (ww m c) := by
  refine (dats m 0 c).arrAt_eq_of_covers 7 _ (by decide +kernel) fun t _ y => ?_
  blk_simp
  rw [after0_7]
  have ht := t_lt t
  have hy : (y 1).val < 32 := (y 1).isLt
  refine Eq.trans (congrArg _ (eq_ix3 (show S16x32x768.Idx from y))) ((point7 m c t (y 0) (y 1) (y 2) (by omega)).trans (congrArg (r7 (hh m c) (gg m c) (ww m c)) ?_))
  blk_ext [idx t]

end Cert.Proof.In

end
-- ==== Proof.Claims4.lean ====
/-
  The in-projection: the frames, the idealization's ledger and the value claim.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.InFin
public import Idealize.ShloMosaic.Adequacy
public import Idealize.ShloMosaic.Init

@[expose] public section

set_option maxRecDepth 16384

noncomputable section

namespace Cert.Proof

open Idealize.ShloMosaic Idealize.SL.Sem

/-- The in-projection runs, keeps its arguments and ends with every counter at zero. -/
theorem frame_k4 : Cert.quiescent_Kernel4 (hKernel4 := Cert.Kernel4.Gen.facts) := fun m ρ _ => Cert.Kernel4.Gen.frame m ρ

/-- So does its idealization. -/
theorem frame_ki4 : Cert.quiescent_Kernel4Ideal (hKernel4Ideal := Cert.Kernel4Ideal.Gen.facts) := fun m ρ _ => Cert.Kernel4Ideal.Gen.frame m ρ

/-- So does the reference. -/
theorem frame_ri4 : Cert.quiescent_Reference4Ideal (hReference4Ideal := Cert.Reference4Ideal.Gen.facts) := fun m ρ _ =>
  (θ_run Cert.Reference4Ideal.defs _ _).mono (fun r h => ⟨fun c => (h c).2.2.2.2.2, Idealize.ShloMosaic.sem_eq_zero_of_no_sems (by decide) r.2⟩)
    (Cert.Reference4Ideal.Value.run (F := Ideal) m ρ)

/-- No operation of the in-projection is rewritten. -/
theorem preserves_k4 : Cert.preserves_Kernel4_Kernel4Ideal := trivial

/-- The in-projection's five results, every element of them, are the reference's, in exact arithmetic and for any
    arguments. -/
theorem algebraic_k4 : Cert.algebraic_Kernel4Ideal_Reference4Ideal (hKernel4Ideal := Cert.Kernel4Ideal.Gen.facts)
    (hReference4Ideal := Cert.Reference4Ideal.Gen.facts) := by
  intro m g m' g' _ agree
  refine ⟨fun c => (Cert.Kernel4Ideal.Gen.dats m 0 c).arrAt 3 (Cert.Kernel4Ideal.cfgs 0).N,
    fun c => (Cert.Kernel4Ideal.Gen.dats m 0 c).arrAt 4 (Cert.Kernel4Ideal.cfgs 0).N,
    fun c => (Cert.Kernel4Ideal.Gen.dats m 0 c).arrAt 5 (Cert.Kernel4Ideal.cfgs 0).N,
    fun c => (Cert.Kernel4Ideal.Gen.dats m 0 c).arrAt 6 (Cert.Kernel4Ideal.cfgs 0).N,
    fun c => (Cert.Kernel4Ideal.Gen.dats m 0 c).arrAt 7 (Cert.Kernel4Ideal.cfgs 0).N, ?_, ?_⟩
  · exact Cert.Kernel4Ideal.Value.run_blocks m g
  · refine (θ_run Cert.Reference4Ideal.defs _ _).mono (fun r h c => ?_) (Cert.Reference4Ideal.Value.run (F := Ideal) m' g')
    have hc := h c
    obtain ⟨e0, e1, e2⟩ := agree c
    refine ⟨hc.1.trans ?_, hc.2.1.trans ?_, hc.2.2.1.trans ?_, hc.2.2.2.1.trans ?_, hc.2.2.2.2.1.trans ?_, hc.2.2.2.2.2⟩
    · rw [e0, e1, e2]
      exact (In.final3 m c).symm
    · rw [e0, e1, e2]
      exact (In.final4 m c).symm
    · rw [e0, e1, e2]
      exact (In.final5 m c).symm
    · rw [e0, e1, e2]
      exact (In.final6 m c).symm
    · rw [e0, e1, e2]
      exact (In.final7 m c).symm

end Cert.Proof

end
-- ==== Proof.Lc1.lean ====
/-
  The cumulative sum of the forget gates' logarithms: what a block computes.
-/
module

public import proofs.«01_k».proof.Proof.Gen.Kernel5Ideal.Value
public import proofs.«01_k».proof.Proof.SbSums
public import Idealize.ShloMosaic.Lib.Pointwise
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Proof.Lc
open Idealize.ShloMosaic Idealize.ShloMosaic.TcCoe
open Cert.Kernel5Ideal Cert.Kernel5Ideal.Gen
open Cert.Proof.Sb

/-- The logarithm of the logistic function, as the call spells it. -/
def lk (x : EReal) : EReal := min x 0 - Ideal.log1p (Ideal.exp (0 - max x (-x)))

/-- It is the negated softplus of the negated argument, of every extended real. -/
theorem lk_eq (x : EReal) : lk x = kpv (-x) := by
  induction x using EReal.rec with
  | bot =>
    unfold lk
    rw [EReal.neg_bot, kpv_top, min_eq_left bot_le, EReal.bot_sub]
  | top =>
    unfold lk
    rw [EReal.neg_top, kpv_bot, min_eq_right le_top, max_eq_left bot_le, sub_eq_add_neg (0 : EReal) ⊤, zero_add, exp_none, sub_zero]
  | coe x =>
    have h1 : max (x : EReal) (-(x : EReal)) = ((|x| : ℝ) : EReal) := by
      rw [← EReal.coe_neg, ← coe_max, abs_eq_max_neg]
    have h2 : (0 : EReal) - ((|x| : ℝ) : EReal) = ((-|x| : ℝ) : EReal) := by
      rw [← EReal.coe_zero, ← EReal.coe_sub, zero_sub]
    have h3 : (1 : EReal) + ((Real.exp (-|x|) : ℝ) : EReal) = ((1 + Real.exp (-|x|) : ℝ) : EReal) := by
      rw [← EReal.coe_one, ← EReal.coe_add]
    have h4 : ¬ (1 + Real.exp (-|x|) ≤ 0) := by have := Real.exp_pos (-|x|); linarith
    have h5 : min (x : EReal) 0 = ((min x 0 : ℝ) : EReal) := by
      rw [← EReal.coe_zero]; exact (EReal.coe_strictMono.monotone.map_min).symm
    unfold lk
    rw [h1, h2, Ideal.exp_coe, Ideal.log1p, h3, Ideal.log_coe, if_neg h4, h5, ← EReal.coe_sub, ← EReal.coe_neg, kpv_coe]
    refine congrArg _ ?_
    unfold sp
    rw [abs_neg]
    rcases le_total 0 x with h | h
    · rw [min_eq_right h, max_eq_right (by linarith : -x ≤ 0)]; ring
    · rw [min_eq_left h, max_eq_left (by linarith : 0 ≤ -x)]; ring

theorem lk_cases (x : EReal) : lk x = ⊥ ∨ ∃ y : ℝ, lk x = y := by
  rw [lk_eq]
  exact kpv_cases _

/-- What the roundings of a logarithm leave adds nothing: it is 0, or minus infinity where the logarithm is. -/
theorem lk_rest (x t : EReal) (ht : t = 0 ∨ t = 1) :
    lk x * t + (lk x - lk x) * t + (lk x - lk x - (lk x - lk x)) * t = lk x * t := by
  rcases lk_cases x with h | ⟨y, h⟩
  · rw [h]; rcases ht with rfl | rfl
    · simp only [mul_zero, add_zero]
    · rw [mul_one, mul_one, EReal.bot_add, EReal.bot_sub, EReal.bot_sub, mul_one, EReal.bot_add]
  · rw [h, coe_sub_self, sub_zero, zero_mul, add_zero, add_zero]

/-- The block's triangle. -/
def Tri (T : S512x512.Idx → EReal) : Prop := ∀ k j : Fin 512, T (ix2 k j) = if k.val ≤ j.val then 1 else 0

/-- A block's running sums, over what was carried in. -/
theorem pay3_at (x0 : S8x512.Idx → EReal) (x1 : S8x1.Idx → EReal) (x2 : S512x512.Idx → EReal) (hT : Tri x2) (v : S8x1.Idx → EReal)
    (r : Fin 8) (j : Fin 512) :
    k0_pay3 (F := Ideal) x0 x1 x2 v (ix2 r j)
      = (∑ k : Fin 512, if k.val ≤ j.val then lk (x0 (ix2 r k) + x1 (ix2 r 0)) else 0) + v (ix2 r 0) := by
  pointwise [k0_pay3]
  simp only [hT _ _]
  refine congrArg (· + v (ix2 r 0)) ?_
  rw [← Finset.sum_add_distrib, ← Finset.sum_add_distrib]
  refine Finset.sum_congr rfl fun k _ => ?_
  refine (lk_rest (x0 (ix2 r k) + x1 (ix2 r 0)) (if k.val ≤ j.val then 1 else 0) ?_).trans ?_
  · split
    · exact Or.inr rfl
    · exact Or.inl rfl
  · split
    · exact mul_one _
    · exact mul_zero _

/-- What a block carries on: its last column. -/
theorem pay4_at (x0 : S8x512.Idx → EReal) (x1 : S8x1.Idx → EReal) (x2 : S512x512.Idx → EReal) (v : S8x1.Idx → EReal)
    (r : Fin 8) (l : Fin 128) :
    k0_pay4 (F := Ideal) x0 x1 x2 v (ix2 r l) = k0_pay3 (F := Ideal) x0 x1 x2 v (ix2 r 511) := by
  unfold k0_pay4
  generalize k0_pay3 (F := Ideal) x0 x1 x2 v = A
  pointwise

variable (m : (ℓ : Loc nD τ sig) → Buf (Elt Ideal) ℓ)

/-- The scratch that the first point clears holds zero. -/
theorem cleared (r : Fin 8) :
    (View.readCov (Val := Elt Ideal) (View.whole cc0_scratch0) [⟨Rect.unit (s := S8x128) ![0, 0] S8x128.size inb_S8x128_S8x128_0_0, k0_pay2 (F := Ideal)⟩]
        (Rect.unit (s := S8x128) ![0, 0] S8x1.size inb_S8x128_S8x1_0_0).toLoadRect : S8x1.Idx → EReal) (ix2 r 0) = (0 : EReal) := by
  rw [View.readCov_eq_canon']
  refine (congrFun (View.canon_cons_unit_lit (S := S8x128) (Val := Elt Ideal) (e := .f32) inb_S8x128_S8x128_0_0 (k0_pay2 (F := Ideal)) [] (by decide)) _).trans ?_
  pointwise [k0_pay2]

/-- The first column of the carried scratch. -/
theorem column (X : S8x128.Idx → Elt Ideal .f32) (r : Fin 8) :
    (View.ld (Val := Elt Ideal) (e' := .f32) X (Rect.unit (s := S8x128) ![0, 0] S8x1.size inb_S8x128_S8x1_0_0) : S8x1.Idx → EReal) (ix2 r 0) = X (ix2 r 0) := by
  pointwise

/-- What a point starts from: nothing at the first, what the point before carried on at a later one. -/
def start (c : Dev nD) (t : Fin cfg0.N) (r : Fin 8) : EReal :=
  if t.val % 32 = 0 then 0 else (outsAt0 m c (t.val - 1) (Nat.lt_of_le_of_lt (Nat.sub_le _ _) t.isLt)).2 (ix2 r 0)

/-- A point's rows. -/
def rowsAt (c : Dev nD) (t : Fin cfg0.N) : S8x512.Idx → EReal := iblk m c 0 t
/-- A point's biases. -/
def biasAt (c : Dev nD) (t : Fin cfg0.N) : S8x1.Idx → EReal := iblk m c 1 t
/-- A point's triangle. -/
def triAt (c : Dev nD) (t : Fin cfg0.N) : S512x512.Idx → EReal := iblk m c 2 t

/-- A point's block. -/
theorem point_out (c : Dev nD) (t : Fin cfg0.N) (hT : Tri (triAt m c t)) (r : Fin 8) (j : Fin 512) :
    (outsAt0 m c t.val t.isLt).1 (ix2 r j)
      = (∑ k : Fin 512, if k.val ≤ j.val then lk (rowsAt m c t (ix2 r k) + biasAt m c t (ix2 r 0)) else 0) + start m c t r := by
  unfold start
  by_cases h0 : t.val % 32 = 0
  · rw [if_pos h0, outsAt0_A m c t h0]
    frame_out
    exact (pay3_at (rowsAt m c t) (biasAt m c t) (triAt m c t) hT _ r j).trans (congrArg (_ + ·) (cleared r))
  · rw [if_neg h0, outsAt0_B m c t h0]
    generalize (outsAt0 m c (t.val - 1) _).2 = X
    frame_out
    refine (pay3_at (rowsAt m c t) (biasAt m c t) (triAt m c t) hT _ r j).trans (congrArg (_ + ·) ((column _ r).trans ?_))
    rw [read_unread_whole]

/-- What a point carries on. -/
theorem point_carry (c : Dev nD) (t : Fin cfg0.N) (hT : Tri (triAt m c t)) (r : Fin 8) (l : Fin 128) :
    (outsAt0 m c t.val t.isLt).2 (ix2 r l)
      = (∑ k : Fin 512, if k.val ≤ (511 : Fin 512).val then lk (rowsAt m c t (ix2 r k) + biasAt m c t (ix2 r 0)) else 0) + start m c t r := by
  unfold start
  by_cases h0 : t.val % 32 = 0
  · rw [if_pos h0, outsAt0_A m c t h0]
    frame_out
    unfold k0_pay1
    refine (congrFun (shapeCast_self _ _) _).trans ?_
    refine (pay4_at _ _ _ _ r l).trans ?_
    exact (pay3_at (rowsAt m c t) (biasAt m c t) (triAt m c t) hT _ r 511).trans (congrArg (_ + ·) (cleared r))
  · rw [if_neg h0, outsAt0_B m c t h0]
    generalize (outsAt0 m c (t.val - 1) _).2 = X
    frame_out
    unfold k0_pay1
    refine (congrFun (shapeCast_self _ _) _).trans ?_
    refine (pay4_at _ _ _ _ r l).trans ?_
    refine (pay3_at (rowsAt m c t) (biasAt m c t) (triAt m c t) hT _ r 511).trans (congrArg (_ + ·) ((column _ r).trans ?_))
    rw [read_unread_whole]

end Cert.Proof.Lc

end
-- ==== Proof.Lc2.lean ====
/-
  The cumulative sum of the forget gates' logarithms: the call's operands, and what every point leaves.
-/
module

public import proofs.«01_k».proof.Proof.Lc1
public import proofs.«01_k».proof.Proof.SbCat
public import Idealize.ShloMosaic.Lib.StableHlo.RunRead

@[expose] public section

set_option maxRecDepth 16384

noncomputable section

namespace Cert.Proof.Lc
open Idealize.ShloMosaic Idealize.ShloMosaic.TcCoe
open Cert.Kernel5Ideal Cert.Kernel5Ideal.Gen
open Cert.Proof.Sb

variable (m : (ℓ : Loc nD τ sig) → Buf (Elt Ideal) ℓ)

/-- The gates' columns as rows, with rows of zeros below. -/
def rows (g : FVec Ideal S16384x128 .f32) : FVec Ideal S8x16384 .f32 :=
  concatenate S8x16384 0 [⟨S4x16384, transpose S4x16384 [1, 0] (extractStridedSlice S16384x4 ![0, 12] g slices_S16384x128_S16384x4_0_12) transposes_S16384x4_S4x16384_1_0⟩,
    ⟨S4x16384, broadcastInDim S4x16384 ![] bcast_S_S4x16384 (constant S_ .f32 0x00000000#32)⟩] concatenates_S4x16384_S4x16384_S8x16384_d0

/-- The biases, with zeros below. -/
def biases (b : FVec Ideal S4 .f32) : FVec Ideal S8 .f32 :=
  concatenate S8 0 [⟨S4, b⟩, ⟨S4, broadcastInDim S4 ![] bcast_S_S4 (constant S_ .f32 0x00000000#32)⟩] concatenates_S4_S4_S8_d0

theorem rows_eq (c : Dev nD) : V m c main_v3 = rows (m ((c : Thread nD τ).loc main_arg0)) := by
  unfold V
  unfold hostOps0
  after_reads_simp
  rfl

theorem biases_eq (c : Dev nD) (r : Fin 8) : V m c main_v6 (ix2 r 0) = biases (m ((c : Thread nD τ).loc main_arg1)) (ix1 r) := by
  have e : V m c main_v6 = shapeCast S8x1 (biases (m ((c : Thread nD τ).loc main_arg1))) shapeCasts_S8_S8x1 := by
    unfold V
    unfold hostOps0
    after_reads_simp
    rfl
  rw [e]
  generalize biases _ = B
  pointwise

theorem tri_entry (c : Dev nD) (k j : Fin 512) : V m c main_v17 (ix2 k j) = (if k.val ≤ j.val then 1 else 0 : EReal) := by
  unfold V
  unfold hostOps0
  after_reads_simp
  pointwise
  rw [WordCmp.cmpi_sle_ofNat (by omega) (by omega)]
  by_cases h : k.val ≤ j.val
  · rw [if_pos h, decide_eq_true h]; rfl
  · rw [if_neg h, decide_eq_false h]; rfl

/-- The blocks of every grid point. -/
theorem idx : ∀ t : Fin cfg0.N,
    win0_0.index t = ![0, t.val] ∧ win0_1.index t = ![0, 0] ∧ win0_2.index t = ![0, 0] ∧ win0_3.index t = ![0, t.val] :=
  (by decide +kernel : ∀ t : Fin grid0.N, _)

theorem col_lt (t : Fin cfg0.N) (y : Fin 512) : 512 * t.val + y.val < 16384 := by
  have h : t.val < 32 := t.isLt
  omega

theorem b0 (c : Dev nD) (t : Fin cfg0.N) (r : Fin 8) (k : Fin 512) :
    rowsAt m c t (ix2 r k) = V m c main_v3 (ix2 r ⟨512 * t.val + k.val, col_lt t k⟩) := by
  blk_point [rowsAt, iblk, idx t]

theorem b1 (c : Dev nD) (t : Fin cfg0.N) (r : Fin 8) :
    biasAt m c t (ix2 r 0) = V m c main_v6 (ix2 r 0) := by
  blk_point [biasAt, iblk, idx t]

theorem b2 (c : Dev nD) (t : Fin cfg0.N) : Tri (triAt m c t) := by
  intro k j
  refine Eq.trans ?_ (tri_entry m c k j)
  blk_point [triAt, iblk, idx t]

/-- The logarithm at a row's column, zero beyond the row. -/
def term (c : Dev nD) (r : Fin 8) (n : ℕ) : EReal :=
  if h : n < 16384 then lk (rows (m ((c : Thread nD τ).loc main_arg0)) (ix2 r ⟨n, h⟩) + biases (m ((c : Thread nD τ).loc main_arg1)) (ix1 r)) else 0

theorem blk_term (c : Dev nD) (t : Fin cfg0.N) (r : Fin 8) (k : Fin 512) :
    lk (rowsAt m c t (ix2 r k) + biasAt m c t (ix2 r 0)) = term m c r (512 * t.val + k.val) := by
  unfold term
  rw [dif_pos (col_lt t k), b0, b1, rows_eq, biases_eq]

/-- A block's first terms. -/
theorem part (f : ℕ → EReal) (N a j : ℕ) (hj : j < N) :
    (∑ k : Fin N, if k.val ≤ j then f (a + k.val) else 0) = ∑ k ∈ Finset.range (j + 1), f (a + k) := by
  rw [Fin.sum_univ_eq_sum_range (fun k => if k ≤ j then f (a + k) else 0) N, ← Finset.sum_filter]
  refine Finset.sum_congr (Finset.ext fun k => ?_) fun _ _ => rfl
  simp only [Finset.mem_filter, Finset.mem_range]
  omega

/-- The terms before, and a block's first ones. -/
theorem step (f : ℕ → EReal) (N a j : ℕ) (hj : j < N) :
    (∑ k : Fin N, if k.val ≤ j then f (a + k.val) else 0) + ∑ s ∈ Finset.range a, f s = ∑ s ∈ Finset.range (a + j + 1), f s := by
  rw [part f N a j hj, Nat.add_assoc a, Finset.sum_range_add f a (j + 1), add_comm]

/-- Every point: the row's running sums, and the sum that is carried on. -/
theorem point_sum (c : Dev nD) (r : Fin 8) : ∀ (n : ℕ) (hn : n < cfg0.N),
    (∀ j : Fin 512, (outsAt0 m c n hn).1 (ix2 r j) = ∑ s ∈ Finset.range (512 * n + j.val + 1), term m c r s)
    ∧ ∀ l : Fin 128, (outsAt0 m c n hn).2 (ix2 r l) = ∑ s ∈ Finset.range (512 * n + 512), term m c r s := by
  intro n
  induction n with
  | zero =>
    intro hn
    have p1 := point_out m c ⟨0, hn⟩ (b2 m c _) r
    have p2 := point_carry m c ⟨0, hn⟩ (b2 m c _) r
    have hs : start m c ⟨0, hn⟩ r = 0 := if_pos rfl
    simp only [blk_term, hs, add_zero] at p1 p2
    refine ⟨fun j => (p1 j).trans ?_, fun l => (p2 l).trans ?_⟩
    · refine (part (term m c r) 512 (512 * 0) j.val j.isLt).trans ?_
      simp only [Nat.mul_zero, Nat.zero_add]
    · refine (part (term m c r) 512 (512 * 0) 511 (by omega)).trans ?_
      simp only [Nat.mul_zero, Nat.zero_add]
  | succ n ih =>
    intro hn
    have p1 := point_out m c ⟨n + 1, hn⟩ (b2 m c _) r
    have p2 := point_carry m c ⟨n + 1, hn⟩ (b2 m c _) r
    have hn' : n + 1 < 32 := hn
    have hs : start m c ⟨n + 1, hn⟩ r = ∑ s ∈ Finset.range (512 * n + 512), term m c r s :=
      (if_neg (by show ¬ (n + 1) % 32 = 0; omega)).trans ((ih (Nat.lt_of_succ_lt hn)).2 0)
    simp only [blk_term, hs] at p1 p2
    have e : 512 * (n + 1) = 512 * n + 512 := by omega
    refine ⟨fun j => (p1 j).trans ?_, fun l => (p2 l).trans ?_⟩
    · rw [e]
      exact step (term m c r) 512 (512 * n + 512) j.val j.isLt
    · rw [e]
      exact step (term m c r) 512 (512 * n + 512) 511 (by omega)

end Cert.Proof.Lc

end
-- ==== Proof.Lc3.lean ====
/-
  The cumulative sum of the forget gates' logarithms: the reference at an element.
-/
module

public import proofs.«01_k».proof.Proof.Gen.Reference5Ideal.Run
public import proofs.«01_k».proof.Proof.SbCum
public import proofs.«01_k».proof.Proof.SbRef
public import proofs.«01_k».proof.Proof.SbCat
public import proofs.«01_k».proof.Proof.SbSums
public import Idealize.ShloMosaic.Lib.Pointwise
public import Idealize.ShloMosaic.Lib.KernelVsHost

@[expose] public section

set_option maxRecDepth 16384

noncomputable section

namespace Cert.Proof.LcR
open Idealize.ShloMosaic Idealize.ShloMosaic.TcCoe
open Cert.Reference5Ideal Cert.Reference5Ideal.Gen
open Cert.Proof.Sb

abbrev Rows := FVec Ideal S8x16384 .f32

/-- The gates' columns with their biases, as rows, and rows of zeros below. -/
def xx (g : FVec Ideal S16384x128 .f32) (b : FVec Ideal S4 .f32) : Rows :=
  concatenate S8x16384 0 [⟨S4x16384, (transpose S4x16384 [1, 0] (addf (extractStridedSlice S16384x4 ![0, 12] g slices_S16384x128_S16384x4_0_12) (broadcastInDim S16384x4 ![0, 1] bcast_S1x4_S16384x4_0_1 (broadcastInDim S1x4 ![1] bcast_S4_S1x4_1 b))) transposes_S16384x4_S4x16384_1_0)⟩, ⟨S4x16384, (broadcastInDim S4x16384 ![] bcast_S_S4x16384 (constant S_ .f32 0x00000000#32))⟩] concatenates_S4x16384_S4x16384_S8x16384_d0

def z0 : Rows := broadcastInDim S8x16384 ![] bcast_S_S8x16384 (constant S_ .f32 0x00000000#32)

/-- The logarithm of one plus the exponential. -/
def soft (x : Rows) : Rows :=
  select (cmpf .une (subf x z0) (subf x z0)) (addf x z0) (addf (maximumf x z0) (Host.log1p (Host.exp (Host.negf (Host.absf (subf x z0))))))

/-- The cumulative sum along the rows. -/
def cum (k : Rows) : Rows :=
  Host.reduceWindowAdd ![1, 16384] ![1, 1] ![0, 16383] ![0, 0] k (broadcastInDim S_ ![] bcast_S_S_ (constant S_ .f32 0x00000000#32)) reduceWindows_S8x16384_S8x16384_w1s1p0_0_w16384s1p16383_0 h_S_

/-- The reference's result. -/
def res (g : FVec Ideal S16384x128 .f32) (b : FVec Ideal S4 .f32) : Rows := cum (Host.negf (soft (Host.negf (xx g b))))

/-- A row's sum up to a column. -/
theorem shifted_up (N s : ℕ) (hs : s < N) (f : ℕ → EReal) :
    (∑ k : Fin N, if N - 1 ≤ s + k.val then f (s + k.val - (N - 1)) else 0) = ∑ n : Fin N, if n.val ≤ s then f n.val else 0 := by
  rw [Fin.sum_univ_eq_sum_range (fun k => if N - 1 ≤ s + k then f (s + k - (N - 1)) else 0) N,
    Fin.sum_univ_eq_sum_range (fun n => if n ≤ s then f n else 0) N, ← Finset.sum_filter, ← Finset.sum_filter]
  refine Finset.sum_bij' (fun k _ => s + k - (N - 1)) (fun n _ => n + (N - 1) - s) ?_ ?_ ?_ ?_ ?_
  all_goals
    intro k hk
    simp only [Finset.mem_filter, Finset.mem_range] at hk
  · simp only [Finset.mem_filter, Finset.mem_range]; omega
  · simp only [Finset.mem_filter, Finset.mem_range]; omega
  · omega
  · omega
  · rfl

theorem cum_win (h : (⟨2, ![8, 16384]⟩ : Shape).ReduceWindows ![1, 16384] ![1, 1] ![0, 16383] ![0, 0] ⟨2, ![8, 16384]⟩)
    (x : (⟨2, ![8, 16384]⟩ : Shape).Idx → EReal) (r : Fin 8) (s : Fin 16384) :
    Ideal.hostReduceWindowAdd ![1, 16384] ![1, 1] ![0, 16383] ![0, 0] h x 0 (ix2 r s)
      = ∑ n : Fin 16384, if n.val ≤ s.val then x (ix2 r n) else 0 := by
  let f : ℕ → EReal := fun n => if hn : n < 16384 then x (ix2 r ⟨n, hn⟩) else 0
  have hf : ∀ n : Fin 16384, f n.val = x (ix2 r n) := fun n => dif_pos n.isLt
  refine (window_sum _ _ _ _ h x _).trans ?_
  have sh := shifted_up 16384 s.val s.isLt f
  simp only [hf] at sh
  rw [← sh]
  refine (sum_idx2 (n0 := 1) (n1 := 16384) _).trans ?_
  refine (Fin.sum_univ_one _).trans ?_
  refine Finset.sum_congr rfl fun k _ => ?_
  have hk := k.isLt
  have hs := s.isLt
  by_cases hk : 16384 - 1 ≤ s.val + k.val
  · have hin : ∀ a : Fin 2, ![0, 16383] a ≤ ((ix2 r s (a.cast h.1.symm)).val * ![1, 1] a + (ix2 (0 : Fin 1) k a).val) ∧
        ((ix2 r s (a.cast h.1.symm)).val * ![1, 1] a + (ix2 (0 : Fin 1) k a).val) - ![0, 16383] a < (⟨2, ![8, 16384]⟩ : Shape).size a := by
      intro a
      fin_cases a
      · refine ⟨Nat.zero_le _, ?_⟩; show r.val * 1 + 0 - 0 < 8; omega
      · refine ⟨?_, ?_⟩
        · show 16383 ≤ s.val * 1 + k.val; omega
        · show s.val * 1 + k.val - 16383 < 16384; omega
    refine (dif_pos hin).trans ?_
    refine Eq.trans ?_ (if_pos hk).symm
    refine Eq.trans ?_ (dif_pos (by omega)).symm
    refine congrArg x (funext fun a => Fin.ext ?_)
    fin_cases a
    · show r.val * 1 + 0 - 0 = r.val; omega
    · show s.val * 1 + k.val - 16383 = s.val + k.val - (16384 - 1); omega
  · refine Eq.trans (dif_neg fun hin => hk ?_) (if_neg hk).symm
    have := (hin 1).1
    have h2 : 16383 ≤ s.val * 1 + k.val := this
    omega

theorem soft_at (x : Rows) (i : S8x16384.Idx) (u : EReal) (hu : x i = u) : soft x i = softv u := by
  unfold soft z0
  pointwise
  rw [if_neg (by simp), hu]
  rfl

theorem cum_at (k : Rows) (r : Fin 8) (s : Fin 16384) :
    cum k (ix2 r s) = ∑ n : Fin 16384, if n.val ≤ s.val then k (ix2 r n) else 0 := by
  refine (Ref.window_init _ _ _ _ _ k _ _ ?_).trans (cum_win reduceWindows_S8x16384_S8x16384_w1s1p0_0_w16384s1p16383_0 k r s)
  exact Ref.lit_0

/-- The reference at an element: a row's sum of negated softpluses. -/
theorem res_at (g : FVec Ideal S16384x128 .f32) (b : FVec Ideal S4 .f32) (r : Fin 8) (s : Fin 16384) :
    res g b (ix2 r s) = ∑ n : Fin 16384, if n.val ≤ s.val then kpv (-(xx g b (ix2 r n))) else 0 := by
  unfold res
  rw [cum_at]
  refine Finset.sum_congr rfl fun n _ => ?_
  refine congrArg (fun z => if n.val ≤ s.val then z else 0) ?_
  show -(soft (Host.negf (xx g b)) (ix2 r n)) = _
  rw [soft_at _ _ (-(xx g b (ix2 r n))) rfl]
  rfl

theorem xx_top (g : FVec Ideal S16384x128 .f32) (b : FVec Ideal S4 .f32) (r : Fin 8) (hr : r.val < 4) (s : Fin 16384) :
    xx g b (ix2 r s) = g (ix2 s ⟨12 + r.val, by omega⟩) + b (ix1 ⟨r.val, hr⟩) := by
  unfold xx
  refine (concatenate_apply _ _ _ _ _).trans ?_
  refine (Cat.here _ _ hr _ (ix2 ⟨r.val, hr⟩ s : S4x16384.Idx) (fun b => by fin_cases b <;> rfl)).trans ?_
  pointwise

theorem xx_bottom (g : FVec Ideal S16384x128 .f32) (b : FVec Ideal S4 .f32) (r : Fin 8) (hr : 4 ≤ r.val) (s : Fin 16384) :
    xx g b (ix2 r s) = 0 := by
  unfold xx
  refine (concatenate_apply _ _ _ _ _).trans ?_
  refine (Cat.skip _ _ 4 (r.val - 4) rfl (by show r.val = _; omega) _).trans ?_
  refine (Cat.here _ _ (by show r.val - 4 < 4; omega) _ (ix2 ⟨r.val - 4, by omega⟩ s : S4x16384.Idx) (fun b => by fin_cases b <;> rfl)).trans ?_
  pointwise

end Cert.Proof.LcR

end
-- ==== Proof.Lc4.lean ====
/-
  The cumulative sum of the forget gates' logarithms, the value claim: the call's result array is the reference's.
-/
module

public import proofs.«01_k».proof.Proof.Lc2
public import proofs.«01_k».proof.Proof.Lc3

@[expose] public section

set_option maxRecDepth 16384

noncomputable section

namespace Cert.Proof.Lc
open Idealize.ShloMosaic Idealize.ShloMosaic.TcCoe
open Cert.Kernel5Ideal Cert.Kernel5Ideal.Gen
open Cert.Proof.Sb

variable (m : (ℓ : Loc nD τ sig) → Buf (Elt Ideal) ℓ)

theorem rows_top (g : FVec Ideal S16384x128 .f32) (r : Fin 8) (hr : r.val < 4) (s : Fin 16384) :
    rows g (ix2 r s) = g (ix2 s ⟨12 + r.val, by omega⟩) := by
  unfold rows
  refine (concatenate_apply _ _ _ _ _).trans ?_
  refine (Cat.here _ _ hr _ (ix2 ⟨r.val, hr⟩ s : S4x16384.Idx) (fun b => by fin_cases b <;> rfl)).trans ?_
  pointwise

theorem rows_bottom (g : FVec Ideal S16384x128 .f32) (r : Fin 8) (hr : 4 ≤ r.val) (s : Fin 16384) : rows g (ix2 r s) = 0 := by
  unfold rows
  refine (concatenate_apply _ _ _ _ _).trans ?_
  refine (Cat.skip _ _ 4 (r.val - 4) rfl (by show r.val = _; omega) _).trans ?_
  refine (Cat.here _ _ (by show r.val - 4 < 4; omega) _ (ix2 ⟨r.val - 4, by omega⟩ s : S4x16384.Idx) (fun b => by fin_cases b <;> rfl)).trans ?_
  pointwise

theorem biases_top (b : FVec Ideal S4 .f32) (r : Fin 8) (hr : r.val < 4) : biases b (ix1 r) = b (ix1 ⟨r.val, hr⟩) := by
  unfold biases
  refine (concatenate_apply _ _ _ _ _).trans ?_
  refine (Cat.here _ _ hr _ (ix1 ⟨r.val, hr⟩ : S4.Idx) (fun b => by fin_cases b; rfl)).trans ?_
  rfl

theorem biases_bottom (b : FVec Ideal S4 .f32) (r : Fin 8) (hr : 4 ≤ r.val) : biases b (ix1 r) = 0 := by
  unfold biases
  refine (concatenate_apply _ _ _ _ _).trans ?_
  refine (Cat.skip _ _ 4 (r.val - 4) rfl (by show r.val = _; omega) _).trans ?_
  refine (Cat.here _ _ (by show r.val - 4 < 4; omega) _ (ix1 ⟨r.val - 4, by omega⟩ : S4.Idx) (fun b => by fin_cases b; rfl)).trans ?_
  pointwise

/-- The call adds the bias to a row of gates where the reference adds it to their column. -/
theorem sum_eq (g : FVec Ideal S16384x128 .f32) (b : FVec Ideal S4 .f32) (r : Fin 8) (s : Fin 16384) :
    rows g (ix2 r s) + biases b (ix1 r) = LcR.xx g b (ix2 r s) := by
  by_cases hr : r.val < 4
  · rw [rows_top g r hr, biases_top b r hr, LcR.xx_top g b r hr]
  · rw [rows_bottom g r (by omega), biases_bottom b r (by omega), LcR.xx_bottom g b r (by omega), add_zero]

/-- A row's sum up to a column, in either spelling. -/
theorem res_sum (c : Dev nD) (r : Fin 8) (s : Fin 16384) :
    ∑ n ∈ Finset.range (s.val + 1), term m c r n
      = LcR.res (m ((c : Thread nD τ).loc main_arg0)) (m ((c : Thread nD τ).loc main_arg1)) (ix2 r s) := by
  refine Eq.trans ?_ (LcR.res_at _ _ r s).symm
  have h := part (term m c r) 16384 0 s.val s.isLt
  simp only [Nat.zero_add] at h
  rw [← h]
  refine Finset.sum_congr rfl fun n _ => congrArg (fun z => if n.val ≤ s.val then z else 0) ?_
  unfold term
  rw [dif_pos n.isLt, lk_eq, sum_eq]

/-- The call's result array is the reference's term of the same arguments. -/
theorem final (c : Dev nD) :
    (dats m 0 c).arrAt 3 cfg0.N = LcR.res (m ((c : Thread nD τ).loc main_arg0)) (m ((c : Thread nD τ).loc main_arg1)) := by
  refine (dats m 0 c).arrAt_eq_of_covers 3 _ (by decide +kernel) fun t _ y => ?_
  blk_simp
  rw [after0_3]
  have hy : (y 1).val < 512 := (y 1).isLt
  have hp := (point_sum m c (y 0) t.val t.isLt).1 (y 1)
  have hr := res_sum m c (y 0) ⟨512 * t.val + (y 1).val, col_lt t (y 1)⟩
  refine Eq.trans (congrArg _ (eq_ix2 (show S8x512.Idx from y))) ((hp.trans hr).trans (congrArg (LcR.res _ _) ?_))
  blk_ext [idx t]

end Cert.Proof.Lc

end
-- ==== Proof.Claims5.lean ====
/-
  The cumulative sum of the forget gates' logarithms: the frames, the idealization's ledger and the value claim.
-/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Lc4
public import Idealize.ShloMosaic.Adequacy
public import Idealize.ShloMosaic.Init

@[expose] public section

set_option maxRecDepth 16384

noncomputable section

namespace Cert.Proof

open Idealize.ShloMosaic Idealize.SL.Sem

/-- The cumulative sum's call runs, keeps its arguments and ends with every counter at zero. -/
theorem frame_k5 : Cert.quiescent_Kernel5 (hKernel5 := Cert.Kernel5.Gen.facts) := fun m ρ _ => Cert.Kernel5.Gen.frame m ρ

/-- So does its idealization. -/
theorem frame_ki5 : Cert.quiescent_Kernel5Ideal (hKernel5Ideal := Cert.Kernel5Ideal.Gen.facts) := fun m ρ _ => Cert.Kernel5Ideal.Gen.frame m ρ

/-- So does the reference. -/
theorem frame_ri5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- No operation of the cumulative sum's call is rewritten. -/
theorem preserves_k5 : Cert.preserves_Kernel5_Kernel5Ideal := trivial

/-- The call's result, every element of it, is the reference's cumulative sum of the logarithms of the forget gates, in
    exact arithmetic and for any arguments. -/
theorem algebraic_k5 : Cert.algebraic_Kernel5Ideal_Reference5Ideal (hKernel5Ideal := Cert.Kernel5Ideal.Gen.facts)
    (hReference5Ideal := Cert.Reference5Ideal.Gen.facts) := by
  intro m g m' g' _ agree
  refine ⟨fun c => (Cert.Kernel5Ideal.Gen.dats m 0 c).arrAt 3 (Cert.Kernel5Ideal.cfgs 0).N, Cert.Kernel5Ideal.Value.run_blocks m g,
    (θ_run Cert.Reference5Ideal.defs _ _).mono (fun r h c => ⟨(h c).1.trans ?_, (h c).2⟩) (Cert.Reference5Ideal.Value.run (F := Ideal) m' g')⟩
  obtain ⟨e0, e1⟩ := agree c
  rw [e0, e1]
  exact (Lc.final m c).symm

end Cert.Proof

end
-- ==== Proof.SbEnt.lean ====
/-
  Stick-breaking attention, the idealized program: the call's operands, as entries of the argument.
-/
module

public import proofs.«01_k».proof.Proof.Sb3
public import proofs.«01_k».proof.Proof.KIRun
public import proofs.«01_k».proof.Proof.SbCat
public import Idealize.ShloMosaic.Lib.Claim
public import Idealize.ShloMosaic.Lib.StableHlo.RunRead

@[expose] public section

set_option maxRecDepth 16384

noncomputable section

namespace Cert.Proof.KI

open Cert.KernelIdeal Cert.KernelIdeal.Gen
open Idealize.ShloMosaic Idealize.ShloMosaic.TcCoe
open Cert.Proof.Sb

variable (m : (ℓ : Loc nD τ sig) → Buf (Elt Ideal) ℓ)

/-- The argument's entry. -/
def ent (c : Dev nD) (s : Fin 16384) (j : Fin 2960) : EReal := m ((c : Thread nD τ).loc main_arg0) (ix2 s j)

/-- The triangle. -/
theorem tri_entry (c : Dev nD) (b b' : Fin 256) : V m c main_v38 (ix2 b' b) = (if b.val < b'.val then 1 else 0 : EReal) := by
  entry_read
  pointwise
  rw [WordCmp.cmpi_sgt_ofNat (by omega) (by omega), ofBool_ite, select_ite]

/-- The arrays before the concatenation. -/
def pre (c : Dev nD) (r : Ref sig .tc) : r.ty.Contents (Elt Ideal) := StableHlo.upto (hostOps0 (F := Ideal)) (fun b => m (c, b)) 30 (Proc.devRef .tc r)

/-- The call's operand: the pieces side by side. -/
theorem cat_eq (c : Dev nD) (i : S16384x2944.Idx) :
    V m c main_v27 i = concatenate S16384x2944 1 [⟨S16384x256, pre m c main_v19⟩, ⟨S16384x64, pre m c main_v1⟩, ⟨S16384x64, pre m c main_v2⟩, ⟨S16384x64, pre m c main_v3⟩, ⟨S16384x64, pre m c main_v4⟩, ⟨S16384x64, pre m c main_v5⟩, ⟨S16384x64, pre m c main_v6⟩, ⟨S16384x256, pre m c main_v21⟩, ⟨S16384x256, pre m c main_v9⟩, ⟨S16384x256, pre m c main_v10⟩, ⟨S16384x256, pre m c main_v23⟩, ⟨S16384x256, pre m c main_v12⟩, ⟨S16384x256, pre m c main_v13⟩, ⟨S16384x256, pre m c main_v25⟩, ⟨S16384x256, pre m c main_v16⟩, ⟨S16384x256, pre m c main_v17⟩] concatenates_S16384x256_S16384x64_S16384x64_S16384x64_S16384x64_S16384x64_S16384x64_S16384x256_S16384x256_S16384x256_S16384x256_S16384x256_S16384x256_S16384x256_S16384x256_S16384x256_S16384x2944_d1 i := by
  refine (congrFun (StableHlo.after_last_write (ops := hostOps0 (F := Ideal)) (i := 31) (r := main_v27) [main_v28, main_v29, main_v30, main_v31, main_v32, main_v33, main_v34, main_cst_3, main_v35, main_cst_4, main_v36, main_v37, main_v38] rfl rfl (by decide) _) i).trans ?_
  refine (congrFun (StableHlo.unary_result' (x := main_v26) (y := main_v27) _ _ _ _) i).trans ?_
  refine (congrFun (StableHlo.upto_last_write (ops := hostOps0 (F := Ideal)) (n := 31) (i := 30) (r := main_v26) [] rfl rfl (by decide) _) i).trans ?_
  refine (congrFun (StableHlo.nary_result' (y := main_v26) _ _ _ _ _) i).trans ?_
  rfl

theorem pre_25 (c : Dev nD) (s : Fin 16384) (j : Fin 256) :
    pre m c main_v25 (ix2 s j) = ent m c s ⟨2192 + j.val, by omega⟩ * Ideal.ofBits .f32 0x3E000000#32 := by
  unfold pre ent
  after_reads_simp
  pointwise

theorem pre_16 (c : Dev nD) (s : Fin 16384) (j : Fin 256) : pre m c main_v16 (ix2 s j) = ent m c s ⟨2448 + j.val, by omega⟩ := by
  unfold pre ent
  after_reads_simp
  pointwise

theorem pre_17 (c : Dev nD) (s : Fin 16384) (j : Fin 256) : pre m c main_v17 (ix2 s j) = ent m c s ⟨2704 + j.val, by omega⟩ := by
  unfold pre ent
  after_reads_simp
  pointwise

/-- The scaled queries' columns of the call's operand. -/
theorem q_entry (c : Dev nD) (s : Fin 16384) (j : Fin 256) :
    V m c main_v27 (ix2 s ⟨2176 + j.val, by omega⟩) = ent m c s ⟨2192 + j.val, by omega⟩ * Ideal.ofBits .f32 0x3E000000#32 := by
  refine (cat_eq m c _).trans ?_
  refine (concatenate_apply _ _ _ _ _).trans ?_
  refine (Cat.skip _ _ 256 (1920 + j.val) rfl (by show 2176 + j.val = _; omega) _).trans ?_
  refine (Cat.skip _ _ 64 (1856 + j.val) rfl (by show 1920 + j.val = _; omega) _).trans ?_
  refine (Cat.skip _ _ 64 (1792 + j.val) rfl (by show 1856 + j.val = _; omega) _).trans ?_
  refine (Cat.skip _ _ 64 (1728 + j.val) rfl (by show 1792 + j.val = _; omega) _).trans ?_
  refine (Cat.skip _ _ 64 (1664 + j.val) rfl (by show 1728 + j.val = _; omega) _).trans ?_
  refine (Cat.skip _ _ 64 (1600 + j.val) rfl (by show 1664 + j.val = _; omega) _).trans ?_
  refine (Cat.skip _ _ 64 (1536 + j.val) rfl (by show 1600 + j.val = _; omega) _).trans ?_
  refine (Cat.skip _ _ 256 (1280 + j.val) rfl (by show 1536 + j.val = _; omega) _).trans ?_
  refine (Cat.skip _ _ 256 (1024 + j.val) rfl (by show 1280 + j.val = _; omega) _).trans ?_
  refine (Cat.skip _ _ 256 (768 + j.val) rfl (by show 1024 + j.val = _; omega) _).trans ?_
  refine (Cat.skip _ _ 256 (512 + j.val) rfl (by show 768 + j.val = _; omega) _).trans ?_
  refine (Cat.skip _ _ 256 (256 + j.val) rfl (by show 512 + j.val = _; omega) _).trans ?_
  refine (Cat.skip _ _ 256 (j.val) rfl (by show 256 + j.val = _; omega) _).trans ?_
  refine (Cat.here _ _ (by show j.val < 256; omega) _ (ix2 s j) (fun b => by fin_cases b <;> rfl)).trans ?_
  exact pre_25 m c s j

/-- The keys' columns. -/
theorem k_entry (c : Dev nD) (s : Fin 16384) (j : Fin 256) :
    V m c main_v27 (ix2 s ⟨2432 + j.val, by omega⟩) = ent m c s ⟨2448 + j.val, by omega⟩ := by
  refine (cat_eq m c _).trans ?_
  refine (concatenate_apply _ _ _ _ _).trans ?_
  refine (Cat.skip _ _ 256 (2176 + j.val) rfl (by show 2432 + j.val = _; omega) _).trans ?_
  refine (Cat.skip _ _ 64 (2112 + j.val) rfl (by show 2176 + j.val = _; omega) _).trans ?_
  refine (Cat.skip _ _ 64 (2048 + j.val) rfl (by show 2112 + j.val = _; omega) _).trans ?_
  refine (Cat.skip _ _ 64 (1984 + j.val) rfl (by show 2048 + j.val = _; omega) _).trans ?_
  refine (Cat.skip _ _ 64 (1920 + j.val) rfl (by show 1984 + j.val = _; omega) _).trans ?_
  refine (Cat.skip _ _ 64 (1856 + j.val) rfl (by show 1920 + j.val = _; omega) _).trans ?_
  refine (Cat.skip _ _ 64 (1792 + j.val) rfl (by show 1856 + j.val = _; omega) _).trans ?_
  refine (Cat.skip _ _ 256 (1536 + j.val) rfl (by show 1792 + j.val = _; omega) _).trans ?_
  refine (Cat.skip _ _ 256 (1280 + j.val) rfl (by show 1536 + j.val = _; omega) _).trans ?_
  refine (Cat.skip _ _ 256 (1024 + j.val) rfl (by show 1280 + j.val = _; omega) _).trans ?_
  refine (Cat.skip _ _ 256 (768 + j.val) rfl (by show 1024 + j.val = _; omega) _).trans ?_
  refine (Cat.skip _ _ 256 (512 + j.val) rfl (by show 768 + j.val = _; omega) _).trans ?_
  refine (Cat.skip _ _ 256 (256 + j.val) rfl (by show 512 + j.val = _; omega) _).trans ?_
  refine (Cat.skip _ _ 256 (j.val) rfl (by show 256 + j.val = _; omega) _).trans ?_
  refine (Cat.here _ _ (by show j.val < 256; omega) _ (ix2 s j) (fun b => by fin_cases b <;> rfl)).trans ?_
  exact pre_16 m c s j

/-- The values' columns. -/
theorem v_entry (c : Dev nD) (s : Fin 16384) (j : Fin 256) :
    V m c main_v27 (ix2 s ⟨2688 + j.val, by omega⟩) = ent m c s ⟨2704 + j.val, by omega⟩ := by
  refine (cat_eq m c _).trans ?_
  refine (concatenate_apply _ _ _ _ _).trans ?_
  refine (Cat.skip _ _ 256 (2432 + j.val) rfl (by show 2688 + j.val = _; omega) _).trans ?_
  refine (Cat.skip _ _ 64 (2368 + j.val) rfl (by show 2432 + j.val = _; omega) _).trans ?_
  refine (Cat.skip _ _ 64 (2304 + j.val) rfl (by show 2368 + j.val = _; omega) _).trans ?_
  refine (Cat.skip _ _ 64 (2240 + j.val) rfl (by show 2304 + j.val = _; omega) _).trans ?_
  refine (Cat.skip _ _ 64 (2176 + j.val) rfl (by show 2240 + j.val = _; omega) _).trans ?_
  refine (Cat.skip _ _ 64 (2112 + j.val) rfl (by show 2176 + j.val = _; omega) _).trans ?_
  refine (Cat.skip _ _ 64 (2048 + j.val) rfl (by show 2112 + j.val = _; omega) _).trans ?_
  refine (Cat.skip _ _ 256 (1792 + j.val) rfl (by show 2048 + j.val = _; omega) _).trans ?_
  refine (Cat.skip _ _ 256 (1536 + j.val) rfl (by show 1792 + j.val = _; omega) _).trans ?_
  refine (Cat.skip _ _ 256 (1280 + j.val) rfl (by show 1536 + j.val = _; omega) _).trans ?_
  refine (Cat.skip _ _ 256 (1024 + j.val) rfl (by show 1280 + j.val = _; omega) _).trans ?_
  refine (Cat.skip _ _ 256 (768 + j.val) rfl (by show 1024 + j.val = _; omega) _).trans ?_
  refine (Cat.skip _ _ 256 (512 + j.val) rfl (by show 768 + j.val = _; omega) _).trans ?_
  refine (Cat.skip _ _ 256 (256 + j.val) rfl (by show 512 + j.val = _; omega) _).trans ?_
  refine (Cat.skip _ _ 256 (j.val) rfl (by show 256 + j.val = _; omega) _).trans ?_
  refine (Cat.here _ _ (by show j.val < 256; omega) _ (ix2 s j) (fun b => by fin_cases b <;> rfl)).trans ?_
  exact pre_17 m c s j

end Cert.Proof.KI

end
-- ==== Proof.Sb4.lean ====
/-
  Stick-breaking attention, the idealized program: the blocks a grid point reads, as entries of the argument.
-/
module

public import proofs.«01_k».proof.Proof.Sb3
public import proofs.«01_k».proof.Proof.KIRun
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe
open Cert.Proof.Sb

variable (m : (ℓ : Loc nD τ sig) → Buf (Elt Ideal) ℓ)

theorem index0 : ∀ t : Fin grid0.N, win0_0.index t 0 = (grid0.coords t 1).val ∧ win0_0.index t 1 = 17 + (grid0.coords t 0).val := by decide +kernel
theorem index1 : ∀ t : Fin grid0.N, win0_1.index t 0 = 0 ∧ win0_1.index t 1 = 19 + (grid0.coords t 0).val := by decide +kernel
theorem index2 : ∀ t : Fin grid0.N, win0_2.index t 0 = 0 ∧ win0_2.index t 1 = 21 + (grid0.coords t 0).val := by decide +kernel
theorem index3 : ∀ t : Fin grid0.N, win0_3.index t 0 = 0 ∧ win0_3.index t 1 = 0 := by decide +kernel
theorem index4 : ∀ t : Fin grid0.N, win0_4.index t 0 = (grid0.coords t 1).val ∧ win0_4.index t 1 = (grid0.coords t 0).val := by decide +kernel

/-- The pair of heads of a grid point. -/
def pair (t : Fin (cfg0 (F := Ideal)).N) : Fin 2 := grid0.coords t 0

theorem blk0_at (c : Dev nD) (t : Fin (cfg0 (F := Ideal)).N) (a : Fin 512) (l : Fin 128) :
    blk m c 0 t (ix2 a l) = V m c main_v27 (ix2 (row (grid0.coords t) a) ⟨2176 + (at128 (pair t) l).val, by omega⟩) := by
  have i0 := index0 t
  blk_point [blk]
  · rw [i0.1]; show (grid0.coords t 1).val * 512 + a.val = 512 * (grid0.coords t 1).val + a.val; omega
  · rw [i0.2]; show (17 + (pair t).val) * 128 + l.val = 2176 + (128 * (pair t).val + l.val); omega

theorem blk1_at (c : Dev nD) (t : Fin (cfg0 (F := Ideal)).N) (s : Fin 16384) (l : Fin 128) :
    blk m c 1 t (ix2 s l) = V m c main_v27 (ix2 s ⟨2432 + (at128 (pair t) l).val, by omega⟩) := by
  have i0 := index1 t
  blk_point [blk]
  all_goals first | (rw [i0.2]; show (19 + (pair t).val) * 128 + l.val = 2432 + (128 * (pair t).val + l.val); omega) | (rw [i0.1]; omega)

theorem blk2_at (c : Dev nD) (t : Fin (cfg0 (F := Ideal)).N) (s : Fin 16384) (l : Fin 128) :
    blk m c 2 t (ix2 s l) = V m c main_v27 (ix2 s ⟨2688 + (at128 (pair t) l).val, by omega⟩) := by
  have i0 := index2 t
  blk_point [blk]
  all_goals first | (rw [i0.2]; show (21 + (pair t).val) * 128 + l.val = 2688 + (128 * (pair t).val + l.val); omega) | (rw [i0.1]; omega)

theorem blk3_at (c : Dev nD) (t : Fin (cfg0 (F := Ideal)).N) (b' b : Fin 256) :
    blk m c 3 t (ix2 b' b) = V m c main_v38 (ix2 b' b) := by
  have i0 := index3 t
  blk_point [blk]
  all_goals first | (rw [i0.2]; omega) | (rw [i0.1]; omega)

end Cert.Proof.KI

end
-- ==== Proof.SbFin.lean ====
/-
  Stick-breaking attention, the value claim: the kernel's result array is the reference's.
-/
module

public import proofs.«01_k».proof.Defs
public import proofs.«01_k».proof.Proof.Claims1
public import proofs.«01_k».proof.Proof.SbEnt
public import proofs.«01_k».proof.Proof.Sb4
public import proofs.«01_k».proof.Proof.SbRef
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe
open Cert.Proof.Sb

variable (m : (ℓ : Loc nD τ sig) → Buf (Elt Ideal) ℓ)

theorem tri_blk (c : Dev nD) (t : Fin (cfg0 (F := Ideal)).N) : Tri (blk m c 3 t) := by
  intro b b'
  refine Eq.trans ?_ (tri_entry m c b b')
  exact blk3_at m c t b' b

/-- Lane by lane, what a grid point stores. -/
theorem stored_at (c : Dev nD) (Y : Fin 16384 → Fin 2960 → EReal) (hY : ∀ s j, ent m c s j = Y s j)
    (t : Fin (cfg0 (F := Ideal)).N) (a : Fin 512) (p : Fin 2) (d : Fin 64) :
    stored m c t (ix2 a (lane p d))
      = nrm (fun x => ∑ s, wt (score (fun s j => Y s ⟨2192 + j.val, by omega⟩) (fun s j => Y s ⟨2448 + j.val, by omega⟩) (pair t) p) (row (grid0.coords t) a) s
          * Y s ⟨2704 + (col (pair t) p x).val, by omega⟩) d := by
  refine sbOut_at (grid0.coords t) (pair t) (fun s j => Y s ⟨2192 + j.val, by omega⟩) (fun s j => Y s ⟨2448 + j.val, by omega⟩)
    (fun s j => Y s ⟨2704 + j.val, by omega⟩) _ _ _ _ (tri_blk m c t) (fun a l => ?_) (fun s l => ?_) (fun s l => ?_) a p d
  · rw [blk0_at, q_entry, hY, Ref.lit_8th]
  · rw [blk1_at, k_entry, hY]
  · rw [blk2_at, v_entry, hY]

/-- The kernel's result array is the reference's term of the same argument. -/
theorem final (c : Dev nD) (y : FVec Ideal S16384x2960 .f32) (hy : m ((c : Thread nD τ).loc main_arg0) = y) :
    (dats m 0 c).arrAt 4 (cfg0 (F := Ideal)).N = Ref.fin (Ref.oo (Ref.ww (Ref.zz (Ref.qh y) (Ref.kh y))) (Ref.vh y)) := by
  have hE : ∀ s j, ent m c s j = y (ix2 s j) := fun s j => by rw [← hy]; rfl
  have hr := Ref.ref_at y (fun s j => y (ix2 s ⟨2192 + j.val, by omega⟩)) (fun s j => y (ix2 s ⟨2448 + j.val, by omega⟩))
    (fun s j => y (ix2 s ⟨2704 + j.val, by omega⟩)) (fun s j => rfl) (fun s j => rfl) (fun s j => rfl)
  generalize Ref.fin _ = R at hr ⊢
  refine (dats m 0 c).arrAt_eq_of_covers 4 _ (by decide +kernel) fun t _ z => ?_
  blk_simp
  rw [after_4]
  frame_out
  have i4 := index4 t
  obtain ⟨a, l, rfl⟩ : ∃ (a : Fin 512) (l : Fin 128), z = ix2 a l := ⟨z 0, z 1, eq_ix2 (show S512x128.Idx from z)⟩
  obtain ⟨p, d, rfl⟩ : ∃ (p : Fin 2) (d : Fin 64), l = lane p d :=
    ⟨⟨l.val / 64, by omega⟩, ⟨l.val % 64, by omega⟩, Fin.ext (by show l.val = 64 * (l.val / 64) + l.val % 64; omega)⟩
  refine (stored_at m c (fun s j => y (ix2 s j)) hE t a p d).trans ((hr (pair t) p (row (grid0.coords t) a) d).symm.trans ?_)
  refine Eq.symm ?_
  blk_ext [i4]
  · show (grid0.coords t 1).val * 512 + a.val = 512 * (grid0.coords t 1).val + a.val; omega
  · show (pair t).val * 128 + (lane p d).val = 128 * (pair t).val + (lane p d).val; omega

end Cert.Proof.KI

namespace Cert.Proof

open Idealize.ShloMosaic Idealize.SL.Sem

/-- The idealized stick-breaking kernel computes the reference's result, of every argument. -/
theorem algebraic_k : Cert.algebraic_KernelIdeal_ReferenceIdeal (hKernelIdeal := Cert.KernelIdeal.Gen.facts)
    (hReferenceIdeal := Cert.ReferenceIdeal.Gen.facts) := by
  intro m g m' g' _ agree
  refine ⟨fun c => (KI.dats m 0 c).arrAt 4 (Cert.KernelIdeal.cfg0 (F := Ideal)).N, KI.run_result m g,
    (θ_run Cert.ReferenceIdeal.defs _ _).mono (fun r h c => ⟨(h c).1.trans ?_, (h c).2⟩) (Cert.ReferenceIdeal.Value.run (F := Ideal) m' g')⟩
  exact (Ref.res_eq m' c _ (agree c)).trans (KI.final m c _ rfl).symm

end Cert.Proof

end
-- ==== Proof.FxSums.lean ====
/-
  Forgetting attention, the mathematics of one row: a softmax built tile by tile from a running maximum, a running sum
  and an accumulator, all three rescaled whenever the maximum grows, ends at the plain quotient of two sums. Scores and values
  may be infinite: a row with a score of plus infinity, or with none above minus infinity, sums to nothing.
-/
module

public import proofs.«01_k».proof.Proof.Sb3

@[expose] public section

noncomputable section

namespace Cert.Proof.Fx

open Idealize.ShloMosaic

/-- The sum over the keys of tile `J` and of the later ones, tiles of 512 keys. -/
def tail {M : Type} [AddCommMonoid M] (J : ℕ) (f : Fin 16384 → M) : M := ∑ s ∈ Finset.univ.filter (fun s : Fin 16384 => 512 * J ≤ s.val), f s

theorem tail_zero {M : Type} [AddCommMonoid M] (f : Fin 16384 → M) : tail 0 f = ∑ s, f s := by
  unfold tail
  rw [Finset.filter_true_of_mem (fun s _ => by omega)]

theorem tail_none {M : Type} [AddCommMonoid M] (J : ℕ) (f : Fin 16384 → M) (h : ∀ s : Fin 16384, 512 * J ≤ s.val → f s = 0) : tail J f = 0 :=
  Finset.sum_eq_zero fun s hs => h s (Finset.mem_filter.mp hs).2

/-- Key `b` of tile `J`. -/
def key {J : ℕ} (hJ : J < 32) (b : Fin 512) : Fin 16384 := ⟨512 * J + b.val, by omega⟩

theorem tail_step {M : Type} [AddCommMonoid M] {J : ℕ} (hJ : J < 32) (f : Fin 16384 → M) : tail J f = tail (J + 1) f + ∑ b, f (key hJ b) := by
  unfold tail
  rw [← Finset.sum_filter_add_sum_filter_not (Finset.univ.filter fun s : Fin 16384 => 512 * J ≤ s.val) (fun s => 512 * (J + 1) ≤ s.val)]
  refine congrArg₂ (· + ·) ?_ ?_
  · refine Finset.sum_congr (Finset.ext fun s => ?_) fun _ _ => rfl
    simp only [Finset.mem_filter, Finset.mem_univ, true_and]
    omega
  · refine Finset.sum_bij' (fun s _ => (⟨s.val % 512, Nat.mod_lt _ (by norm_num)⟩ : Fin 512)) (fun b _ => key hJ b) ?_ ?_ ?_ ?_ ?_
    · intro s _; exact Finset.mem_univ _
    · intro b _
      simp only [Finset.mem_filter, Finset.mem_univ, true_and, key]
      omega
    · intro s hs
      simp only [Finset.mem_filter, Finset.mem_univ, true_and] at hs
      refine Fin.ext ?_
      show 512 * J + s.val % 512 = s.val
      omega
    · intro b _
      refine Fin.ext ?_
      show (512 * J + b.val) % 512 = b.val
      omega
    · intro s hs
      simp only [Finset.mem_filter, Finset.mem_univ, true_and] at hs
      refine congrArg f (Fin.ext ?_)
      show s.val = 512 * J + s.val % 512
      omega

/-- The weight a score stands for: its exponential, and nothing at an infinite score. -/
def wgt (s : EReal) : ℝ := (Ideal.exp s).toReal

theorem wgt_bot : wgt ⊥ = 0 := EReal.toReal_zero
theorem wgt_coe (x : ℝ) : wgt x = Real.exp x := EReal.toReal_coe _

theorem wgt_nonneg (s : EReal) : 0 ≤ wgt s := by
  induction s using EReal.rec with
  | bot => rw [wgt_bot]
  | coe x => rw [wgt_coe]; exact (Real.exp_pos _).le
  | top => exact le_of_eq EReal.toReal_top.symm

theorem wgt_pos {s : EReal} (h : s ≠ ⊥) (h' : s ≠ ⊤) : 0 < wgt s := by
  induction s using EReal.rec with
  | bot => exact absurd rfl h
  | coe x => rw [wgt_coe]; exact Real.exp_pos _
  | top => exact absurd rfl h'

/-- Below a real maximum the exponential is the weight, scaled. -/
theorem exp_wgt {s : EReal} (h : s ≠ ⊤) (κ μ : ℝ) : Ideal.exp (s + κ - (μ : EReal)) = ((Real.exp (κ - μ) * wgt s : ℝ) : EReal) := by
  induction s using EReal.rec with
  | bot => rw [EReal.bot_add, EReal.bot_sub, wgt_bot, mul_zero]; rfl
  | coe x =>
    rw [wgt_coe, ← EReal.coe_add, ← EReal.coe_sub, Ideal.exp_coe, ← Real.exp_add]
    refine congrArg (fun t : ℝ => ((Real.exp t : ℝ) : EReal)) ?_
    ring
  | top => exact absurd rfl h

theorem exp_wgt' {s : EReal} (h : s ≠ ⊤) (μ : ℝ) : Ideal.exp (s - (μ : EReal)) = ((Real.exp (0 - μ) * wgt s : ℝ) : EReal) := by
  have e := exp_wgt h 0 μ
  rwa [EReal.coe_zero, add_zero] at e

theorem exp_top (s : EReal) : Ideal.exp (s - ⊤) = 0 := by rw [EReal.sub_top]; rfl
theorem exp_bot : Ideal.exp ((⊥ : EReal) - ⊥) = 0 := by rw [EReal.bot_sub]; rfl

/-- The maximum of values none of which is plus infinity and one of which is above minus infinity, is real. -/
theorem max_real {ι : Type} [Fintype ι] (m : EReal) (hm : m ≠ ⊤) (s : ι → EReal) (ht : ∀ b, s b ≠ ⊤) (hs : m ≠ ⊥ ∨ ∃ b, s b ≠ ⊥) :
    ∃ μ : ℝ, max m (Finset.fold max ⊥ s Finset.univ) = μ := by
  have h1 : max m (Finset.fold max ⊥ s Finset.univ) ≠ ⊤ :=
    ne_of_lt (max_lt (lt_top_iff_ne_top.mpr hm) ((Finset.fold_max_lt _).mpr ⟨bot_lt_top, fun b _ => lt_top_iff_ne_top.mpr (ht b)⟩))
  have h2 : max m (Finset.fold max ⊥ s Finset.univ) ≠ ⊥ := by
    refine (ne_of_lt ?_).symm
    rcases hs with h | ⟨b, hb⟩
    · exact lt_max_of_lt_left (bot_lt_iff_ne_bot.mpr h)
    · exact lt_max_of_lt_right ((Finset.lt_fold_max _).mpr (Or.inr ⟨b, Finset.mem_univ b, bot_lt_iff_ne_bot.mpr hb⟩))
  exact ⟨_, (EReal.coe_toReal h1 h2).symm⟩

theorem max_top {ι : Type} [Fintype ι] (m : EReal) (s : ι → EReal) (h : m = ⊤ ∨ ∃ b, s b = ⊤) : max m (Finset.fold max ⊥ s Finset.univ) = ⊤ := by
  rcases h with rfl | ⟨b, hb⟩
  · exact max_eq_left le_top
  · exact top_le_iff.mp (le_max_of_le_right ((Finset.le_fold_max ⊤).mpr (Or.inr ⟨b, Finset.mem_univ b, hb.ge⟩)))

theorem max_bot {ι : Type} [Fintype ι] (s : ι → EReal) (h : ∀ b, s b = ⊥) : max ⊥ (Finset.fold max ⊥ s Finset.univ) = ⊥ :=
  le_bot_iff.mp (max_le le_rfl ((Finset.fold_max_le _).mpr ⟨le_rfl, fun b _ => (h b).le⟩))

theorem pos_mul_add {c : ℝ} (hc : 0 < c) (a b : EReal) : (c : EReal) * (a + b) = c * a + c * b :=
  EReal.left_distrib_of_nonneg_of_ne_top (EReal.coe_nonneg.mpr hc.le) (EReal.coe_ne_top c) a b

theorem pos_mul_sum {ι : Type} (s : Finset ι) (f : ι → EReal) {c : ℝ} (hc : 0 < c) : (c : EReal) * ∑ i ∈ s, f i = ∑ i ∈ s, (c : EReal) * f i := by
  rw [mul_comm, KI.sum_mul_pos s f c hc]
  exact Finset.sum_congr rfl fun i _ => mul_comm _ _

/-- A row's running maximum, sum and accumulator beside the sum `T` and the weighted sums `A` so far. `tp` says that a
    score so far is plus infinity, `nb` that one is above minus infinity; but for these cases the maximum is real and both
    sums are scaled by its exponential's inverse. -/
def RowInv (tp nb : Prop) (T : ℝ) (A : Fin 128 → EReal) (m l : EReal) (acc : Fin 128 → EReal) : Prop :=
  (tp ∧ m = ⊤ ∧ l = 0 ∧ ∀ c, acc c = 0) ∨ (¬ tp ∧ ¬ nb ∧ m = ⊥ ∧ l = 0 ∧ (∀ c, acc c = 0) ∧ T = 0 ∧ ∀ c, A c = 0) ∨
    (¬ tp ∧ nb ∧ ∃ μ : ℝ, m = μ ∧ l = ((Real.exp (0 - μ) * T : ℝ) : EReal) ∧ ∀ c, acc c = (Real.exp (0 - μ) : ℝ) * A c)

theorem RowInv.old {tp nb : Prop} {T : ℝ} {A : Fin 128 → EReal} {m l : EReal} {acc : Fin 128 → EReal} (h : RowInv tp nb T A m l acc) (ht : ¬ tp) (μ : ℝ) :
    Ideal.exp (m - μ) * l = ((Real.exp (0 - μ) * T : ℝ) : EReal) ∧ ∀ c, Ideal.exp (m - μ) * acc c = (Real.exp (0 - μ) : ℝ) * A c := by
  rcases h with ⟨h, _⟩ | ⟨_, _, rfl, rfl, ha, rfl, hA⟩ | ⟨_, _, ν, rfl, rfl, ha⟩
  · exact absurd h ht
  · refine ⟨by rw [mul_zero, mul_zero]; rfl, fun c => ?_⟩
    rw [ha, hA, mul_zero, mul_zero]
  · have e : Real.exp (ν - μ) * Real.exp (0 - ν) = Real.exp (0 - μ) := by
      rw [← Real.exp_add]; refine congrArg Real.exp ?_; ring
    rw [← EReal.coe_sub, Ideal.exp_coe]
    refine ⟨?_, fun c => ?_⟩
    · rw [← EReal.coe_mul, ← mul_assoc, e]
    · rw [ha, ← mul_assoc, ← EReal.coe_mul, e]

/-- One tile of a row. -/
theorem row_step {tp nb : Prop} {T : ℝ} {A : Fin 128 → EReal} {m l : EReal} {acc : Fin 128 → EReal} (h : RowInv tp nb T A m l acc)
    (s : Fin 512 → EReal) (V : Fin 512 → Fin 128 → EReal) (M : EReal) (hM : M = max m (Finset.fold max ⊥ s Finset.univ)) :
    RowInv (tp ∨ ∃ b, s b = ⊤) (nb ∨ ∃ b, s b ≠ ⊥) (T + ∑ b, wgt (s b)) (fun c => A c + ∑ b, (wgt (s b) : EReal) * V b c) M
      (Ideal.exp (m - M) * l + ∑ b, Ideal.exp (s b - M)) (fun c => Ideal.exp (m - M) * acc c + ∑ b, Ideal.exp (s b - M) * V b c) := by
  by_cases ht : tp ∨ ∃ b, s b = ⊤
  · have hT : M = ⊤ := by
      rw [hM]
      refine max_top m s (ht.imp_left fun ht => ?_)
      rcases h with ⟨_, h, _⟩ | ⟨h, _⟩ | ⟨h, _⟩
      · exact h
      · exact absurd ht h
      · exact absurd ht h
    rw [hT]
    refine Or.inl ⟨ht, rfl, ?_, fun c => ?_⟩
    · simp only [exp_top, zero_mul, Finset.sum_const_zero, add_zero]
    · simp only [exp_top, zero_mul, Finset.sum_const_zero, add_zero]
  have h1 : ¬ tp := fun h => ht (Or.inl h)
  have h2 : ∀ b, s b ≠ ⊤ := fun b h => ht (Or.inr ⟨b, h⟩)
  by_cases hn : nb ∨ ∃ b, s b ≠ ⊥
  · have hm : m ≠ ⊤ ∧ (nb → m ≠ ⊥) := by
      rcases h with ⟨h, _⟩ | ⟨_, h, rfl, _⟩ | ⟨_, _, ν, rfl, _⟩
      · exact absurd h h1
      · exact ⟨bot_ne_top, fun h' => absurd h' h⟩
      · exact ⟨EReal.coe_ne_top ν, fun _ => EReal.coe_ne_bot ν⟩
    obtain ⟨μ, hμ⟩ := max_real m hm.1 s h2 (hn.imp_left hm.2)
    rw [hM, hμ]
    refine Or.inr (Or.inr ⟨ht, hn, μ, rfl, ?_, fun c => ?_⟩)
    · rw [(h.old h1 μ).1, mul_add, EReal.coe_add, Finset.mul_sum, Sb.coe_sum]
      exact congrArg _ (Finset.sum_congr rfl fun b _ => exp_wgt' (h2 b) μ)
    · show _ + _ = _
      rw [(h.old h1 μ).2 c, pos_mul_add (Real.exp_pos _), pos_mul_sum _ _ (Real.exp_pos _)]
      refine congrArg _ (Finset.sum_congr rfl fun b _ => ?_)
      rw [exp_wgt' (h2 b) μ, EReal.coe_mul, mul_assoc]
  · have h3 : ∀ b, s b = ⊥ := fun b => by_contra fun h => hn (Or.inr ⟨b, h⟩)
    rcases h with ⟨h, _⟩ | ⟨_, _, rfl, rfl, ha, rfl, hA⟩ | ⟨_, h, _⟩
    · exact absurd h h1
    · rw [hM, max_bot s h3]
      refine Or.inr (Or.inl ⟨ht, hn, rfl, ?_, fun c => ?_, ?_, fun c => ?_⟩)
      · simp only [h3, exp_bot, zero_mul, Finset.sum_const_zero, add_zero]
      · simp only [h3, exp_bot, zero_mul, Finset.sum_const_zero, add_zero]
      · simp only [h3, wgt_bot, Finset.sum_const_zero, add_zero]
      · simp only [h3, wgt_bot, hA, EReal.coe_zero, zero_mul, Finset.sum_const_zero, add_zero]
    · exact absurd (Or.inl h) hn

theorem div_zero : Ideal.div 0 0 = ⊥ := by
  rw [Ideal.div, if_pos rfl, if_neg (lt_irrefl _)]

/-- A row's end: the accumulator over the sum, where some score is above minus infinity and none is plus infinity. -/
theorem row_end {tp nb : Prop} {T : ℝ} {A : Fin 128 → EReal} {m l : EReal} {acc : Fin 128 → EReal} (h : RowInv tp nb T A m l acc)
    (ht : ¬ tp) (hn : nb) (hT : 0 < T) (c : Fin 128) : Ideal.div (acc c) l = A c * ((1 / T : ℝ) : EReal) := by
  rcases h with ⟨h, _⟩ | ⟨_, h, _⟩ | ⟨_, _, μ, _, rfl, ha⟩
  · exact absurd h ht
  · exact absurd hn h
  · rw [ha, Ideal.div_coe (mul_pos (Real.exp_pos _) hT).ne', mul_comm (Real.exp (0 - μ) : EReal), mul_assoc, ← EReal.coe_mul]
    refine congrArg (fun t : ℝ => A c * (t : EReal)) ?_
    rw [one_div, mul_inv, ← mul_assoc, mul_inv_cancel₀ (Real.exp_pos _).ne', one_mul, one_div]

/-- In the other rows: nothing over nothing. -/
theorem row_flat {tp nb : Prop} {T : ℝ} {A : Fin 128 → EReal} {m l : EReal} {acc : Fin 128 → EReal} (h : RowInv tp nb T A m l acc)
    (hf : tp ∨ ¬ nb) (c : Fin 128) : Ideal.div (acc c) l = ⊥ := by
  rcases h with ⟨_, _, rfl, ha⟩ | ⟨_, _, _, rfl, ha, _⟩ | ⟨h, h', _⟩
  · rw [ha, div_zero]
  · rw [ha, div_zero]
  · rcases hf with hf | hf
    · exact absurd hf h
    · exact absurd h' hf

/-- The plain softmax of a row, every score shifted by the same real number: its weighted sum of the values is the same
    quotient. -/
theorem soft_row (κ : ℝ) (z : Fin 16384 → EReal) (V : Fin 16384 → EReal) (ht : ∀ b, z b ≠ ⊤) (hn : ∃ b, z b ≠ ⊥) (hT : 0 < ∑ b, wgt (z b))
    (M : EReal) (hM : M = max ⊥ (Finset.fold max ⊥ (fun b => z b + κ) Finset.univ)) :
    ∑ b, Ideal.div (Ideal.exp (z b + κ - M)) (∑ b', Ideal.exp (z b' + κ - M)) * V b = (∑ b, (wgt (z b) : EReal) * V b) * ((1 / ∑ b, wgt (z b) : ℝ) : EReal) := by
  have h1 : ∀ b, z b + κ ≠ ⊤ := fun b => EReal.add_ne_top (ht b) (EReal.coe_ne_top κ)
  have h2 : ∃ b, z b + κ ≠ ⊥ := by
    obtain ⟨b, hb⟩ := hn
    refine ⟨b, fun h => ?_⟩
    rcases EReal.add_eq_bot_iff.mp h with h | h
    · exact hb h
    · exact EReal.coe_ne_bot κ h
  obtain ⟨μ, hμ⟩ := max_real ⊥ bot_ne_top _ h1 (Or.inr h2)
  rw [hM, hμ]
  simp only [exp_wgt (ht _) κ μ]
  rw [← Sb.coe_sum, ← Finset.mul_sum, KI.sum_mul_pos _ _ _ (one_div_pos.mpr hT)]
  refine Finset.sum_congr rfl fun b _ => ?_
  rw [Ideal.div_coe (mul_pos (Real.exp_pos _) hT).ne', ← EReal.coe_mul, mul_right_comm (wgt (z b) : EReal), ← EReal.coe_mul]
  refine congrArg (fun t : ℝ => (t : EReal) * V b) ?_
  generalize (∑ b, wgt (z b)) = T at hT ⊢
  have h3 := (Real.exp_pos (κ - μ)).ne'
  have h4 := hT.ne'
  field_simp

/-- In the other rows every share is nothing over nothing, and a lane's sum is 0 or infinite. -/
theorem soft_flat (κ : ℝ) (z : Fin 16384 → EReal) (V : Fin 16384 → EReal) (hf : (∃ b, z b = ⊤) ∨ ∀ b, z b = ⊥)
    (M : EReal) (hM : M = max ⊥ (Finset.fold max ⊥ (fun b => z b + κ) Finset.univ)) :
    (∑ b, Ideal.div (Ideal.exp (z b + κ - M)) (∑ b', Ideal.exp (z b' + κ - M)) * V b = 0) ∨
    (∑ b, Ideal.div (Ideal.exp (z b + κ - M)) (∑ b', Ideal.exp (z b' + κ - M)) * V b = ⊥) ∨
    (∑ b, Ideal.div (Ideal.exp (z b + κ - M)) (∑ b', Ideal.exp (z b' + κ - M)) * V b = ⊤) := by
  have e : ∀ b, Ideal.exp (z b + κ - M) = 0 := by
    intro b
    rcases hf with ⟨b', hb⟩ | hf
    · rw [hM, max_top ⊥ _ (Or.inr ⟨b', by rw [hb, EReal.top_add_coe]⟩), exp_top]
    · have h3 : ∀ b, z b + κ = ⊥ := fun b => by rw [hf, EReal.bot_add]
      rw [hM, max_bot _ h3, h3, exp_bot]
  simp only [e, Finset.sum_const_zero, div_zero]
  generalize (Finset.univ : Finset (Fin 16384)) = S
  induction S using Finset.induction_on with
  | empty => exact Or.inl Finset.sum_empty
  | insert a S ha ih =>
    rw [Finset.sum_insert ha]
    have hv : ⊥ * V a = 0 ∨ ⊥ * V a = ⊥ ∨ ⊥ * V a = ⊤ := by
      rcases lt_trichotomy (V a) 0 with h | h | h
      · exact Or.inr (Or.inr (EReal.bot_mul_of_neg h))
      · exact Or.inl (by rw [h, mul_zero])
      · exact Or.inr (Or.inl (EReal.bot_mul_of_pos h))
    rcases hv with h | h | h
    · rw [h, zero_add]; exact ih
    · rw [h, EReal.bot_add]; exact Or.inr (Or.inl rfl)
    · rw [h]
      rcases ih with h | h | h
      · rw [h, add_zero]; exact Or.inr (Or.inr rfl)
      · rw [h, EReal.add_bot]; exact Or.inr (Or.inl rfl)
      · rw [h]; exact Or.inr (Or.inr rfl)

/-- Under its root mean square a row of zeros and infinities is zero. -/
theorem nrm_flat (o : Fin 64 → EReal) (h : ∀ x, o x = 0 ∨ o x = ⊥ ∨ o x = ⊤) (d : Fin 64) : KI.nrm o d = 0 := by
  unfold KI.nrm
  by_cases hz : ∃ x, o x ≠ 0
  · obtain ⟨x, hx⟩ := hz
    have e : o x * o x = ⊤ := by
      rcases h x with h | h | h
      · exact absurd h hx
      · rw [h]; exact EReal.bot_mul_bot
      · rw [h]; exact EReal.top_mul_top
    have nn : ∀ y, 0 ≤ o y * o y := by
      intro y
      rcases h y with h | h | h
      · rw [h, mul_zero]
      · rw [h, EReal.bot_mul_bot]; exact le_top
      · rw [h, EReal.top_mul_top]; exact le_top
    have es : ∑ y, o y * o y = ⊤ := top_le_iff.mp (e ▸ Finset.single_le_sum (f := fun y => o y * o y) (fun y _ => nn y) (Finset.mem_univ x))
    have hl : Ideal.ofBits FTy.f32 897988541#32 ≠ (⊥ : EReal) := by
      simp [Ideal.ofBits, Ideal.ieee, -EReal.coe_mul]
    rw [es, EReal.top_mul_coe_of_pos (by norm_num), EReal.top_add_of_ne_bot hl]
    exact mul_zero _
  · rw [not_exists.mp hz d |> not_not.mp, zero_mul]

/-- A row's scores: minus infinity for the keys after the row. -/
def sc (Z : Fin 16384 → Fin 16384 → EReal) (r s : Fin 16384) : EReal := if s.val ≤ r.val then Z r s else ⊥

/-- Some key from tile `J` on: some key from the next tile on, or one of the tile. -/
theorem some_step {J : ℕ} (hJ : J < 32) (p : Fin 16384 → Prop) :
    ((∃ s, 512 * (J + 1) ≤ s.val ∧ p s) ∨ ∃ b, p (key hJ b)) = ∃ s, 512 * J ≤ s.val ∧ p s := by
  refine propext ⟨?_, ?_⟩
  · rintro (⟨s, h, hp⟩ | ⟨b, hp⟩)
    · exact ⟨s, by omega, hp⟩
    · exact ⟨key hJ b, Nat.le_add_right _ _, hp⟩
  · rintro ⟨s, h, hp⟩
    by_cases h' : 512 * (J + 1) ≤ s.val
    · exact Or.inl ⟨s, h', hp⟩
    · refine Or.inr ⟨⟨s.val - 512 * J, by omega⟩, ?_⟩
      have e : key hJ ⟨s.val - 512 * J, by omega⟩ = s := Fin.ext (by show 512 * J + (s.val - 512 * J) = s.val; omega)
      rw [e]; exact hp

end Cert.Proof.Fx

end
-- ==== Proof.Fx2.lean ====
/-
  Forgetting attention, the idealized program: one tile of a head, the diagonal tile and the whole walk, for both heads.
  The early exit never fires on the extended reals, so the walk's end holds the sums over every key.
-/
module

public import proofs.«01_k».proof.Proof.FIRun
public import proofs.«01_k».proof.Proof.FxSums
public import Idealize.ShloMosaic.Lib.Pipeline.ValueKit
public import Idealize.ShloMosaic.Lib.Pointwise

@[expose] public section

set_option maxRecDepth 16384

noncomputable section

namespace Cert.Proof.FI

open Cert.Kernel3Ideal Cert.Kernel3Ideal.Gen
open Idealize.ShloMosaic Idealize.ShloMosaic.TcCoe
open Cert.Proof.Fx

theorem lit_none : Ideal.ofBits .f32 0xFF800000#32 = (⊥ : EReal) := by
  simp [Ideal.ofBits, Ideal.ieee]

theorem pay2_at (m : FVec Ideal S512x1 .f32) (s : FVec Ideal S512x512 .f32) (a : Fin 512) :
    k0_pay2 (F := Ideal) m s (ix2 a 0) = max (m (ix2 a 0)) (Finset.fold max ⊥ (fun b => s (ix2 a b)) Finset.univ) := by
  pointwise [k0_pay2]
  rw [lit_none]

theorem pay3_at (m : FVec Ideal S512x1 .f32) (s : FVec Ideal S512x512 .f32) (a b : Fin 512) :
    k0_pay3 (F := Ideal) m s (ix2 a b) = Ideal.exp (s (ix2 a b) - k0_pay2 m s (ix2 a 0)) := by
  unfold k0_pay3
  generalize k0_pay2 (F := Ideal) _ _ = M
  pointwise

theorem pay5_at (m l : FVec Ideal S512x1 .f32) (s : FVec Ideal S512x512 .f32) (a : Fin 512) :
    k0_pay5 (F := Ideal) m l s (ix2 a 0) = Ideal.exp (m (ix2 a 0) - k0_pay2 m s (ix2 a 0)) * l (ix2 a 0)
      + ∑ b, Ideal.exp (s (ix2 a b) - k0_pay2 m s (ix2 a 0)) := by
  simp only [← pay3_at]
  unfold k0_pay5 k0_pay4
  generalize k0_pay3 (F := Ideal) _ _ = P
  generalize k0_pay2 (F := Ideal) _ _ = M
  pointwise

theorem pay6_at (m : FVec Ideal S512x1 .f32) (acc : FVec Ideal S512x128 .f32) (v : FVec Ideal S512x128 .bf16) (s : FVec Ideal S512x512 .f32) (a : Fin 512) (c : Fin 128) :
    k0_pay6 (F := Ideal) m acc v s (ix2 a c) = Ideal.exp (m (ix2 a 0) - k0_pay2 m s (ix2 a 0)) * acc (ix2 a c)
      + ∑ b, Ideal.exp (s (ix2 a b) - k0_pay2 m s (ix2 a 0)) * v (ix2 b c) := by
  simp only [← pay3_at]
  unfold k0_pay6 k0_pay4
  generalize k0_pay3 (F := Ideal) _ _ = P
  generalize k0_pay2 (F := Ideal) _ _ = M
  pointwise

theorem pay52_at (q k : FVec Ideal S512x128 .bf16) (d : Vec Ideal S1x1x512 .f32) (a b : Fin 512) :
    k0_pay52 (F := Ideal) q k d (ix2 a b) = ∑ c, q (ix2 a c) * k (ix2 b c) - d (ix3 0 0 b) := by
  pointwise [k0_pay52, k0_pay51, k0_pay49]

theorem pay28_at (rows cs : IVec S512x512 32) (q k : FVec Ideal S512x128 .bf16) (d : Vec Ideal S1x1x512 .f32) (a b : Fin 512) :
    k0_pay28 (F := Ideal) rows cs q k d (ix2 a b)
      = Scalar.select (IntOp.cmpi .sle (cs (ix2 a b)) (rows (ix2 a b))) (k0_pay52 (F := Ideal) q k d (ix2 a b)) ⊥ := by
  rw [pay52_at]
  pointwise [k0_pay28, k0_pay27, k0_pay25]
  rw [lit_none]

theorem pay50_id (x : Vec Ideal S512x128 .bf16) : k0_pay50 (F := Ideal) x = x := by ext i; pointwise [k0_pay50]
theorem pay26_id (x : Vec Ideal S512x128 .bf16) : k0_pay26 (F := Ideal) x = x := by ext i; pointwise [k0_pay26]
theorem pay15_id (x : Vec Ideal S512x128 .bf16) : k0_pay15 (F := Ideal) x = x := by ext i; pointwise [k0_pay15]

theorem qv_id (x : Vec Ideal S512x128 .bf16) : qv x = x := by
  unfold qv
  exact View.ld_unit_zero (by decide) _ _

/-- A head's state at the rows `r`: the sums over the keys of tile `J` and of the later ones. -/
def Inv (Z : Fin 16384 → Fin 16384 → EReal) (V : Fin 16384 → Fin 128 → EReal) (r : Fin 512 → Fin 16384) (J : ℕ)
    (m l : FVec Ideal S512x1 .f32) (acc : FVec Ideal S512x128 .f32) : Prop :=
  ∀ a, RowInv (∃ s, 512 * J ≤ s.val ∧ sc Z (r a) s = ⊤) (∃ s, 512 * J ≤ s.val ∧ sc Z (r a) s ≠ ⊥)
    (tail J (fun s => wgt (sc Z (r a) s))) (fun c => tail J (fun s => (wgt (sc Z (r a) s) : EReal) * V s c)) (m (ix2 a 0)) (l (ix2 a 0)) (fun c => acc (ix2 a c))

/-- One tile of a head, whatever its score tile: keys after the row score minus infinity. -/
theorem tile_step (Z : Fin 16384 → Fin 16384 → EReal) (V : Fin 16384 → Fin 128 → EReal) (r : Fin 512 → Fin 16384) {J : ℕ} (hJ : J < 32)
    (m l : FVec Ideal S512x1 .f32) (acc : FVec Ideal S512x128 .f32) (v : FVec Ideal S512x128 .bf16) (s : FVec Ideal S512x512 .f32)
    (hs : ∀ a b, s (ix2 a b) = if (key hJ b).val ≤ (r a).val then Z (r a) (key hJ b) else ⊥)
    (hv : ∀ b c, v (ix2 b c) = V (key hJ b) c) (h : Inv Z V r (J + 1) m l acc) :
    Inv Z V r J (k0_pay2 m s) (k0_pay5 m l s) (k0_pay6 m acc v s) := by
  intro a
  have e : ∀ b, s (ix2 a b) = sc Z (r a) (key hJ b) := hs a
  have st := row_step (h a) (fun b => s (ix2 a b)) (fun b c => V (key hJ b) c) _ (pay2_at m s a)
  simp only [e] at st
  rw [some_step hJ (fun s => sc Z (r a) s = ⊤), some_step hJ (fun s => sc Z (r a) s ≠ ⊥)] at st
  rw [tail_step hJ]
  simp only [tail_step hJ (fun s => (wgt (sc Z (r a) s) : EReal) * V s _)]
  rw [pay5_at]
  simp only [pay6_at, hv, e]
  exact st

/-- The masked queries `q` and the keys `K` have the scores `Z` once the key's decay is taken off, tile by tile. -/
def Scores (q : Vec Ideal S512x128 .bf16) (K : Fin 16384 → Fin 128 → EReal) (C : Fin 16384 → EReal) (r : Fin 512 → Fin 16384) (Z : Fin 16384 → Fin 16384 → EReal) : Prop :=
  ∀ (J : ℕ) (hJ : J < 32) (k : Vec Ideal S512x128 .bf16) (d : Vec Ideal S1x1x512 .f32),
    (∀ b c, k (ix2 b c) = K (key hJ b) c) → (∀ b, d (ix3 0 0 b) = C (key hJ b)) →
    ∀ a b, k0_pay52 (F := Ideal) q k d (ix2 a b) = Z (r a) (key hJ b)

/-! The loads, at a row. -/

theorem tileAt_at (x : Vec Ideal S16384x128 .bf16) (n : ℕ) (hn : n < 32) (h : k0_chk1 (ctr (n + 1))) (b : Fin 512) (c : Fin 128) :
    tileAt x (ctr (n + 1)) h (ix2 b c) = x (ix2 (key hn b) c) := by
  have off : ∀ n : Fin 32, k0_off5 (ctr (n.val + 1)) = ![512 * n.val, 0] := by decide +kernel
  unfold tileAt
  refine View.ld_unit_apply_of _ _ _ _ _ _ fun d => ?_
  refine Eq.trans ?_ (congrArg (· + (ix2 b c d).val) (congrFun (off ⟨n, hn⟩) d)).symm
  fin_cases d
  · rfl
  · exact (Nat.zero_add _).symm

theorem decA_at (x : Vec Ideal S1x2x16384 .f32) (n : ℕ) (hn : n < 32) (h : k0_chk1 (ctr (n + 1))) (b : Fin 512) :
    decA x (ctr (n + 1)) h (ix3 0 0 b) = x (ix3 0 0 (key hn b)) := by
  have off : ∀ n : Fin 32, k0_off6 (ctr (n.val + 1)) = ![0, 0, 512 * n.val] := by decide +kernel
  unfold decA
  refine View.ld_unit_apply_of _ _ _ _ _ _ fun d => ?_
  refine Eq.trans ?_ (congrArg (· + (ix3 0 0 b d).val) (congrFun (off ⟨n, hn⟩) d)).symm
  fin_cases d <;> rfl

theorem decB_at (x : Vec Ideal S1x2x16384 .f32) (n : ℕ) (hn : n < 32) (h : k0_chk1 (ctr (n + 1))) (b : Fin 512) :
    decB x (ctr (n + 1)) h (ix3 0 0 b) = x (ix3 0 1 (key hn b)) := by
  have off : ∀ n : Fin 32, k0_off7 (ctr (n.val + 1)) = ![0, 1, 512 * n.val] := by decide +kernel
  unfold decB
  refine View.ld_unit_apply_of _ _ _ _ _ _ fun d => ?_
  refine Eq.trans ?_ (congrArg (· + (ix3 0 0 b d).val) (congrFun (off ⟨n, hn⟩) d)).symm
  fin_cases d <;> rfl

theorem off2_eq : ∀ i : grid0.Coords, k0_off2 i = ![512 * (i 1).val, 0] := by decide +kernel
theorem off3_eq : ∀ i : grid0.Coords, k0_off3 i = ![0, 0, 512 * (i 1).val] := by decide +kernel
theorem off4_eq : ∀ i : grid0.Coords, k0_off4 i = ![0, 1, 512 * (i 1).val] := by decide +kernel

theorem diagAt_at (i : grid0.Coords) (x : Vec Ideal S16384x128 .bf16) (hn : (i 1).val < 32) (b : Fin 512) (c : Fin 128) :
    diagAt i x (ix2 b c) = x (ix2 (key hn b) c) := by
  unfold diagAt
  refine View.ld_unit_apply_of _ _ _ _ _ _ fun d => ?_
  refine Eq.trans ?_ (congrArg (· + (ix2 b c d).val) (congrFun (off2_eq i) d)).symm
  fin_cases d
  · rfl
  · exact (Nat.zero_add _).symm

theorem diagCA_at (i : grid0.Coords) (x : Vec Ideal S1x2x16384 .f32) (hn : (i 1).val < 32) (b : Fin 512) :
    diagCA i x (ix3 0 0 b) = x (ix3 0 0 (key hn b)) := by
  unfold diagCA
  refine View.ld_unit_apply_of _ _ _ _ _ _ fun d => ?_
  refine Eq.trans ?_ (congrArg (· + (ix3 0 0 b d).val) (congrFun (off3_eq i) d)).symm
  fin_cases d <;> rfl

theorem diagCB_at (i : grid0.Coords) (x : Vec Ideal S1x2x16384 .f32) (hn : (i 1).val < 32) (b : Fin 512) :
    diagCB i x (ix3 0 0 b) = x (ix3 0 1 (key hn b)) := by
  unfold diagCB
  refine View.ld_unit_apply_of _ _ _ _ _ _ fun d => ?_
  refine Eq.trans ?_ (congrArg (· + (ix3 0 0 b d).val) (congrFun (off4_eq i) d)).symm
  fin_cases d <;> rfl

/-! The payloads of the first head and of the diagonal tile are the second head's of an open tile, on other operands. -/

theorem pay53_eq (q k : FVec Ideal S512x128 .bf16) (m : FVec Ideal S512x1 .f32) (d : Vec Ideal S1x1x512 .f32) :
    k0_pay53 (F := Ideal) q m k d = k0_pay2 m (k0_pay52 q k d) := rfl
theorem pay56_eq (q k : FVec Ideal S512x128 .bf16) (m l : FVec Ideal S512x1 .f32) (d : Vec Ideal S1x1x512 .f32) :
    k0_pay56 (F := Ideal) q m l k d = k0_pay5 m l (k0_pay52 q k d) := rfl
theorem pay57_eq (q k v : FVec Ideal S512x128 .bf16) (m : FVec Ideal S512x1 .f32) (acc : FVec Ideal S512x128 .f32) (d : Vec Ideal S1x1x512 .f32) :
    k0_pay57 (F := Ideal) q m acc k v d = k0_pay6 m acc (k0_pay50 v) (k0_pay52 q k d) := rfl
theorem pay60_eq (q k : FVec Ideal S512x128 .bf16) (d : Vec Ideal S1x1x512 .f32) :
    k0_pay60 (F := Ideal) q k d = k0_pay52 q k d := rfl

section
variable (rows cs : IVec S512x512 32) (q k v : FVec Ideal S512x128 .bf16) (d : Vec Ideal S1x1x512 .f32)
theorem pay29_eq : k0_pay29 (F := Ideal) rows cs q k d = k0_pay2 (k0_pay22 (F := Ideal)) (k0_pay28 rows cs q k d) := rfl
theorem pay32_eq : k0_pay32 (F := Ideal) (k0_pay22 (F := Ideal)) (k0_pay23 (F := Ideal)) (k0_pay29 rows cs q k d) (k0_pay30 rows cs q k d)
    = k0_pay5 (k0_pay22 (F := Ideal)) (k0_pay23 (F := Ideal)) (k0_pay28 rows cs q k d) := rfl
theorem pay33_eq : k0_pay33 (F := Ideal) (k0_pay22 (F := Ideal)) (k0_pay24 (F := Ideal)) v (k0_pay29 rows cs q k d) (k0_pay30 rows cs q k d)
    = k0_pay6 (k0_pay22 (F := Ideal)) (k0_pay24 (F := Ideal)) v (k0_pay28 rows cs q k d) := rfl
theorem pay36_eq : k0_pay36 (F := Ideal) rows cs q (k0_pay25 k) d = k0_pay28 rows cs q k d := rfl
variable (m l : FVec Ideal S512x1 .f32) (acc : FVec Ideal S512x128 .f32)
theorem pay37_eq : k0_pay37 (F := Ideal) rows cs q m k d = k0_pay2 m (k0_pay36 rows cs q k d) := rfl
theorem pay40_eq : k0_pay40 (F := Ideal) rows cs q m l k d = k0_pay5 m l (k0_pay36 rows cs q k d) := rfl
theorem pay41_eq : k0_pay41 (F := Ideal) rows cs q m acc k v d = k0_pay6 m acc v (k0_pay36 rows cs q k d) := rfl
end

variable (ZA ZB : Fin 16384 → Fin 16384 → EReal) (V : Fin 16384 → Fin 128 → EReal)

/-- An open tile's score tile: every key is before the rows. -/
theorem open_tile {q : Vec Ideal S512x128 .bf16} {K : Fin 16384 → Fin 128 → EReal} {C : Fin 16384 → EReal} {r : Fin 512 → Fin 16384} {Z : Fin 16384 → Fin 16384 → EReal}
    (h : Scores q K C r Z) {J : ℕ} (hJ : J < 32) (hr : ∀ a, 512 * (J + 1) ≤ (r a).val) (k : Vec Ideal S512x128 .bf16) (d : Vec Ideal S1x1x512 .f32)
    (hk : ∀ b c, k (ix2 b c) = K (key hJ b) c) (hd : ∀ b, d (ix3 0 0 b) = C (key hJ b)) (a b : Fin 512) :
    k0_pay52 (F := Ideal) q k d (ix2 a b) = if (key hJ b).val ≤ (r a).val then Z (r a) (key hJ b) else ⊥ := by
  rw [if_pos (show (key hJ b).val ≤ (r a).val by have := hr a; show 512 * J + b.val ≤ _; omega)]
  exact h J hJ k d hk hd a b

/-- The walk over the tiles before the diagonal completes both heads' sums. -/
theorem walk_inv (x1 x2 : Vec Ideal S16384x128 .bf16) (x3 : Vec Ideal S1x2x16384 .f32) (qa qb : FVec Ideal S512x128 .bf16) (ra rb : FVec Ideal S512x1 .f32)
    (r : Fin 512 → Fin 16384) (ha : Scores qa (fun s c => x1 (ix2 s c)) (fun s => x3 (ix3 0 0 s)) r ZA)
    (hb : Scores qb (fun s c => x1 (ix2 s c)) (fun s => x3 (ix3 0 1 s)) r ZB) (hV : ∀ s c, x2 (ix2 s c) = V s c) :
    ∀ n, n ≤ 32 → (∀ a, 512 * n ≤ (r a).val) → ∀ s : St Ideal, s.1 = ctr n →
      Inv ZA V r n s.2.2.1 s.2.2.2.1 s.2.2.2.2.1 → Inv ZB V r n s.2.2.2.2.2.1 s.2.2.2.2.2.2.1 s.2.2.2.2.2.2.2 →
      Inv ZA V r 0 (walk x1 x2 x3 qa ra qb rb n s).2.2.1 (walk x1 x2 x3 qa ra qb rb n s).2.2.2.1 (walk x1 x2 x3 qa ra qb rb n s).2.2.2.2.1 ∧
      Inv ZB V r 0 (walk x1 x2 x3 qa ra qb rb n s).2.2.2.2.2.1 (walk x1 x2 x3 qa ra qb rb n s).2.2.2.2.2.2.1 (walk x1 x2 x3 qa ra qb rb n s).2.2.2.2.2.2.2 := by
  intro n
  induction n with
  | zero => intro _ _ s _ iA iB; exact ⟨iA, iB⟩
  | succ n ih =>
    intro hn hr s hs iA iB
    have hJ : n < 32 := hn
    unfold walk
    have hg : k0_chk1 s.1 := by rw [hs]; exact chk_ctr ⟨n, hJ⟩
    rw [if_pos (goes_on n hJ s hs), dif_pos hg]
    have hk (x : Vec Ideal S16384x128 .bf16) (b c) : tileAt x s.1 hg (ix2 b c) = x (ix2 (key hJ b) c) := by
      have e : ∀ w (hw : k0_chk1 w), w = ctr (n + 1) → tileAt x w hw (ix2 b c) = x (ix2 (key hJ b) c) := by
        intro w hw e; subst e; exact tileAt_at x n hJ hw b c
      exact e _ _ hs
    have hcA (b) : decA x3 s.1 hg (ix3 0 0 b) = x3 (ix3 0 0 (key hJ b)) := by
      have e : ∀ w (hw : k0_chk1 w), w = ctr (n + 1) → decA x3 w hw (ix3 0 0 b) = x3 (ix3 0 0 (key hJ b)) := by
        intro w hw e; subst e; exact decA_at x3 n hJ hw b
      exact e _ _ hs
    have hcB (b) : decB x3 s.1 hg (ix3 0 0 b) = x3 (ix3 0 1 (key hJ b)) := by
      have e : ∀ w (hw : k0_chk1 w), w = ctr (n + 1) → decB x3 w hw (ix3 0 0 b) = x3 (ix3 0 1 (key hJ b)) := by
        intro w hw e; subst e; exact decB_at x3 n hJ hw b
      exact e _ _ hs
    have hk1 := hk x1
    have hk2 := hk x2
    generalize tileAt x1 s.1 hg = kb at hk1
    generalize tileAt x2 s.1 hg = vb at hk2
    generalize decA x3 s.1 hg = ca at hcA
    generalize decB x3 s.1 hg = cb at hcB
    have hr' : ∀ a, 512 * n ≤ (r a).val := fun a => by have := hr a; omega
    have hv : ∀ b c, k0_pay50 (F := Ideal) vb (ix2 b c) = V (key hJ b) c := fun b c => by rw [pay50_id, hk2, hV]
    refine ih (by omega) hr' _ (by show Scalar.subi s.1 1#32 = _; rw [hs]; exact ctr_pred n) ?_ ?_
    · exact tile_step ZA V r hJ _ _ _ _ _ (open_tile ha hJ hr kb ca hk1 hcA) hv iA
    · exact tile_step ZB V r hJ _ _ _ _ _ (open_tile hb hJ hr kb cb hk1 hcB) hv iB

/-- The rows of grid point `i`. -/
def row (i : grid0.Coords) (a : Fin 512) : Fin 16384 := ⟨512 * (i 1).val + a.val, by have := (i 1).isLt; have : (i 1).val < 32 := this; omega⟩

/-- A mask word: 1 where the statement holds. -/
theorem ofBool_ite (p : Prop) [Decidable p] : BitVec.ofBool (decide p) = if p then 1#1 else 0#1 := by
  by_cases h : p <;> simp [h]

/-- The point's first row less the diagonal tile's first key: nothing. -/
theorem shift_zero : ∀ i : grid0.Coords, Scalar.subi (Scalar.muli (BitVec.ofNat 32 (i 1).val) 512#32) (Scalar.muli (firstTile i) 512#32) = 0#32 := by
  decide +kernel

theorem rows_at (i : grid0.Coords) (a b : Fin 512) : k0_pay16 i (ix2 a b) = BitVec.ofNat 32 a.val := by
  have e : k0_pay16 i = addi (iota .tc S512x512 32 [0] iota_S512x512_d0_w32)
      (broadcast S512x512 (Scalar.subi (Scalar.muli (BitVec.ofNat 32 (i 1).val) 512#32) (Scalar.muli (firstTile i) 512#32))) := rfl
  rw [e, shift_zero]
  pointwise
  exact BitVec.add_zero _

theorem cols_at (a b : Fin 512) : cols (ix2 a b) = BitVec.ofNat 32 b.val := by
  unfold cols
  pointwise

/-- The diagonal tile's score tile: keys after the row are masked. -/
theorem diag_tile {q : Vec Ideal S512x128 .bf16} {K : Fin 16384 → Fin 128 → EReal} {C : Fin 16384 → EReal} {Z : Fin 16384 → Fin 16384 → EReal}
    (i : grid0.Coords) (h : Scores q K C (row i) Z) (hJ : (i 1).val < 32) (k : Vec Ideal S512x128 .bf16) (d : Vec Ideal S1x1x512 .f32)
    (hk : ∀ b c, k (ix2 b c) = K (key hJ b) c) (hd : ∀ b, d (ix3 0 0 b) = C (key hJ b)) (a b : Fin 512) :
    k0_pay28 (F := Ideal) (k0_pay16 i) cols q k d (ix2 a b) = if (key hJ b).val ≤ (row i a).val then Z (row i a) (key hJ b) else ⊥ := by
  rw [pay28_at, h _ hJ k d hk hd a b, rows_at, cols_at, WordCmp.cmpi_sle_ofNat (by omega) (by omega), ofBool_ite]
  have e : (key hJ b).val ≤ (row i a).val ↔ b.val ≤ a.val := by
    show 512 * (i 1).val + b.val ≤ 512 * (i 1).val + a.val ↔ _
    omega
  by_cases hb : b.val ≤ a.val
  · rw [if_pos hb, if_pos (e.mpr hb)]; rfl
  · rw [if_neg hb, if_neg (fun h => hb (e.mp h))]; rfl

/-- Before the diagonal tile nothing is summed: no later key is up to a row of the point. -/
theorem inv_none (Z : Fin 16384 → Fin 16384 → EReal) (i : grid0.Coords) :
    Inv Z V (row i) ((i 1).val + 1) (k0_pay22 (F := Ideal)) (k0_pay23 (F := Ideal)) (k0_pay24 (F := Ideal)) := by
  intro a
  have no (s : Fin 16384) (h : 512 * ((i 1).val + 1) ≤ s.val) : sc Z (row i a) s = ⊥ := by
    refine if_neg ?_
    show ¬ s.val ≤ 512 * (i 1).val + a.val
    omega
  refine Or.inr (Or.inl ⟨?_, ?_, ?_, ?_, fun c => ?_, tail_none _ _ fun s h => by rw [no s h, wgt_bot], fun c => tail_none _ _ fun s h => by rw [no s h, wgt_bot, EReal.coe_zero, zero_mul]⟩)
  · rintro ⟨s, h, h'⟩
    rw [no s h] at h'
    exact bot_ne_top h'
  · rintro ⟨s, h, h'⟩
    exact h' (no s h)
  · pointwise [k0_pay22]
    exact lit_none
  · pointwise [k0_pay23]
  · show k0_pay24 (F := Ideal) (ix2 a c) = 0
    pointwise [k0_pay24]

/-- The diagonal tile: the walk's start. -/
theorem start_inv (i : grid0.Coords) (x1 x2 : Vec Ideal S16384x128 .bf16) (x3 : Vec Ideal S1x2x16384 .f32) (q : Vec Ideal S512x128 .bf16) (na nb : Vec Ideal S1x1 .f32)
    (ha : Scores (k0_pay17 q) (fun s c => x1 (ix2 s c)) (fun s => x3 (ix3 0 0 s)) (row i) ZA)
    (hb : Scores (k0_pay20 (F := Ideal) (k0_pay15 (F := Ideal) q)) (fun s c => x1 (ix2 s c)) (fun s => x3 (ix3 0 1 s)) (row i) ZB) (hV : ∀ s c, x2 (ix2 s c) = V s c)
    (s : St Ideal) (hs : s = start i q (diagAt i x1) (diagAt i x2) (diagCA i x3) (diagCB i x3) na nb) :
    Inv ZA V (row i) (i 1).val s.2.2.1 s.2.2.2.1 s.2.2.2.2.1 ∧ Inv ZB V (row i) (i 1).val s.2.2.2.2.2.1 s.2.2.2.2.2.2.1 s.2.2.2.2.2.2.2 := by
  unfold start at hs
  have hi : (i 1).val < 32 := (i 1).isLt
  subst hs
  dsimp only
  have k0 := diagAt_at i x1 hi
  have v0 := diagAt_at i x2 hi
  have cA := diagCA_at i x3 hi
  have cB := diagCB_at i x3 hi
  generalize diagAt i x1 = K0 at k0
  generalize diagAt i x2 = V0 at v0
  generalize diagCA i x3 = CA at cA
  generalize diagCB i x3 = CB at cB
  have hv : ∀ b c, k0_pay26 (F := Ideal) V0 (ix2 b c) = V (key hi b) c := fun b c => by rw [pay26_id, v0, hV]
  constructor
  · rw [pay32_eq, pay33_eq, pay29_eq]
    exact tile_step ZA V (row i) hi _ _ _ _ _ (diag_tile i ha hi K0 CA k0 cA) hv (inv_none V ZA i)
  · rw [pay37_eq, pay40_eq, pay41_eq, pay36_eq]
    exact tile_step ZB V (row i) hi _ _ _ _ _ (diag_tile i hb hi K0 CB k0 cB) hv (inv_none V ZB i)

/-- The end of the walk: both heads' sums over every key. -/
theorem walked_inv (i : grid0.Coords) (x0 : Vec Ideal S512x128 .bf16) (x1 x2 : Vec Ideal S16384x128 .bf16) (x3 : Vec Ideal S1x2x16384 .f32) (na nb : Vec Ideal S1x1 .f32)
    (ha : Scores (k0_pay17 x0) (fun s c => x1 (ix2 s c)) (fun s => x3 (ix3 0 0 s)) (row i) ZA)
    (hb : Scores (k0_pay20 (F := Ideal) x0) (fun s c => x1 (ix2 s c)) (fun s => x3 (ix3 0 1 s)) (row i) ZB) (hV : ∀ s c, x2 (ix2 s c) = V s c) :
    Inv ZA V (row i) 0 (walked i x0 x1 x2 x3 na nb).2.2.1 (walked i x0 x1 x2 x3 na nb).2.2.2.1 (walked i x0 x1 x2 x3 na nb).2.2.2.2.1 ∧
    Inv ZB V (row i) 0 (walked i x0 x1 x2 x3 na nb).2.2.2.2.2.1 (walked i x0 x1 x2 x3 na nb).2.2.2.2.2.2.1 (walked i x0 x1 x2 x3 na nb).2.2.2.2.2.2.2 := by
  have hi : (i 1).val < 32 := (i 1).isLt
  unfold walked
  rw [qv_id, pay15_id]
  have st := start_inv ZA ZB V i x1 x2 x3 x0 na nb ha (by rw [pay15_id]; exact hb) hV _ rfl
  exact walk_inv ZA ZB V x1 x2 x3 (k0_pay17 x0) (k0_pay20 x0) _ _ (row i) ha hb hV (i 1).val (by omega)
    (fun a => Nat.le_add_right _ _) _ rfl st.1 st.2

end Cert.Proof.FI

end
-- ==== Proof.Fx3.lean ====
/-
  Forgetting attention, the idealized program: the scores as dot products less the key's decay, the heads' normalisation
  that closes a grid point, and so what a grid point stores.
-/
module

public import proofs.«01_k».proof.Proof.Fx2

@[expose] public section

set_option maxRecDepth 16384

noncomputable section

namespace Cert.Proof.Fx

open Idealize.ShloMosaic

/-- A row with a score of plus infinity, or with none above minus infinity. -/
def Flat (z : Fin 16384 → EReal) : Prop := (∃ b, z b = ⊤) ∨ ∀ b, z b = ⊥

open Classical in
/-- A head's output at a row with the scores `z`: the weighted mean of the values under its root mean square, and zero at a
    flat row. -/
def fox (z : Fin 16384 → EReal) (V : Fin 16384 → Fin 64 → EReal) (d : Fin 64) : EReal :=
  if Flat z then 0 else KI.nrm (fun x => (∑ s, (wgt (z s) : EReal) * V s x) * ((1 / ∑ s, wgt (z s) : ℝ) : EReal)) d

theorem wgt_sum_pos {z : Fin 16384 → EReal} (h : ¬ Flat z) : 0 < ∑ s, wgt (z s) := by
  have h1 : ∀ b, z b ≠ ⊤ := fun b e => h (Or.inl ⟨b, e⟩)
  obtain ⟨b, hb⟩ : ∃ b, z b ≠ ⊥ := by_contra fun e => h (Or.inr fun b => by_contra fun e' => e ⟨b, e'⟩)
  exact Finset.sum_pos' (fun s _ => wgt_nonneg _) ⟨b, Finset.mem_univ b, wgt_pos hb (h1 b)⟩

/-- The running form at its end is the head's output. -/
theorem fox_of_inv {z : Fin 16384 → EReal} {W : Fin 16384 → Fin 128 → EReal} {m l : EReal} {acc : Fin 128 → EReal}
    (h : RowInv (∃ s : Fin 16384, 512 * 0 ≤ s.val ∧ z s = ⊤) (∃ s : Fin 16384, 512 * 0 ≤ s.val ∧ z s ≠ ⊥) (tail 0 fun s => wgt (z s))
      (fun c => tail 0 fun s => (wgt (z s) : EReal) * W s c) m l acc) (L : Fin 64 → Fin 128) (d : Fin 64) :
    KI.nrm (fun x => Ideal.div (acc (L x)) l) d = fox z (fun s x => W s (L x)) d := by
  unfold fox
  by_cases hf : Flat z
  · rw [if_pos hf]
    refine nrm_flat _ (fun x => Or.inr (Or.inl (row_flat h ?_ _))) d
    rcases hf with ⟨b, hb⟩ | hf
    · exact Or.inl ⟨b, Nat.zero_le _, hb⟩
    · exact Or.inr fun ⟨b, _, hb⟩ => hb (hf b)
  · rw [if_neg hf]
    refine congrArg (fun f => KI.nrm f d) (funext fun x => ?_)
    have hT := wgt_sum_pos hf
    rw [← tail_zero] at hT
    rw [row_end h (fun ⟨b, _, hb⟩ => hf (Or.inl ⟨b, hb⟩)) (by_contra fun e => hf (Or.inr fun b => by_contra fun e' => e ⟨b, Nat.zero_le _, e'⟩)) hT,
      tail_zero, tail_zero]

/-- The plain softmax's output, every score of the row shifted by the same real number, is the same. -/
theorem fox_of_soft (κ : ℝ) (z : Fin 16384 → EReal) (V : Fin 16384 → Fin 64 → EReal)
    (M : EReal) (hM : M = max ⊥ (Finset.fold max ⊥ (fun b => z b + κ) Finset.univ)) (d : Fin 64) :
    KI.nrm (fun x => ∑ b, Ideal.div (Ideal.exp (z b + κ - M)) (∑ b', Ideal.exp (z b' + κ - M)) * V b x) d = fox z V d := by
  unfold fox
  by_cases hf : Flat z
  · rw [if_pos hf]
    exact nrm_flat _ (fun x => soft_flat κ z (fun b => V b x) hf M hM) d
  · rw [if_neg hf]
    refine congrArg (fun f => KI.nrm f d) (funext fun x => ?_)
    exact soft_row κ z (fun b => V b x) (fun b e => hf (Or.inl ⟨b, e⟩)) (by_contra fun e => hf (Or.inr fun b => by_contra fun e' => e ⟨b, e'⟩))
      (wgt_sum_pos hf) M hM

end Cert.Proof.Fx

namespace Cert.Proof.FI

open Cert.Kernel3Ideal Cert.Kernel3Ideal.Gen
open Idealize.ShloMosaic Idealize.ShloMosaic.TcCoe
open Cert.Proof.Fx
open Cert.Proof.KI (lane sum_lanes lt64_0 lt64_1 ge64_0 ge64_1 ge0 lt128 and11 and10 and01 sel1 sel0 nrm lit_64th col at128 score)

/-- The first head's masked queries against the keys: the dot product over its own lanes, less the key's decay. -/
theorem scoreA (q k : Vec Ideal S512x128 .bf16) (e : Vec Ideal S1x1x512 .f32) (a b : Fin 512) :
    k0_pay52 (F := Ideal) (k0_pay17 q) k e (ix2 a b) = (∑ d, q (ix2 a (lane 0 d)) * k (ix2 b (lane 0 d))) - e (ix3 0 0 b) := by
  rw [pay52_at]
  pointwise [k0_pay17, k0_pay15]
  rw [sum_lanes]
  simp only [lt64_0, lt64_1, sel1, sel0, zero_mul, Finset.sum_const_zero, add_zero]

/-- The second head's. -/
theorem scoreB (q k : Vec Ideal S512x128 .bf16) (e : Vec Ideal S1x1x512 .f32) (a b : Fin 512) :
    k0_pay52 (F := Ideal) (k0_pay20 (F := Ideal) q) k e (ix2 a b) = (∑ d, q (ix2 a (lane 1 d)) * k (ix2 b (lane 1 d))) - e (ix3 0 0 b) := by
  rw [pay52_at]
  pointwise [k0_pay20]
  rw [sum_lanes]
  simp only [ge64_0, ge64_1, sel1, sel0, zero_mul, Finset.sum_const_zero, zero_add]

section
variable (l l' : FVec Ideal S512x1 .f32) (A A' : FVec Ideal S512x128 .f32) (a : Fin 512) (d : Fin 64)

theorem pay44_0 : k0_pay44 (F := Ideal) l A l' A' (ix2 a (lane 0 d)) = Ideal.div (A (ix2 a (lane 0 d))) (l (ix2 a 0)) := by
  pointwise [k0_pay44]
  rw [lt64_0, sel1]

theorem pay44_1 : k0_pay44 (F := Ideal) l A l' A' (ix2 a (lane 1 d)) = Ideal.div (A' (ix2 a (lane 1 d))) (l' (ix2 a 0)) := by
  pointwise [k0_pay44]
  rw [lt64_1, sel0]
end

theorem closed_0 (s : St Ideal) (a : Fin 512) (d : Fin 64) :
    closed s (ix2 a (lane 0 d)) = nrm (fun x => Ideal.div (s.2.2.2.2.1 (ix2 a (lane 0 x))) (s.2.2.2.1 (ix2 a 0))) d := by
  unfold closed k0_pay46 k0_pay48 k0_pay45 k0_pay47
  have h := pay44_0 s.2.2.2.1 s.2.2.2.2.2.2.1 s.2.2.2.2.1 s.2.2.2.2.2.2.2 a
  generalize k0_pay44 (F := Ideal) _ _ _ _ = o at h
  pointwise [k0_pay1]
  simp only [sum_lanes, lt64_0, lt64_1, ge64_0, ge64_1, ge0, lt128, and11, and10, and01, sel1, sel0, Finset.sum_const_zero, add_zero, zero_add, h]
  rw [nrm, ← lit_64th]

theorem closed_1 (s : St Ideal) (a : Fin 512) (d : Fin 64) :
    closed s (ix2 a (lane 1 d)) = nrm (fun x => Ideal.div (s.2.2.2.2.2.2.2 (ix2 a (lane 1 x))) (s.2.2.2.2.2.2.1 (ix2 a 0))) d := by
  unfold closed k0_pay46 k0_pay48 k0_pay45 k0_pay47
  have h := pay44_1 s.2.2.2.1 s.2.2.2.2.2.2.1 s.2.2.2.2.1 s.2.2.2.2.2.2.2 a
  generalize k0_pay44 (F := Ideal) _ _ _ _ = o at h
  pointwise [k0_pay1]
  simp only [sum_lanes, lt64_0, lt64_1, ge64_0, ge64_1, ge0, lt128, and11, and10, and01, sel1, sel0, Finset.sum_const_zero, add_zero, zero_add, h]
  rw [nrm, ← lit_64th]

/-- Head `p` of pair `g`. -/
def head (g p : Fin 2) : Fin 4 := ⟨2 * g.val + p.val, by omega⟩

/-- The score of a query row against a key row, less the key's decay. -/
def dscore (Q K : Fin 16384 → Fin 256 → EReal) (C : Fin 4 → Fin 16384 → EReal) (g p : Fin 2) (r s : Fin 16384) : EReal :=
  score Q K g p r s - C (head g p) s

/-- What a grid point stores, at a row and a lane, where its blocks hold the pair's columns of the queries, keys and
    values and its heads' decays. -/
theorem foxOut_at (i : grid0.Coords) (g : Fin 2) (Q K V : Fin 16384 → Fin 256 → EReal) (C : Fin 4 → Fin 16384 → EReal)
    (x0 : Vec Ideal S512x128 .bf16) (x1 x2 : Vec Ideal S16384x128 .bf16) (x3 : Vec Ideal S1x2x16384 .f32) (na nb : Vec Ideal S1x1 .f32)
    (h0 : ∀ a c, x0 (ix2 a c) = Q (row i a) (at128 g c) * (((1 / 8 : ℝ) : ℝ) : EReal))
    (h1 : ∀ s c, x1 (ix2 s c) = K s (at128 g c))
    (h2 : ∀ s c, x2 (ix2 s c) = V s (at128 g c))
    (h3 : ∀ p s, x3 (ix3 0 p s) = C (head g p) s) (a : Fin 512) (p : Fin 2) (d : Fin 64) :
    foxOut i x0 x1 x2 x3 na nb (ix2 a (lane p d)) = fox (sc (dscore Q K C g p) (row i a)) (fun s x => V s (col g p x)) d := by
  have ha : Scores (k0_pay17 x0) (fun s c => x1 (ix2 s c)) (fun s => x3 (ix3 0 0 s)) (row i) (dscore Q K C g 0) := by
    intro J hJ k e hk he a b
    rw [scoreA, he]
    dsimp only
    rw [h3]
    refine congrArg (· - _) (Finset.sum_congr rfl fun d _ => ?_)
    rw [h0, (hk b _).trans (h1 _ _)]; rfl
  have hb : Scores (k0_pay20 (F := Ideal) x0) (fun s c => x1 (ix2 s c)) (fun s => x3 (ix3 0 1 s)) (row i) (dscore Q K C g 1) := by
    intro J hJ k e hk he a b
    rw [scoreB, he]
    dsimp only
    rw [h3]
    refine congrArg (· - _) (Finset.sum_congr rfl fun d _ => ?_)
    rw [h0, (hk b _).trans (h1 _ _)]; rfl
  have w := walked_inv (dscore Q K C g 0) (dscore Q K C g 1) (fun s c => V s (at128 g c)) i x0 x1 x2 x3 na nb ha hb h2
  unfold foxOut
  generalize walked i x0 x1 x2 x3 na nb = S at w
  have hp : p = 0 ∨ p = 1 := by revert p; decide
  rcases hp with rfl | rfl
  · rw [closed_0]
    exact fox_of_inv (w.1 a) (lane 0) d
  · rw [closed_1]
    exact fox_of_inv (w.2 a) (lane 1) d

end Cert.Proof.FI

end
-- ==== Proof.FxEnt.lean ====
/-
  Forgetting attention, the idealized program: the call's operands and a grid point's blocks, as entries of the arguments.
-/
module

public import proofs.«01_k».proof.Proof.Fx3
public import proofs.«01_k».proof.Proof.FIRun
public import proofs.«01_k».proof.Proof.SbCat
public import Idealize.ShloMosaic.Lib.Claim
public import Idealize.ShloMosaic.Lib.StableHlo.RunRead

@[expose] public section

set_option maxRecDepth 16384

noncomputable section

namespace Cert.Proof.FI

open Cert.Kernel3Ideal Cert.Kernel3Ideal.Gen
open Idealize.ShloMosaic Idealize.ShloMosaic.TcCoe
open Cert.Proof.Fx
open Cert.Proof.KI (lane col at128)
open Cert.Proof.Sb

variable (m : (ℓ : Loc nD τ sig) → Buf (Elt Ideal) ℓ)

/-- The argument's entry. -/
def ent (c : Dev nD) (s : Fin 16384) (j : Fin 2960) : EReal := m ((c : Thread nD τ).loc main_arg0) (ix2 s j)

/-- The decays' entry. -/
def dec (c : Dev nD) (h : Fin 4) (s : Fin 16384) : EReal := m ((c : Thread nD τ).loc main_arg1) (ix2 h s)

theorem d_entry (c : Dev nD) (g p : Fin 2) (s : Fin 16384) : V m c main_v28 (ix3 g p s) = dec m c (head g p) s := by
  unfold dec
  entry_read
  pointwise
  refine congrArg (fun h => m ((c : Thread nD τ).loc main_arg1) (ix2 h s)) (Fin.ext ?_)
  show g.val * 2 + p.val = 2 * g.val + p.val
  omega

/-- The arrays before the concatenation. -/
def pre (c : Dev nD) (r : Ref sig .tc) : r.ty.Contents (Elt Ideal) := StableHlo.upto (hostOps0 (F := Ideal)) (fun b => m (c, b)) 30 (Proc.devRef .tc r)

/-- The call's operand: the pieces side by side. -/
theorem cat_eq (c : Dev nD) (i : S16384x2944.Idx) :
    V m c main_v27 i = concatenate S16384x2944 1 [⟨S16384x256, pre m c main_v19⟩, ⟨S16384x64, pre m c main_v1⟩, ⟨S16384x64, pre m c main_v2⟩, ⟨S16384x64, pre m c main_v3⟩, ⟨S16384x64, pre m c main_v4⟩, ⟨S16384x64, pre m c main_v5⟩, ⟨S16384x64, pre m c main_v6⟩, ⟨S16384x256, pre m c main_v21⟩, ⟨S16384x256, pre m c main_v9⟩, ⟨S16384x256, pre m c main_v10⟩, ⟨S16384x256, pre m c main_v23⟩, ⟨S16384x256, pre m c main_v12⟩, ⟨S16384x256, pre m c main_v13⟩, ⟨S16384x256, pre m c main_v25⟩, ⟨S16384x256, pre m c main_v16⟩, ⟨S16384x256, pre m c main_v17⟩] concatenates_S16384x256_S16384x64_S16384x64_S16384x64_S16384x64_S16384x64_S16384x64_S16384x256_S16384x256_S16384x256_S16384x256_S16384x256_S16384x256_S16384x256_S16384x256_S16384x256_S16384x2944_d1 i := by
  refine (congrFun (StableHlo.after_last_write (ops := hostOps0 (F := Ideal)) (i := 31) (r := main_v27) [main_v28] rfl rfl (by decide) _) i).trans ?_
  refine (congrFun (StableHlo.unary_result' (x := main_v26) (y := main_v27) _ _ _ _) i).trans ?_
  refine (congrFun (StableHlo.upto_last_write (ops := hostOps0 (F := Ideal)) (n := 31) (i := 30) (r := main_v26) [] rfl rfl (by decide) _) i).trans ?_
  refine (congrFun (StableHlo.nary_result' (y := main_v26) _ _ _ _ _) i).trans ?_
  rfl

theorem pre_23 (c : Dev nD) (s : Fin 16384) (j : Fin 256) :
    pre m c main_v23 (ix2 s j) = ent m c s ⟨1420 + j.val, by omega⟩ * Ideal.ofBits .f32 0x3E000000#32 := by
  unfold pre ent
  after_reads_simp
  pointwise

theorem pre_12 (c : Dev nD) (s : Fin 16384) (j : Fin 256) : pre m c main_v12 (ix2 s j) = ent m c s ⟨1676 + j.val, by omega⟩ := by
  unfold pre ent
  after_reads_simp
  pointwise

theorem pre_13 (c : Dev nD) (s : Fin 16384) (j : Fin 256) : pre m c main_v13 (ix2 s j) = ent m c s ⟨1932 + j.val, by omega⟩ := by
  unfold pre ent
  after_reads_simp
  pointwise

/-- The scaled queries' columns of the call's operand. -/
theorem q_entry (c : Dev nD) (s : Fin 16384) (j : Fin 256) :
    V m c main_v27 (ix2 s ⟨1408 + j.val, by omega⟩) = ent m c s ⟨1420 + j.val, by omega⟩ * Ideal.ofBits .f32 0x3E000000#32 := by
  refine (cat_eq m c _).trans ?_
  refine (concatenate_apply _ _ _ _ _).trans ?_
  refine (Cat.skip _ _ 256 (1152 + j.val) rfl (by show 1408 + j.val = _; omega) _).trans ?_
  refine (Cat.skip _ _ 64 (1088 + j.val) rfl (by show 1152 + j.val = _; omega) _).trans ?_
  refine (Cat.skip _ _ 64 (1024 + j.val) rfl (by show 1088 + j.val = _; omega) _).trans ?_
  refine (Cat.skip _ _ 64 (960 + j.val) rfl (by show 1024 + j.val = _; omega) _).trans ?_
  refine (Cat.skip _ _ 64 (896 + j.val) rfl (by show 960 + j.val = _; omega) _).trans ?_
  refine (Cat.skip _ _ 64 (832 + j.val) rfl (by show 896 + j.val = _; omega) _).trans ?_
  refine (Cat.skip _ _ 64 (768 + j.val) rfl (by show 832 + j.val = _; omega) _).trans ?_
  refine (Cat.skip _ _ 256 (512 + j.val) rfl (by show 768 + j.val = _; omega) _).trans ?_
  refine (Cat.skip _ _ 256 (256 + j.val) rfl (by show 512 + j.val = _; omega) _).trans ?_
  refine (Cat.skip _ _ 256 (j.val) rfl (by show 256 + j.val = _; omega) _).trans ?_
  refine (Cat.here _ _ (by show j.val < 256; omega) _ (ix2 s j) (fun b => by fin_cases b <;> rfl)).trans ?_
  exact pre_23 m c s j

/-- The keys' columns. -/
theorem k_entry (c : Dev nD) (s : Fin 16384) (j : Fin 256) :
    V m c main_v27 (ix2 s ⟨1664 + j.val, by omega⟩) = ent m c s ⟨1676 + j.val, by omega⟩ := by
  refine (cat_eq m c _).trans ?_
  refine (concatenate_apply _ _ _ _ _).trans ?_
  refine (Cat.skip _ _ 256 (1408 + j.val) rfl (by show 1664 + j.val = _; omega) _).trans ?_
  refine (Cat.skip _ _ 64 (1344 + j.val) rfl (by show 1408 + j.val = _; omega) _).trans ?_
  refine (Cat.skip _ _ 64 (1280 + j.val) rfl (by show 1344 + j.val = _; omega) _).trans ?_
  refine (Cat.skip _ _ 64 (1216 + j.val) rfl (by show 1280 + j.val = _; omega) _).trans ?_
  refine (Cat.skip _ _ 64 (1152 + j.val) rfl (by show 1216 + j.val = _; omega) _).trans ?_
  refine (Cat.skip _ _ 64 (1088 + j.val) rfl (by show 1152 + j.val = _; omega) _).trans ?_
  refine (Cat.skip _ _ 64 (1024 + j.val) rfl (by show 1088 + j.val = _; omega) _).trans ?_
  refine (Cat.skip _ _ 256 (768 + j.val) rfl (by show 1024 + j.val = _; omega) _).trans ?_
  refine (Cat.skip _ _ 256 (512 + j.val) rfl (by show 768 + j.val = _; omega) _).trans ?_
  refine (Cat.skip _ _ 256 (256 + j.val) rfl (by show 512 + j.val = _; omega) _).trans ?_
  refine (Cat.skip _ _ 256 (j.val) rfl (by show 256 + j.val = _; omega) _).trans ?_
  refine (Cat.here _ _ (by show j.val < 256; omega) _ (ix2 s j) (fun b => by fin_cases b <;> rfl)).trans ?_
  exact pre_12 m c s j

/-- The values' columns. -/
theorem v_entry (c : Dev nD) (s : Fin 16384) (j : Fin 256) :
    V m c main_v27 (ix2 s ⟨1920 + j.val, by omega⟩) = ent m c s ⟨1932 + j.val, by omega⟩ := by
  refine (cat_eq m c _).trans ?_
  refine (concatenate_apply _ _ _ _ _).trans ?_
  refine (Cat.skip _ _ 256 (1664 + j.val) rfl (by show 1920 + j.val = _; omega) _).trans ?_
  refine (Cat.skip _ _ 64 (1600 + j.val) rfl (by show 1664 + j.val = _; omega) _).trans ?_
  refine (Cat.skip _ _ 64 (1536 + j.val) rfl (by show 1600 + j.val = _; omega) _).trans ?_
  refine (Cat.skip _ _ 64 (1472 + j.val) rfl (by show 1536 + j.val = _; omega) _).trans ?_
  refine (Cat.skip _ _ 64 (1408 + j.val) rfl (by show 1472 + j.val = _; omega) _).trans ?_
  refine (Cat.skip _ _ 64 (1344 + j.val) rfl (by show 1408 + j.val = _; omega) _).trans ?_
  refine (Cat.skip _ _ 64 (1280 + j.val) rfl (by show 1344 + j.val = _; omega) _).trans ?_
  refine (Cat.skip _ _ 256 (1024 + j.val) rfl (by show 1280 + j.val = _; omega) _).trans ?_
  refine (Cat.skip _ _ 256 (768 + j.val) rfl (by show 1024 + j.val = _; omega) _).trans ?_
  refine (Cat.skip _ _ 256 (512 + j.val) rfl (by show 768 + j.val = _; omega) _).trans ?_
  refine (Cat.skip _ _ 256 (256 + j.val) rfl (by show 512 + j.val = _; omega) _).trans ?_
  refine (Cat.skip _ _ 256 (j.val) rfl (by show 256 + j.val = _; omega) _).trans ?_
  refine (Cat.here _ _ (by show j.val < 256; omega) _ (ix2 s j) (fun b => by fin_cases b <;> rfl)).trans ?_
  exact pre_13 m c s j

theorem index0 : ∀ t : Fin grid0.N, win0_0.index t 0 = (grid0.coords t 1).val ∧ win0_0.index t 1 = 11 + (grid0.coords t 0).val := by decide +kernel
theorem index1 : ∀ t : Fin grid0.N, win0_1.index t 0 = 0 ∧ win0_1.index t 1 = 13 + (grid0.coords t 0).val := by decide +kernel
theorem index2 : ∀ t : Fin grid0.N, win0_2.index t 0 = 0 ∧ win0_2.index t 1 = 15 + (grid0.coords t 0).val := by decide +kernel
theorem index3 : ∀ t : Fin grid0.N, win0_3.index t 0 = (grid0.coords t 0).val ∧ win0_3.index t 1 = 0 ∧ win0_3.index t 2 = 0 := by decide +kernel
theorem index4 : ∀ t : Fin grid0.N, win0_4.index t 0 = (grid0.coords t 1).val ∧ win0_4.index t 1 = (grid0.coords t 0).val := by decide +kernel

/-- The pair of heads of a grid point. -/
def pair (t : Fin (cfg0 (F := Ideal)).N) : Fin 2 := grid0.coords t 0

theorem blk0_at (c : Dev nD) (t : Fin (cfg0 (F := Ideal)).N) (a : Fin 512) (l : Fin 128) :
    blk m c 0 t (ix2 a l) = V m c main_v27 (ix2 (row (grid0.coords t) a) ⟨1408 + (at128 (pair t) l).val, by omega⟩) := by
  have i0 := index0 t
  blk_point [blk]
  · rw [i0.1]; show (grid0.coords t 1).val * 512 + a.val = 512 * (grid0.coords t 1).val + a.val; omega
  · rw [i0.2]; show (11 + (pair t).val) * 128 + l.val = 1408 + (128 * (pair t).val + l.val); omega

theorem blk1_at (c : Dev nD) (t : Fin (cfg0 (F := Ideal)).N) (s : Fin 16384) (l : Fin 128) :
    blk m c 1 t (ix2 s l) = V m c main_v27 (ix2 s ⟨1664 + (at128 (pair t) l).val, by omega⟩) := by
  have i0 := index1 t
  blk_point [blk]
  all_goals first | (rw [i0.2]; show (13 + (pair t).val) * 128 + l.val = 1664 + (128 * (pair t).val + l.val); omega) | (rw [i0.1]; omega)

theorem blk2_at (c : Dev nD) (t : Fin (cfg0 (F := Ideal)).N) (s : Fin 16384) (l : Fin 128) :
    blk m c 2 t (ix2 s l) = V m c main_v27 (ix2 s ⟨1920 + (at128 (pair t) l).val, by omega⟩) := by
  have i0 := index2 t
  blk_point [blk]
  all_goals first | (rw [i0.2]; show (15 + (pair t).val) * 128 + l.val = 1920 + (128 * (pair t).val + l.val); omega) | (rw [i0.1]; omega)

theorem blk3_at (c : Dev nD) (t : Fin (cfg0 (F := Ideal)).N) (p : Fin 2) (s : Fin 16384) :
    blk m c 3 t (ix3 0 p s) = V m c main_v28 (ix3 (pair t) p s) := by
  have i0 := index3 t
  blk_point [blk]
  all_goals first | (rw [i0.1]; exact Nat.add_zero _) | (rw [i0.2.1]; omega) | (rw [i0.2.2]; omega)

end Cert.Proof.FI

end
-- ==== Proof.FxRef.lean ====
/-
  Forgetting attention, the reference: its result term cut at the scores, the softmax and the output of a head, each read
  at an index.
-/
module

public import proofs.«01_k».proof.Proof.Gen.Reference3Ideal.Run
public import proofs.«01_k».proof.Proof.Fx3
public import proofs.«01_k».proof.Proof.SbRef

@[expose] public section

set_option maxRecDepth 16384

noncomputable section

namespace Cert.Proof.FRef

open Cert.Reference3Ideal Cert.Reference3Ideal.Gen Idealize.ShloMosaic Idealize.ShloMosaic.TcCoe Idealize.ShloMosaic.StableHlo
open Cert.Proof.Fx
open Cert.Proof.Ref (lit_8th lit_64 sel1 sel0)

abbrev Sc := FVec Ideal S4x16384x16384 .f32
abbrev Hd := FVec Ideal S4x16384x64 .f32
abbrev Rw := FVec Ideal S4x16384 .f32
abbrev Ot := FVec Ideal S16384x4x64 .f32

def qh (y : FVec Ideal S16384x2960 .f32) : Hd :=
  transpose S4x16384x64 [1, 0, 2] (shapeCast _ (extractStridedSlice S16384x256 ![0, 1420] y slices_S16384x2960_S16384x256_0_1420) shapeCasts_S16384x256_S16384x4x64) transposes_S16384x4x64_S4x16384x64_1_0_2
def kh (y : FVec Ideal S16384x2960 .f32) : Hd :=
  transpose S4x16384x64 [1, 0, 2] (shapeCast _ (extractStridedSlice S16384x256 ![0, 1676] y slices_S16384x2960_S16384x256_0_1676) shapeCasts_S16384x256_S16384x4x64) transposes_S16384x4x64_S4x16384x64_1_0_2
def vh (y : FVec Ideal S16384x2960 .f32) : Hd :=
  transpose S4x16384x64 [1, 0, 2] (shapeCast _ (extractStridedSlice S16384x256 ![0, 1932] y slices_S16384x2960_S16384x256_0_1932) shapeCasts_S16384x256_S16384x4x64) transposes_S16384x4x64_S4x16384x64_1_0_2

/-- The scaled dot products. -/
def zz (q k : Hd) : Sc :=
  mulf (Host.dotGeneral dot_S4x16384x64_S4x16384x64_S4x16384x16384_2_2_1_1_0_0 none q k)
    (broadcastInDim S4x16384x16384 ![] bcast_S_S4x16384x16384 (constant S_ .f32 0x3E000000#32))

/-- The mask of the keys up to the row. -/
def mm : Vec Ideal S4x16384x16384 .i1 :=
  broadcastInDim S4x16384x16384 ![1, 2] bcast_S16384x16384_S4x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

/-- The scores: the dot products and the decay between key and row; minus infinity after the row. -/
def ss (z : Sc) (c : Rw) : Sc :=
  select mm (addf z (subf (broadcastInDim S4x16384x16384 ![0, 1, 2] bcast_S4x16384x1_S4x16384x16384_0_1_2 (broadcastInDim S4x16384x1 ![0, 1] bcast_S4x16384_S4x16384x1_0_1 c))
    (broadcastInDim S4x16384x16384 ![0, 1, 2] bcast_S4x1x16384_S4x16384x16384_0_1_2 (broadcastInDim S4x1x16384 ![0, 2] bcast_S4x16384_S4x1x16384_0_2 c))))
    (broadcastInDim S4x16384x16384 ![] bcast_S_S4x16384x16384 (id (constant S_ .f32 0xFF800000#32)))

/-- A row's largest score. -/
def mx (s : Sc) : Rw :=
  maximumf (broadcastInDim S4x16384 ![] bcast_S_S4x16384 (constant S_ .f32 0xFF800000#32))
    (Host.reduce FloatOps.maximumf s (constant S_ .f32 0xFF800000#32) reducesTo_S4x16384x16384_S4x16384_d2 h_S_)

/-- A row's value at every key. -/
def ev (x : Rw) : Sc := broadcastInDim S4x16384x16384 ![0, 1, 2] bcast_S4x16384x1_S4x16384x16384_0_1_2 (broadcastInDim S4x16384x1 ![0, 1] bcast_S4x16384_S4x16384x1_0_1 x)

/-- The exponentials over their sum. -/
def sm (e : Sc) : Sc :=
  Host.divf e (ev (Host.reduceAdd e (constant S_ .f32 0x00000000#32) reducesTo_S4x16384x16384_S4x16384_d2 h_S_))

/-- The exponentials. -/
def ee (s : Sc) : Sc := Host.exp (subf s (ev (mx s)))

def oo (w : Sc) (v : Hd) : Ot :=
  transpose S16384x4x64 [1, 0, 2] (Host.dotGeneral dot_S4x16384x16384_S4x16384x64_S4x16384x64_2_1_1_2_0_0 none w v) transposes_S4x16384x64_S16384x4x64_1_0_2

/-- A head's output under its root mean square. -/
def fin (o : Ot) : FVec Ideal S16384x256 .f32 :=
  shapeCast _ (mulf o (broadcastInDim S16384x4x64 ![0, 1, 2] bcast_S16384x4x1_S16384x4x64_0_1_2 (Host.rsqrt (addf (Host.divf (broadcastInDim S16384x4x1 ![0, 1] bcast_S16384x4_S16384x4x1_0_1 (Host.reduceAdd (mulf o o) (constant S_ .f32 0x00000000#32) reducesTo_S16384x4x64_S16384x4_d2 h_S_)) (broadcastInDim S16384x4x1 ![] bcast_S_S16384x4x1 (constant S_ .f32 0x42800000#32))) (broadcastInDim S16384x4x1 ![] bcast_S_S16384x4x1 (constant S_ .f32 0x358637BD#32)))))) shapeCasts_S16384x4x64_S16384x256

theorem res_eq (m : (ℓ : Loc nD τ sig) → Buf (Elt Ideal) ℓ) (c : Dev nD) (y : FVec Ideal S16384x2960 .f32) (x : Rw)
    (hy : m ((c.tc : Thread nD τ).loc main_arg0) = y) (hx : m ((c.tc : Thread nD τ).loc main_arg1) = x) :
    Cert.Reference3Ideal.Value.res_main_v63 (F := Ideal) m c = fin (oo (sm (ee (ss (zz (qh y) (kh y)) x))) (vh y)) := by
  subst hy
  subst hx
  unfold Cert.Reference3Ideal.Value.res_main_v63
  rfl

theorem qh_at (y : FVec Ideal S16384x2960 .f32) (h : Fin 4) (s : Fin 16384) (d : Fin 64) :
    qh y (ix3 h s d) = y (ix2 s ⟨1420 + (64 * h.val + d.val), by omega⟩) := by
  unfold qh
  pointwise
  exact congrArg (fun j => y (ix2 s j)) (Fin.ext (by show _ + (h.val * 64 + d.val) = _ + (64 * h.val + d.val); omega))
theorem kh_at (y : FVec Ideal S16384x2960 .f32) (h : Fin 4) (s : Fin 16384) (d : Fin 64) :
    kh y (ix3 h s d) = y (ix2 s ⟨1676 + (64 * h.val + d.val), by omega⟩) := by
  unfold kh
  pointwise
  exact congrArg (fun j => y (ix2 s j)) (Fin.ext (by show _ + (h.val * 64 + d.val) = _ + (64 * h.val + d.val); omega))
theorem vh_at (y : FVec Ideal S16384x2960 .f32) (h : Fin 4) (s : Fin 16384) (d : Fin 64) :
    vh y (ix3 h s d) = y (ix2 s ⟨1932 + (64 * h.val + d.val), by omega⟩) := by
  unfold vh
  pointwise
  exact congrArg (fun j => y (ix2 s j)) (Fin.ext (by show _ + (h.val * 64 + d.val) = _ + (64 * h.val + d.val); omega))

theorem zz_at (q k : Hd) (h : Fin 4) (r s : Fin 16384) :
    zz q k (ix3 h r s) = (∑ d, q (ix3 h r d) * k (ix3 h s d)) * Ideal.ofBits .f32 0x3E000000#32 := by
  unfold zz
  pointwise

theorem mm_at (h : Fin 4) (r s : Fin 16384) : mm (ix3 h r s) = if s.val ≤ r.val then 1#1 else 0#1 := by
  unfold mm
  pointwise
  rw [WordCmp.cmpi_sle_ofNat (by omega) (by omega)]
  by_cases h : s.val ≤ r.val <;> simp [h]

theorem oo_at (w : Sc) (v : Hd) (r : Fin 16384) (h : Fin 4) (d : Fin 64) :
    oo w v (ix3 r h d) = ∑ s, w (ix3 h r s) * v (ix3 h s d) := by
  unfold oo
  pointwise

theorem fin_at (o : Ot) (r : Fin 16384) (h : Fin 4) (d : Fin 64) :
    fin o (ix2 r ⟨64 * h.val + d.val, by omega⟩) = o (ix3 r h d) * Ideal.rsqrt ((∑ x, o (ix3 r h x) * o (ix3 r h x)) * ((1 / 64 : ℝ) : EReal) + Ideal.ofBits .f32 0x358637BD#32) := by
  unfold fin
  pointwise
  rw [lit_64, Ideal.div_coe (by norm_num)]

theorem ss_at (z : Sc) (c : Rw) (h : Fin 4) (r s : Fin 16384) :
    ss z c (ix3 h r s) = if s.val ≤ r.val then z (ix3 h r s) + (c (ix2 h r) - c (ix2 h s)) else ⊥ := by
  have em := mm_at h r s
  unfold ss
  generalize mm = M at em ⊢
  pointwise
  rw [em]
  by_cases hl : s.val ≤ r.val
  · rw [if_pos hl, if_pos hl]; exact sel1 _ _
  · rw [if_neg hl, if_neg hl]; exact (sel0 _ _).trans FI.lit_none

/-- A maximum along the last of three axes, at any extents. -/
theorem row_max {n m k : ℕ} {u : Shape} (x : (⟨3, ![n, m, k]⟩ : Shape).Idx → EReal) (init : u.Idx → EReal)
    (h' : (⟨3, ![n, m, k]⟩ : Shape).ReducesTo [2] ⟨2, ![n, m]⟩) (h : (⟨3, ![n, m, k]⟩ : Shape).Reduces [2] ⟨2, ![n, m]⟩) (hu : 0 < u.numel)
    (a : Fin n) (b : Fin m) :
    Host.reduce max x init h' hu (ix2 a b) = Finset.fold max (init (Shape.Idx.first hu)) (fun c : Fin k => x (ix3 a b c)) Finset.univ := by
  rw [Host.reduce_eq_fold_single max x init h' h hu]
  refine congrArg (fun f => Finset.fold max _ f Finset.univ) (funext fun c => congrArg x (funext fun d => Fin.ext ?_))
  fin_cases d <;> rfl

theorem mx_at (s : Sc) (h : Fin 4) (r : Fin 16384) : mx s (ix2 h r) = max ⊥ (Finset.fold max ⊥ (fun b => s (ix3 h r b)) Finset.univ) := by
  have e := row_max s (constant (F := Ideal) S_ .f32 0xFF800000#32) reducesTo_S4x16384x16384_S4x16384_d2 (by decide) h_S_ h r
  have hl : constant (F := Ideal) S_ .f32 0xFF800000#32 (Shape.Idx.first h_S_) = (⊥ : EReal) := FI.lit_none
  rw [hl] at e
  unfold mx
  rw [maximumf_apply]
  exact congrArg₂ max FI.lit_none e

theorem ev_at (x : Rw) (h : Fin 4) (r s : Fin 16384) : ev x (ix3 h r s) = x (ix2 h r) := by
  unfold ev
  pointwise

theorem ee_at (s : Sc) (h : Fin 4) (r b : Fin 16384) : ee s (ix3 h r b) = Ideal.exp (s (ix3 h r b) - mx s (ix2 h r)) := by
  have e := ev_at (mx s) h r b
  unfold ee
  generalize ev (mx s) = u at e ⊢
  rw [← e]
  pointwise

theorem sm_at (e : Sc) (h : Fin 4) (r b : Fin 16384) : sm e (ix3 h r b) = Ideal.div (e (ix3 h r b)) (∑ b', e (ix3 h r b')) := by
  unfold sm ev
  pointwise

open Cert.Proof.KI (nrm col score score_eq)
open Cert.Proof.FI (head dscore)

/-- The decay of the row comes last. -/
theorem decay_last (S x : EReal) (κ : ℝ) (hx : ∃ ξ : ℝ, x = ξ) : S + ((κ : EReal) - x) = S - x + κ := by
  obtain ⟨ξ, rfl⟩ := hx
  induction S using EReal.rec with
  | bot => rw [EReal.bot_add, EReal.bot_sub, EReal.bot_add]
  | coe y =>
    rw [← EReal.coe_sub, ← EReal.coe_sub, ← EReal.coe_add, ← EReal.coe_add]
    refine congrArg _ ?_
    ring
  | top => rw [← EReal.coe_sub, EReal.top_add_coe, EReal.top_sub_coe, EReal.top_add_coe]

/-- The reference's result at a row and a lane of a head, of its queries, keys, values and decays. -/
theorem ref_at (y : FVec Ideal S16384x2960 .f32) (x : Rw) (hx : ∀ h s, ∃ ξ : ℝ, x (ix2 h s) = ξ) (Q K V : Fin 16384 → Fin 256 → EReal)
    (hq : ∀ (s : Fin 16384) (j : Fin 256), y (ix2 s ⟨1420 + j.val, by omega⟩) = Q s j)
    (hk : ∀ (s : Fin 16384) (j : Fin 256), y (ix2 s ⟨1676 + j.val, by omega⟩) = K s j)
    (hv : ∀ (s : Fin 16384) (j : Fin 256), y (ix2 s ⟨1932 + j.val, by omega⟩) = V s j)
    (g p : Fin 2) (r : Fin 16384) (d : Fin 64) :
    fin (oo (sm (ee (ss (zz (qh y) (kh y)) x))) (vh y)) (ix2 r (col g p d))
      = fox (sc (dscore Q K (fun h s => x (ix2 h s)) g p) r) (fun s x => V s (col g p x)) d := by
  have hc : ∀ d : Fin 64, (col g p d).val = 64 * (head g p).val + d.val := fun d => by
    show 128 * g.val + (64 * p.val + d.val) = 64 * (2 * g.val + p.val) + d.val; omega
  have eq : ∀ s d, qh y (ix3 (head g p) s d) = Q s (col g p d) := fun s d => by
    rw [qh_at, ← hq]; exact congrArg (fun j => y (ix2 s j)) (Fin.ext (by show _ + _ = _ + (col g p d).val; rw [hc]))
  have ek : ∀ s d, kh y (ix3 (head g p) s d) = K s (col g p d) := fun s d => by
    rw [kh_at, ← hk]; exact congrArg (fun j => y (ix2 s j)) (Fin.ext (by show _ + _ = _ + (col g p d).val; rw [hc]))
  have evv : ∀ s d, vh y (ix3 (head g p) s d) = V s (col g p d) := fun s d => by
    rw [vh_at, ← hv]; exact congrArg (fun j => y (ix2 s j)) (Fin.ext (by show _ + _ = _ + (col g p d).val; rw [hc]))
  generalize qh y = q at eq ⊢
  generalize kh y = k at ek ⊢
  generalize vh y = v at evv ⊢
  have ez : ∀ r s, zz q k (ix3 (head g p) r s) = score Q K g p r s := fun r s => by
    rw [zz_at, lit_8th]
    simp only [eq, ek]
    exact score_eq Q K g p r s
  obtain ⟨κ, hκ⟩ := hx (head g p) r
  have es : ∀ s, ss (zz q k) x (ix3 (head g p) r s) = sc (dscore Q K (fun h s => x (ix2 h s)) g p) r s + κ := fun s => by
    rw [ss_at, ez]
    unfold sc dscore
    by_cases hl : s.val ≤ r.val
    · rw [if_pos hl, if_pos hl, hκ]; exact decay_last _ _ κ (hx _ _)
    · rw [if_neg hl, if_neg hl, EReal.bot_add]
  generalize ss (zz q k) x = z at es ⊢
  have eM := mx_at z (head g p) r
  simp only [es] at eM
  have ex := ee_at z (head g p) r
  simp only [es] at ex
  generalize mx z (ix2 (head g p) r) = M at eM ex
  generalize ee z = e at ex ⊢
  have ew := sm_at e (head g p) r
  simp only [ex] at ew
  generalize sm e = w at ew ⊢
  have eo : ∀ x, oo w v (ix3 r (head g p) x) = _ := fun x => oo_at w v r (head g p) x
  simp only [ew, evv] at eo
  generalize oo w v = o at eo ⊢
  have e := fin_at o r (head g p) d
  simp only [eo] at e
  refine Eq.trans (congrArg (fun j => fin o (ix2 r j)) (Fin.ext (hc d))) (e.trans ?_)
  exact fox_of_soft κ _ (fun s x => V s (col g p x)) M eM d

end Cert.Proof.FRef

end
-- ==== Proof.FxFin.lean ====
/-
  Forgetting attention, the value claim: where the decays are finite, the kernel's result array is the reference's.
-/
module

public import proofs.«01_k».proof.Defs
public import proofs.«01_k».proof.Proof.Gen.Pre_finite_decays
public import proofs.«01_k».proof.Proof.FxEnt
public import proofs.«01_k».proof.Proof.FxRef
public import Idealize.ShloMosaic.Lib.Claim
public import Idealize.ShloMosaic.Lib.ReduceAll

@[expose] public section

set_option maxRecDepth 16384

noncomputable section

namespace Cert.Proof.FI

open Cert.Kernel3Ideal Cert.Kernel3Ideal.Gen
open Idealize.ShloMosaic Idealize.ShloMosaic.TcCoe
open Cert.Proof.Fx
open Cert.Proof.KI (lane col at128)

variable (m : (ℓ : Loc nD τ sig) → Buf (Elt Ideal) ℓ)

/-- Lane by lane, what a grid point stores. -/
theorem stored_at (c : Dev nD) (Y : Fin 16384 → Fin 2960 → EReal) (hY : ∀ s j, ent m c s j = Y s j) (C : Fin 4 → Fin 16384 → EReal) (hC : ∀ h s, dec m c h s = C h s)
    (t : Fin (cfg0 (F := Ideal)).N) (a : Fin 512) (p : Fin 2) (d : Fin 64) :
    stored m c t (ix2 a (lane p d))
      = fox (sc (dscore (fun s j => Y s ⟨1420 + j.val, by omega⟩) (fun s j => Y s ⟨1676 + j.val, by omega⟩) C (pair t) p) (row (grid0.coords t) a))
          (fun s x => Y s ⟨1932 + (col (pair t) p x).val, by omega⟩) d := by
  refine foxOut_at (grid0.coords t) (pair t) (fun s j => Y s ⟨1420 + j.val, by omega⟩) (fun s j => Y s ⟨1676 + j.val, by omega⟩)
    (fun s j => Y s ⟨1932 + j.val, by omega⟩) C _ _ _ _ _ _ (fun a l => ?_) (fun s l => ?_) (fun s l => ?_) (fun p s => ?_) a p d
  · rw [blk0_at, q_entry, hY, Ref.lit_8th]
  · rw [blk1_at, k_entry, hY]
  · rw [blk2_at, v_entry, hY]
  · rw [blk3_at, d_entry, hC]

/-- The kernel's result array is the reference's term of the same arguments. -/
theorem final (c : Dev nD) (y : FVec Ideal S16384x2960 .f32) (x : FVec Ideal S4x16384 .f32) (hy : m ((c : Thread nD τ).loc main_arg0) = y)
    (hx : m ((c : Thread nD τ).loc main_arg1) = x) (hf : ∀ h s, ∃ ξ : ℝ, x (ix2 h s) = ξ) :
    (dats m 0 c).arrAt 4 (cfg0 (F := Ideal)).N
      = FRef.fin (FRef.oo (FRef.sm (FRef.ee (FRef.ss (FRef.zz (FRef.qh y) (FRef.kh y)) x))) (FRef.vh y)) := by
  have hE : ∀ s j, ent m c s j = y (ix2 s j) := fun s j => by rw [← hy]; rfl
  have hD : ∀ h s, dec m c h s = x (ix2 h s) := fun h s => by rw [← hx]; rfl
  have hr := FRef.ref_at y x hf (fun s j => y (ix2 s ⟨1420 + j.val, by omega⟩)) (fun s j => y (ix2 s ⟨1676 + j.val, by omega⟩))
    (fun s j => y (ix2 s ⟨1932 + j.val, by omega⟩)) (fun s j => rfl) (fun s j => rfl) (fun s j => rfl)
  generalize FRef.fin _ = R at hr ⊢
  refine (dats m 0 c).arrAt_eq_of_covers 4 _ (by decide +kernel) fun t _ z => ?_
  blk_simp
  rw [after_4]
  frame_out
  have i4 := index4 t
  obtain ⟨a, l, rfl⟩ : ∃ (a : Fin 512) (l : Fin 128), z = ix2 a l := ⟨z 0, z 1, eq_ix2 (show S512x128.Idx from z)⟩
  obtain ⟨p, d, rfl⟩ : ∃ (p : Fin 2) (d : Fin 64), l = lane p d :=
    ⟨⟨l.val / 64, by omega⟩, ⟨l.val % 64, by omega⟩, Fin.ext (by show l.val = 64 * (l.val / 64) + l.val % 64; omega)⟩
  refine (stored_at m c (fun s j => y (ix2 s j)) hE (fun h s => x (ix2 h s)) hD t a p d).trans ((hr (pair t) p (row (grid0.coords t) a) d).symm.trans ?_)
  refine Eq.symm ?_
  blk_ext [i4]
  · show (grid0.coords t 1).val * 512 + a.val = 512 * (grid0.coords t 1).val + a.val; omega
  · show (pair t).val * 128 + (lane p d).val = 128 * (pair t).val + (lane p d).val; omega

theorem lit_inf : Ideal.ofBits .f32 0x7F800000#32 = (⊤ : EReal) := by
  simp [Ideal.ofBits, Ideal.ieee]

/-- What the precondition says of a decay: it is a real number. -/
theorem decays_real (x : FVec Ideal Cert.Pre_finite_decays.S4x16384 .f32) (y : FVec Ideal Cert.Pre_finite_decays.S16384x2960 .f32)
    (h : @Cert.Pre_finite_decays.fn Cert.Pre_finite_decays.Gen.facts Ideal _ y x = fun _ => 1#1) (k : Fin 4) (s : Fin 16384) :
    ∃ ξ : ℝ, x (ix2 k s) = ξ := by
  haveI : Subsingleton Cert.Pre_finite_decays.S_.Idx := ⟨fun a b => funext fun d => d.elim0⟩
  have e := Host.reduce_andi_all _ _ _ _ _ (congrFun h (Shape.Idx.first Cert.Pre_finite_decays.Gen.facts.h_S_)) (ix2 k s)
  have e2 : BitVec.ofBool (decide (max (x (ix2 k s)) (-(x (ix2 k s))) < Ideal.ofBits .f32 0x7F800000#32)) = 1#1 := e
  rw [lit_inf] at e2
  have e3 : max (x (ix2 k s)) (-(x (ix2 k s))) < ⊤ := by
    by_contra hn
    rw [decide_eq_false hn] at e2
    exact absurd e2 (by decide)
  have h1 : x (ix2 k s) ≠ ⊤ := ne_of_lt (lt_of_le_of_lt (le_max_left _ _) e3)
  have h2 : x (ix2 k s) ≠ ⊥ := fun hb => by
    rw [hb, EReal.neg_bot] at e3
    exact absurd (lt_of_le_of_lt (le_max_right _ _) e3) (lt_irrefl _)
  exact ⟨_, (EReal.coe_toReal h1 h2).symm⟩

end Cert.Proof.FI

namespace Cert.Proof

open Idealize.ShloMosaic Idealize.SL.Sem

/-- The idealized forgetting attention computes the reference's result, of every argument with finite decays. -/
theorem algebraic_k3 : Cert.algebraic_Kernel3Ideal_Reference3Ideal_pre_finite_decays (hKernel3Ideal := Cert.Kernel3Ideal.Gen.facts)
    (hReference3Ideal := Cert.Reference3Ideal.Gen.facts) (hPre_finite_decays := Cert.Pre_finite_decays.Gen.facts) := by
  intro m g m' g' hpre agree
  refine ⟨fun c => (FI.dats m 0 c).arrAt 4 (Cert.Kernel3Ideal.cfg0 (F := Ideal)).N, FI.run_result m g,
    (θ_run Cert.Reference3Ideal.defs _ _).mono (fun r h c => ⟨(h c).1.trans ?_, (h c).2⟩) (Cert.Reference3Ideal.Value.run (F := Ideal) m' g')⟩
  exact (FRef.res_eq m' c _ _ (agree c).1 (agree c).2).trans (FI.final m c _ _ rfl rfl (FI.decays_real _ _ (hpre c))).symm

end Cert.Proof

end
-- ==== Proof.lean ====
/-
  The certificate: the stick-breaking attention (`Kernel`), the layer's closing call (`Kernel2`), the forgetting
  attention (`Kernel3`), the in-projection (`Kernel4`) and the cumulative sum of the forget gates' logarithms (`Kernel5`).
-/
module

public import proofs.«01_k».proof.Defs
public import proofs.«01_k».proof.Proof.Claims1
public import proofs.«01_k».proof.Proof.Claims2
public import proofs.«01_k».proof.Proof.Claims3
public import proofs.«01_k».proof.Proof.Claims4
public import proofs.«01_k».proof.Proof.Claims5
public import proofs.«01_k».proof.Proof.SbFin
public import proofs.«01_k».proof.Proof.FxFin

@[expose] public section

noncomputable section

namespace Cert.Proof

/-- Everything the certificate claims. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts, Cert.Pre_finite_decays.Gen.facts,
   frame_k, frame_ki, frame_ri, frame_k2, frame_ki2, frame_ri2,
   frame_k3, frame_ki3, frame_ki3_finite, frame_ri3, frame_ri3_finite, frame_k4, frame_ki4, frame_ri4,
   frame_k5, frame_ki5, frame_ri5,
   preserves_k, algebraic_k, preserves_k2, algebraic_k2, preserves_k3, algebraic_k3,
   preserves_k4, algebraic_k4, preserves_k5, algebraic_k5⟩

end Cert.Proof

end
